-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_claimed_pre_finite [hKernelIdeal : Cert.KernelIdeal.Facts] [hReferenceIdeal : Cert.ReferenceIdeal.Facts] [hPre_finite : Cert.Pre_finite.Facts] [hOn_claimed : Cert.On_claimed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 2048]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 i = 1#1 → r.2.mem ((c.tc : Thread Cert.KernelIdeal.nD Cert.KernelIdeal.τ).loc Cert.KernelIdeal.main_v0_0) i = v0 c i)
          ∧ (∀ i : (⟨2, ![8192, 1024]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 i = 1#1 → r.2.mem ((c.tc : Thread Cert.KernelIdeal.nD Cert.KernelIdeal.τ).loc Cert.KernelIdeal.main_v0_1) i = v1 c i)
          ∧ (∀ i : (⟨2, ![8192, 1024]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 i = 1#1 → r.2.mem ((c.tc : Thread Cert.KernelIdeal.nD Cert.KernelIdeal.τ).loc Cert.KernelIdeal.main_v0_2) i = v2 c i)
          ∧ (∀ i : (⟨2, ![8192, 1024]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 i = 1#1 → r.2.mem ((c.tc : Thread Cert.KernelIdeal.nD Cert.KernelIdeal.τ).loc Cert.KernelIdeal.main_v0_3) i = v3 c i)
          ∧ (∀ i : (⟨2, ![2048, 6144]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 i = 1#1 → r.2.mem ((c.tc : Thread Cert.KernelIdeal.nD Cert.KernelIdeal.τ).loc Cert.KernelIdeal.main_v0_4) i = v4 c i)
          ∧ (∀ i : (⟨3, ![3, 1024, 2048]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 i = 1#1 → r.2.mem ((c.tc : Thread Cert.KernelIdeal.nD Cert.KernelIdeal.τ).loc Cert.KernelIdeal.main_v0_5) i = v5 c i)
          ∧ (∀ i : (⟨2, ![2048, 2048]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2 i = 1#1 → r.2.mem ((c.tc : Thread Cert.KernelIdeal.nD Cert.KernelIdeal.τ).loc Cert.KernelIdeal.main_v0_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 2048]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 i = 1#1 → r.2.mem ((c.tc : Thread Cert.ReferenceIdeal.nD Cert.ReferenceIdeal.τ).loc Cert.ReferenceIdeal.main_v14) i = v0 c i)
          ∧ (∀ i : (⟨2, ![8192, 1024]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 i = 1#1 → r.2.mem ((c.tc : Thread Cert.ReferenceIdeal.nD Cert.ReferenceIdeal.τ).loc Cert.ReferenceIdeal.main_v485) i = v1 c i)
          ∧ (∀ i : (⟨2, ![8192, 1024]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 i = 1#1 → r.2.mem ((c.tc : Thread Cert.ReferenceIdeal.nD Cert.ReferenceIdeal.τ).loc Cert.ReferenceIdeal.main_v487) i = v2 c i)
          ∧ (∀ i : (⟨2, ![8192, 1024]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 i = 1#1 → r.2.mem ((c.tc : Thread Cert.ReferenceIdeal.nD Cert.ReferenceIdeal.τ).loc Cert.ReferenceIdeal.main_v489) i = v3 c i)
          ∧ (∀ i : (⟨2, ![2048, 6144]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 i = 1#1 → r.2.mem ((c.tc : Thread Cert.ReferenceIdeal.nD Cert.ReferenceIdeal.τ).loc Cert.ReferenceIdeal.main_v478) i = v4 c i)
          ∧ (∀ i : (⟨3, ![3, 1024, 2048]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 i = 1#1 → r.2.mem ((c.tc : Thread Cert.ReferenceIdeal.nD Cert.ReferenceIdeal.τ).loc Cert.ReferenceIdeal.main_v483) i = v5 c i)
          ∧ (∀ i : (⟨2, ![2048, 2048]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2 i = 1#1 → r.2.mem ((c.tc : Thread Cert.ReferenceIdeal.nD Cert.ReferenceIdeal.τ).loc Cert.ReferenceIdeal.main_v490) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hOn_claimed : Cert.On_claimed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_on_claimed_pre_finite (hKernelIdeal := hKernelIdeal) (hReferenceIdeal := hReferenceIdeal) (hPre_finite := hPre_finite) (hOn_claimed := hOn_claimed)
    ∧ preserves_Kernel2_Kernel2Ideal
    ∧ algebraic_Kernel2Ideal_Reference2Ideal (hKernel2Ideal := hKernel2Ideal) (hReference2Ideal := hReference2Ideal)
-- ==== On_claimed.lean ====
abbrev S8192x2048 : Shape := ⟨2, ![8192, 2048]⟩
abbrev S1x2048 : Shape := ⟨2, ![1, 2048]⟩
abbrev S256x2048 : Shape := ⟨2, ![256, 2048]⟩
abbrev S2048x6400 : Shape := ⟨2, ![2048, 6400]⟩
abbrev S4x1024 : Shape := ⟨2, ![4, 1024]⟩
abbrev S1x1024 : Shape := ⟨2, ![1, 1024]⟩
abbrev S8x128x256 : Shape := ⟨3, ![8, 128, 256]⟩
abbrev S16 : Shape := ⟨1, ![16]⟩
abbrev S16x128x256 : Shape := ⟨3, ![16, 128, 256]⟩
abbrev S4x1024x256 : Shape := ⟨3, ![4, 1024, 256]⟩
abbrev S4x256x1024 : Shape := ⟨3, ![4, 256, 1024]⟩
abbrev S2048x12544 : Shape := ⟨2, ![2048, 12544]⟩
abbrev S1024x2048 : Shape := ⟨2, ![1024, 2048]⟩
abbrev S2048x2048 : Shape := ⟨2, ![2048, 2048]⟩
abbrev S_ : Shape := ⟨0, ![]⟩
abbrev S8192x1024 : Shape := ⟨2, ![8192, 1024]⟩
abbrev S2048x6144 : Shape := ⟨2, ![2048, 6144]⟩
abbrev S3x1024x2048 : Shape := ⟨3, ![3, 1024, 2048]⟩

class Facts : Prop where
  bcast_S_S8192x2048 : S_.BroadcastsInDim S8192x2048 (![] : Fin 0 → Fin S8192x2048.rank)
  bcast_S_S8192x1024 : S_.BroadcastsInDim S8192x1024 (![] : Fin 0 → Fin S8192x1024.rank)
  bcast_S_S2048x6144 : S_.BroadcastsInDim S2048x6144 (![] : Fin 0 → Fin S2048x6144.rank)
  bcast_S_S3x1024x2048 : S_.BroadcastsInDim S3x1024x2048 (![] : Fin 0 → Fin S3x1024x2048.rank)
  bcast_S_S2048x2048 : S_.BroadcastsInDim S2048x2048 (![] : Fin 0 → Fin S2048x2048.rank)

variable [Facts]

def fn {F : FTy → Type} [FloatOps F] (main_arg0 : FVec F S8192x2048 .f32) (main_arg1 : FVec F S1x2048 .f32) (main_arg2 : FVec F S256x2048 .bf16) (main_arg3 : FVec F S2048x6400 .bf16) (main_arg4 : FVec F S4x1024 .f32) (main_arg5 : FVec F S1x1024 .f32) (main_arg6 : FVec F S8x128x256 .bf16) (main_arg7 : FVec F S1x1024 .f32) (main_arg8 : FVec F S1x1024 .f32) (main_arg9 : FVec F S1x1024 .f32) (main_arg10 : FVec F S16 .f32) (main_arg11 : FVec F S16x128x256 .f32) (main_arg12 : FVec F S4x1024x256 .bf16) (main_arg13 : FVec F S4x256x1024 .bf16) (main_arg14 : FVec F S2048x12544 .f32) (main_arg15 : FVec F S1024x2048 .f32) (main_arg16 : FVec F S1024x2048 .f32) (main_arg17 : FVec F S1024x2048 .f32) (main_arg18 : FVec F S2048x2048 .f32) : IVec S8192x2048 1 × IVec S8192x1024 1 × IVec S8192x1024 1 × IVec S8192x1024 1 × IVec S2048x6144 1 × IVec S3x1024x2048 1 × IVec S2048x2048 1 :=
  let main_c : IVec S_ 1 := constantI S_ 1 1#1
  let main_v0 : IVec S8192x2048 1 := broadcastInDim S8192x2048 ![] bcast_S_S8192x2048 main_c
  let main_c_0 : IVec S_ 1 := constantI S_ 1 1#1
  let main_v1 : IVec S8192x1024 1 := broadcastInDim S8192x1024 ![] bcast_S_S8192x1024 main_c_0
  let main_c_1 : IVec S_ 1 := constantI S_ 1 0#1
  let main_v2 : IVec S8192x1024 1 := broadcastInDim S8192x1024 ![] bcast_S_S8192x1024 main_c_1
  let main_c_2 : IVec S_ 1 := constantI S_ 1 1#1
  let main_v3 : IVec S8192x1024 1 := broadcastInDim S8192x1024 ![] bcast_S_S8192x1024 main_c_2
  let main_c_3 : IVec S_ 1 := constantI S_ 1 1#1
  let main_v4 : IVec S2048x6144 1 := broadcastInDim S2048x6144 ![] bcast_S_S2048x6144 main_c_3
  let main_c_4 : IVec S_ 1 := constantI S_ 1 1#1
  let main_v5 : IVec S3x1024x2048 1 := broadcastInDim S3x1024x2048 ![] bcast_S_S3x1024x2048 main_c_4
  let main_c_5 : IVec S_ 1 := constantI S_ 1 1#1
  let main_v6 : IVec S2048x2048 1 := broadcastInDim S2048x2048 ![] bcast_S_S2048x2048 main_c_5
  (main_v0, main_v1, main_v2, main_v3, main_v4, main_v5, main_v6)
-- ==== Pre_finite.lean ====
abbrev S8192x2048 : Shape := ⟨2, ![8192, 2048]⟩
abbrev S1x2048 : Shape := ⟨2, ![1, 2048]⟩
abbrev S256x2048 : Shape := ⟨2, ![256, 2048]⟩
abbrev S2048x6400 : Shape := ⟨2, ![2048, 6400]⟩
abbrev S4x1024 : Shape := ⟨2, ![4, 1024]⟩
abbrev S1x1024 : Shape := ⟨2, ![1, 1024]⟩
abbrev S8x128x256 : Shape := ⟨3, ![8, 128, 256]⟩
abbrev S16 : Shape := ⟨1, ![16]⟩
abbrev S16x128x256 : Shape := ⟨3, ![16, 128, 256]⟩
abbrev S4x1024x256 : Shape := ⟨3, ![4, 1024, 256]⟩
abbrev S4x256x1024 : Shape := ⟨3, ![4, 256, 1024]⟩
abbrev S2048x12544 : Shape := ⟨2, ![2048, 12544]⟩
abbrev S1024x2048 : Shape := ⟨2, ![1024, 2048]⟩
abbrev S2048x2048 : Shape := ⟨2, ![2048, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S1x2048 : S_.BroadcastsInDim S1x2048 (![] : Fin 0 → Fin S1x2048.rank)
  bcast_S_S256x2048 : S_.BroadcastsInDim S256x2048 (![] : Fin 0 → Fin S256x2048.rank)
  bcast_S_S2048x6400 : S_.BroadcastsInDim S2048x6400 (![] : Fin 0 → Fin S2048x6400.rank)
  bcast_S_S4x1024 : S_.BroadcastsInDim S4x1024 (![] : Fin 0 → Fin S4x1024.rank)
  bcast_S_S1x1024 : S_.BroadcastsInDim S1x1024 (![] : Fin 0 → Fin S1x1024.rank)
  bcast_S_S8x128x256 : S_.BroadcastsInDim S8x128x256 (![] : Fin 0 → Fin S8x128x256.rank)
  bcast_S_S4x1024x256 : S_.BroadcastsInDim S4x1024x256 (![] : Fin 0 → Fin S4x1024x256.rank)
  bcast_S_S4x256x1024 : S_.BroadcastsInDim S4x256x1024 (![] : Fin 0 → Fin S4x256x1024.rank)

variable [Facts]

def fn_part3 {F : FTy → Type} [FloatOps F] (main_arg9 : FVec F S1x1024 .f32) (main_v3 : FVec F S4x1024x256 .f32) (main_v4 : FVec F S4x256x1024 .f32) (main_v9 : IVec S8192x2048 1) (main_v14 : IVec S1x2048 1) (main_v19 : IVec S256x2048 1) (main_v24 : IVec S2048x6400 1) (main_v29 : IVec S4x1024 1) (main_v34 : IVec S1x1024 1) (main_v39 : IVec S8x128x256 1) (main_v44 : IVec S1x1024 1) (main_v49 : IVec S1x1024 1) (main_v51 : IVec S1x1024 1) (main_cst_18 : FVec F S_ .f32) : IVec S8192x2048 1 × IVec S1x2048 1 × IVec S256x2048 1 × IVec S2048x6400 1 × IVec S4x1024 1 × IVec S1x1024 1 × IVec S8x128x256 1 × IVec S1x1024 1 × IVec S1x1024 1 × IVec S1x1024 1 × IVec S4x1024x256 1 × IVec S4x256x1024 1 :=
  let main_v52 : FVec F S1x1024 .f32 := broadcastInDim S1x1024 ![] bcast_S_S1x1024 main_cst_18
  let main_v53 : IVec S1x1024 1 := cmpf .olt main_arg9 main_v52
  let main_v54 : IVec S1x1024 1 := andi main_v51 main_v53
  let main_cst_19 : FVec F S_ .f32 := constant S_ .f32 0xFF800000#32
  let main_v55 : FVec F S4x1024x256 .f32 := broadcastInDim S4x1024x256 ![] bcast_S_S4x1024x256 main_cst_19
  let main_v56 : IVec S4x1024x256 1 := cmpf .ogt main_v3 main_v55
  let main_cst_20 : FVec F S_ .f32 := constant S_ .f32 0x7F800000#32
  let main_v57 : FVec F S4x1024x256 .f32 := broadcastInDim S4x1024x256 ![] bcast_S_S4x1024x256 main_cst_20
  let main_v58 : IVec S4x1024x256 1 := cmpf .olt main_v3 main_v57
  let main_v59 : IVec S4x1024x256 1 := andi main_v56 main_v58
  let main_cst_21 : FVec F S_ .f32 := constant S_ .f32 0xFF800000#32
  let main_v60 : FVec F S4x256x1024 .f32 := broadcastInDim S4x256x1024 ![] bcast_S_S4x256x1024 main_cst_21
  let main_v61 : IVec S4x256x1024 1 := cmpf .ogt main_v4 main_v60
  let main_cst_22 : FVec F S_ .f32 := constant S_ .f32 0x7F800000#32
  let main_v62 : FVec F S4x256x1024 .f32 := broadcastInDim S4x256x1024 ![] bcast_S_S4x256x1024 main_cst_22
  let main_v63 : IVec S4x256x1024 1 := cmpf .olt main_v4 main_v62
  let main_v64 : IVec S4x256x1024 1 := andi main_v61 main_v63
  (main_v9, main_v14, main_v19, main_v24, main_v29, main_v34, main_v39, main_v44, main_v49, main_v54, main_v59, main_v64)

def fn_part2 {F : FTy → Type} [FloatOps F] (main_arg7 : FVec F S1x1024 .f32) (main_arg8 : FVec F S1x1024 .f32) (main_arg9 : FVec F S1x1024 .f32) (main_v2 : FVec F S8x128x256 .f32) (main_v3 : FVec F S4x1024x256 .f32) (main_v4 : FVec F S4x256x1024 .f32) (main_v9 : IVec S8192x2048 1) (main_v14 : IVec S1x2048 1) (main_v19 : IVec S256x2048 1) (main_v24 : IVec S2048x6400 1) (main_v29 : IVec S4x1024 1) (main_v34 : IVec S1x1024 1) (main_cst_11 : FVec F S_ .f32) : IVec S8192x2048 1 × IVec S1x2048 1 × IVec S256x2048 1 × IVec S2048x6400 1 × IVec S4x1024 1 × IVec S1x1024 1 × IVec S8x128x256 1 × IVec S1x1024 1 × IVec S1x1024 1 × IVec S1x1024 1 × IVec S4x1024x256 1 × IVec S4x256x1024 1 :=
  let main_v35 : FVec F S8x128x256 .f32 := broadcastInDim S8x128x256 ![] bcast_S_S8x128x256 main_cst_11
  let main_v36 : IVec S8x128x256 1 := cmpf .ogt main_v2 main_v35
  let main_cst_12 : FVec F S_ .f32 := constant S_ .f32 0x7F800000#32
  let main_v37 : FVec F S8x128x256 .f32 := broadcastInDim S8x128x256 ![] bcast_S_S8x128x256 main_cst_12
  let main_v38 : IVec S8x128x256 1 := cmpf .olt main_v2 main_v37
  let main_v39 : IVec S8x128x256 1 := andi main_v36 main_v38
  let main_cst_13 : FVec F S_ .f32 := constant S_ .f32 0xFF800000#32
  let main_v40 : FVec F S1x1024 .f32 := broadcastInDim S1x1024 ![] bcast_S_S1x1024 main_cst_13
  let main_v41 : IVec S1x1024 1 := cmpf .ogt main_arg7 main_v40
  let main_cst_14 : FVec F S_ .f32 := constant S_ .f32 0x7F800000#32
  let main_v42 : FVec F S1x1024 .f32 := broadcastInDim S1x1024 ![] bcast_S_S1x1024 main_cst_14
  let main_v43 : IVec S1x1024 1 := cmpf .olt main_arg7 main_v42
  let main_v44 : IVec S1x1024 1 := andi main_v41 main_v43
  let main_cst_15 : FVec F S_ .f32 := constant S_ .f32 0xFF800000#32
  let main_v45 : FVec F S1x1024 .f32 := broadcastInDim S1x1024 ![] bcast_S_S1x1024 main_cst_15
  let main_v46 : IVec S1x1024 1 := cmpf .ogt main_arg8 main_v45
  let main_cst_16 : FVec F S_ .f32 := constant S_ .f32 0x7F800000#32
  let main_v47 : FVec F S1x1024 .f32 := broadcastInDim S1x1024 ![] bcast_S_S1x1024 main_cst_16
  let main_v48 : IVec S1x1024 1 := cmpf .olt main_arg8 main_v47
  let main_v49 : IVec S1x1024 1 := andi main_v46 main_v48
  let main_cst_17 : FVec F S_ .f32 := constant S_ .f32 0xFF800000#32
  let main_v50 : FVec F S1x1024 .f32 := broadcastInDim S1x1024 ![] bcast_S_S1x1024 main_cst_17
  let main_v51 : IVec S1x1024 1 := cmpf .ogt main_arg9 main_v50
  let main_cst_18 : FVec F S_ .f32 := constant S_ .f32 0x7F800000#32
  fn_part3 (F := F) main_arg9 main_v3 main_v4 main_v9 main_v14 main_v19 main_v24 main_v29 main_v34 main_v39 main_v44 main_v49 main_v51 main_cst_18

def fn_part1 {F : FTy → Type} [FloatOps F] (main_arg4 : FVec F S4x1024 .f32) (main_arg5 : FVec F S1x1024 .f32) (main_arg7 : FVec F S1x1024 .f32) (main_arg8 : FVec F S1x1024 .f32) (main_arg9 : FVec F S1x1024 .f32) (main_v0 : FVec F S256x2048 .f32) (main_v1 : FVec F S2048x6400 .f32) (main_v2 : FVec F S8x128x256 .f32) (main_v3 : FVec F S4x1024x256 .f32) (main_v4 : FVec F S4x256x1024 .f32) (main_v9 : IVec S8192x2048 1) (main_v14 : IVec S1x2048 1) (main_v16 : IVec S256x2048 1) (main_v17 : FVec F S256x2048 .f32) : IVec S8192x2048 1 × IVec S1x2048 1 × IVec S256x2048 1 × IVec S2048x6400 1 × IVec S4x1024 1 × IVec S1x1024 1 × IVec S8x128x256 1 × IVec S1x1024 1 × IVec S1x1024 1 × IVec S1x1024 1 × IVec S4x1024x256 1 × IVec S4x256x1024 1 :=
  let main_v18 : IVec S256x2048 1 := cmpf .olt main_v0 main_v17
  let main_v19 : IVec S256x2048 1 := andi main_v16 main_v18
  let main_cst_5 : FVec F S_ .f32 := constant S_ .f32 0xFF800000#32
  let main_v20 : FVec F S2048x6400 .f32 := broadcastInDim S2048x6400 ![] bcast_S_S2048x6400 main_cst_5
  let main_v21 : IVec S2048x6400 1 := cmpf .ogt main_v1 main_v20
  let main_cst_6 : FVec F S_ .f32 := constant S_ .f32 0x7F800000#32
  let main_v22 : FVec F S2048x6400 .f32 := broadcastInDim S2048x6400 ![] bcast_S_S2048x6400 main_cst_6
  let main_v23 : IVec S2048x6400 1 := cmpf .olt main_v1 main_v22
  let main_v24 : IVec S2048x6400 1 := andi main_v21 main_v23
  let main_cst_7 : FVec F S_ .f32 := constant S_ .f32 0xFF800000#32
  let main_v25 : FVec F S4x1024 .f32 := broadcastInDim S4x1024 ![] bcast_S_S4x1024 main_cst_7
  let main_v26 : IVec S4x1024 1 := cmpf .ogt main_arg4 main_v25
  let main_cst_8 : FVec F S_ .f32 := constant S_ .f32 0x7F800000#32
  let main_v27 : FVec F S4x1024 .f32 := broadcastInDim S4x1024 ![] bcast_S_S4x1024 main_cst_8
  let main_v28 : IVec S4x1024 1 := cmpf .olt main_arg4 main_v27
  let main_v29 : IVec S4x1024 1 := andi main_v26 main_v28
  let main_cst_9 : FVec F S_ .f32 := constant S_ .f32 0xFF800000#32
  let main_v30 : FVec F S1x1024 .f32 := broadcastInDim S1x1024 ![] bcast_S_S1x1024 main_cst_9
  let main_v31 : IVec S1x1024 1 := cmpf .ogt main_arg5 main_v30
  let main_cst_10 : FVec F S_ .f32 := constant S_ .f32 0x7F800000#32
  let main_v32 : FVec F S1x1024 .f32 := broadcastInDim S1x1024 ![] bcast_S_S1x1024 main_cst_10
  let main_v33 : IVec S1x1024 1 := cmpf .olt main_arg5 main_v32
  let main_v34 : IVec S1x1024 1 := andi main_v31 main_v33
  let main_cst_11 : FVec F S_ .f32 := constant S_ .f32 0xFF800000#32
  fn_part2 (F := F) main_arg7 main_arg8 main_arg9 main_v2 main_v3 main_v4 main_v9 main_v14 main_v19 main_v24 main_v29 main_v34 main_cst_11

def fn {F : FTy → Type} [FloatOps F] (main_arg0 : FVec F S8192x2048 .f32) (main_arg1 : FVec F S1x2048 .f32) (main_arg2 : FVec F S256x2048 .bf16) (main_arg3 : FVec F S2048x6400 .bf16) (main_arg4 : FVec F S4x1024 .f32) (main_arg5 : FVec F S1x1024 .f32) (main_arg6 : FVec F S8x128x256 .bf16) (main_arg7 : FVec F S1x1024 .f32) (main_arg8 : FVec F S1x1024 .f32) (main_arg9 : FVec F S1x1024 .f32) (main_arg10 : FVec F S16 .f32) (main_arg11 : FVec F S16x128x256 .f32) (main_arg12 : FVec F S4x1024x256 .bf16) (main_arg13 : FVec F S4x256x1024 .bf16) (main_arg14 : FVec F S2048x12544 .f32) (main_arg15 : FVec F S1024x2048 .f32) (main_arg16 : FVec F S1024x2048 .f32) (main_arg17 : FVec F S1024x2048 .f32) (main_arg18 : FVec F S2048x2048 .f32) : IVec S8192x2048 1 × IVec S1x2048 1 × IVec S256x2048 1 × IVec S2048x6400 1 × IVec S4x1024 1 × IVec S1x1024 1 × IVec S8x128x256 1 × IVec S1x1024 1 × IVec S1x1024 1 × IVec S1x1024 1 × IVec S4x1024x256 1 × IVec S4x256x1024 1 :=
  let main_v0 : FVec F S256x2048 .f32 := (extf .f32 · bitsLt_bf16_f32) main_arg2
  let main_v1 : FVec F S2048x6400 .f32 := (extf .f32 · bitsLt_bf16_f32) main_arg3
  let main_v2 : FVec F S8x128x256 .f32 := (extf .f32 · bitsLt_bf16_f32) main_arg6
  let main_v3 : FVec F S4x1024x256 .f32 := (extf .f32 · bitsLt_bf16_f32) main_arg12
  let main_v4 : FVec F S4x256x1024 .f32 := (extf .f32 · bitsLt_bf16_f32) main_arg13
  let main_cst : FVec F S_ .f32 := constant S_ .f32 0xFF800000#32
  let main_v5 : FVec F S8192x2048 .f32 := broadcastInDim S8192x2048 ![] bcast_S_S8192x2048 main_cst
  let main_v6 : IVec S8192x2048 1 := cmpf .ogt main_arg0 main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_arg0 main_v7
  let main_v9 : IVec S8192x2048 1 := andi main_v6 main_v8
  let main_cst_1 : FVec F S_ .f32 := constant S_ .f32 0xFF800000#32
  let main_v10 : FVec F S1x2048 .f32 := broadcastInDim S1x2048 ![] bcast_S_S1x2048 main_cst_1
  let main_v11 : IVec S1x2048 1 := cmpf .ogt main_arg1 main_v10
  let main_cst_2 : FVec F S_ .f32 := constant S_ .f32 0x7F800000#32
  let main_v12 : FVec F S1x2048 .f32 := broadcastInDim S1x2048 ![] bcast_S_S1x2048 main_cst_2
  let main_v13 : IVec S1x2048 1 := cmpf .olt main_arg1 main_v12
  let main_v14 : IVec S1x2048 1 := andi main_v11 main_v13
  let main_cst_3 : FVec F S_ .f32 := constant S_ .f32 0xFF800000#32
  let main_v15 : FVec F S256x2048 .f32 := broadcastInDim S256x2048 ![] bcast_S_S256x2048 main_cst_3
  let main_v16 : IVec S256x2048 1 := cmpf .ogt main_v0 main_v15
  let main_cst_4 : FVec F S_ .f32 := constant S_ .f32 0x7F800000#32
  let main_v17 : FVec F S256x2048 .f32 := broadcastInDim S256x2048 ![] bcast_S_S256x2048 main_cst_4
  fn_part1 (F := F) main_arg4 main_arg5 main_arg7 main_arg8 main_arg9 main_v0 main_v1 main_v2 main_v3 main_v4 main_v9 main_v14 main_v16 main_v17
-- ==== Kernel.lean ====
abbrev S8192x2048 : Shape := ⟨2, ![8192, 2048]⟩
abbrev S1x2048 : Shape := ⟨2, ![1, 2048]⟩
abbrev S256x2048 : Shape := ⟨2, ![256, 2048]⟩
abbrev S2048x6400 : Shape := ⟨2, ![2048, 6400]⟩
abbrev S4x1024 : Shape := ⟨2, ![4, 1024]⟩
abbrev S1x1024 : Shape := ⟨2, ![1, 1024]⟩
abbrev S8x128x256 : Shape := ⟨3, ![8, 128, 256]⟩
abbrev S16 : Shape := ⟨1, ![16]⟩
abbrev S16x128x256 : Shape := ⟨3, ![16, 128, 256]⟩
abbrev S4x1024x256 : Shape := ⟨3, ![4, 1024, 256]⟩
abbrev S4x256x1024 : Shape := ⟨3, ![4, 256, 1024]⟩
abbrev S2048x12544 : Shape := ⟨2, ![2048, 12544]⟩
abbrev S1024x2048 : Shape := ⟨2, ![1024, 2048]⟩
abbrev S2048x2048 : Shape := ⟨2, ![2048, 2048]⟩
abbrev S8192x1024 : Shape := ⟨2, ![8192, 1024]⟩
abbrev S2048x6144 : Shape := ⟨2, ![2048, 6144]⟩
abbrev S3x1024x2048 : Shape := ⟨3, ![3, 1024, 2048]⟩
abbrev S1x1024x256 : Shape := ⟨3, ![1, 1024, 256]⟩
abbrev S1x256x1024 : Shape := ⟨3, ![1, 256, 1024]⟩
abbrev S64x6144 : Shape := ⟨2, ![64, 6144]⟩
abbrev S32x2048 : Shape := ⟨2, ![32, 2048]⟩
abbrev S64x2048 : Shape := ⟨2, ![64, 2048]⟩
abbrev S256x1024 : Shape := ⟨2, ![256, 1024]⟩
abbrev S3x32x2048 : Shape := ⟨3, ![3, 32, 2048]⟩
abbrev S264x1024 : Shape := ⟨2, ![264, 1024]⟩
abbrev S128x128 : Shape := ⟨2, ![128, 128]⟩
abbrev S8x1024 : Shape := ⟨2, ![8, 1024]⟩
abbrev S2048x1024 : Shape := ⟨2, ![2048, 1024]⟩
abbrev S1x32x2048 : Shape := ⟨3, ![1, 32, 2048]⟩
abbrev S256 : Shape := ⟨1, ![256]⟩
abbrev S256x1 : Shape := ⟨2, ![256, 1]⟩
abbrev S2048x256 : Shape := ⟨2, ![2048, 256]⟩
abbrev S256x256 : Shape := ⟨2, ![256, 256]⟩
abbrev S256x128 : Shape := ⟨2, ![256, 128]⟩
abbrev S1x128x256 : Shape := ⟨3, ![1, 128, 256]⟩
abbrev S128x256 : Shape := ⟨2, ![128, 256]⟩
abbrev S384x128 : Shape := ⟨2, ![384, 128]⟩
abbrev S128x384 : Shape := ⟨2, ![128, 384]⟩
abbrev S64x384 : Shape := ⟨2, ![64, 384]⟩
abbrev S1x256 : Shape := ⟨2, ![1, 256]⟩
abbrev S32x8x256 : Shape := ⟨3, ![32, 8, 256]⟩
abbrev S1x8x256 : Shape := ⟨3, ![1, 8, 256]⟩
abbrev S8x256 : Shape := ⟨2, ![8, 256]⟩
abbrev S1x1x256 : Shape := ⟨3, ![1, 1, 256]⟩
abbrev S512x128 : Shape := ⟨2, ![512, 128]⟩
abbrev S512x256 : Shape := ⟨2, ![512, 256]⟩
abbrev S1 : Shape := ⟨1, ![1]⟩
abbrev S128 : Shape := ⟨1, ![128]⟩
abbrev S128x1 : Shape := ⟨2, ![128, 1]⟩
abbrev S1x256x256 : Shape := ⟨3, ![1, 256, 256]⟩

abbrev nBuf : Space → Nat
  | .hbm => 26
  | .vmem => 45
  | .smem => 1
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S256x2048, .bf16⟩
  | .hbm, ⟨3, _⟩ => ⟨S2048x6400, .bf16⟩
  | .hbm, ⟨4, _⟩ => ⟨S4x1024, .f32⟩
  | .hbm, ⟨5, _⟩ => ⟨S1x1024, .f32⟩
  | .hbm, ⟨6, _⟩ => ⟨S8x128x256, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S16, .f32⟩
  | .hbm, ⟨11, _⟩ => ⟨S16x128x256, .f32⟩
  | .hbm, ⟨12, _⟩ => ⟨S4x1024x256, .bf16⟩
  | .hbm, ⟨13, _⟩ => ⟨S4x256x1024, .bf16⟩
  | .hbm, ⟨14, _⟩ => ⟨S2048x12544, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S2048x2048, .f32⟩
  | .hbm, ⟨19, _⟩ => ⟨S8192x2048, .bf16⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S2048x6144, .bf16⟩
  | .hbm, ⟨24, _⟩ => ⟨S3x1024x2048, .bf16⟩
  | .hbm, ⟨25, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S2048x6400, .bf16⟩
  | .local _ .vmem, ⟨5, _⟩ => ⟨S4x1024, .f32⟩
  | .local _ .vmem, ⟨6, _⟩ => ⟨S1x1024, .f32⟩
  | .local _ .vmem, ⟨7, _⟩ => ⟨S8x128x256, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S16x128x256, .f32⟩
  | .local _ .vmem, ⟨12, _⟩ => ⟨S1x1024x256, .bf16⟩
  | .local _ .vmem, ⟨13, _⟩ => ⟨S1x1024x256, .bf16⟩
  | .local _ .vmem, ⟨14, _⟩ => ⟨S1x256x1024, .bf16⟩
  | .local _ .vmem, ⟨15, _⟩ => ⟨S1x256x1024, .bf16⟩
  | .local _ .vmem, ⟨16, _⟩ => ⟨S64x6144, .f32⟩
  | .local _ .vmem, ⟨17, _⟩ => ⟨S64x6144, .f32⟩
  | .local _ .vmem, ⟨18, _⟩ => ⟨S32x2048, .f32⟩
  | .local _ .vmem, ⟨19, _⟩ => ⟨S32x2048, .f32⟩
  | .local _ .vmem, ⟨20, _⟩ => ⟨S32x2048, .f32⟩
  | .local _ .vmem, ⟨21, _⟩ => ⟨S32x2048, .f32⟩
  | .local _ .vmem, ⟨22, _⟩ => ⟨S32x2048, .f32⟩
  | .local _ .vmem, ⟨23, _⟩ => ⟨S32x2048, .f32⟩
  | .local _ .vmem, ⟨24, _⟩ => ⟨S64x2048, .f32⟩
  | .local _ .vmem, ⟨25, _⟩ => ⟨S64x2048, .f32⟩
  | .local _ .vmem, ⟨26, _⟩ => ⟨S256x2048, .bf16⟩
  | .local _ .vmem, ⟨27, _⟩ => ⟨S256x2048, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S64x6144, .bf16⟩
  | .local _ .vmem, ⟨35, _⟩ => ⟨S64x6144, .bf16⟩
  | .local _ .vmem, ⟨36, _⟩ => ⟨S3x32x2048, .bf16⟩
  | .local _ .vmem, ⟨37, _⟩ => ⟨S3x32x2048, .bf16⟩
  | .local _ .vmem, ⟨38, _⟩ => ⟨S64x2048, .bf16⟩
  | .local _ .vmem, ⟨39, _⟩ => ⟨S64x2048, .bf16⟩
  | .local _ .vmem, ⟨40, _⟩ => ⟨S256x2048, .bf16⟩
  | .local _ .vmem, ⟨41, _⟩ => ⟨S264x1024, .f32⟩
  | .local _ .vmem, ⟨42, _⟩ => ⟨S1x1024, .f32⟩
  | .local _ .vmem, ⟨43, _⟩ => ⟨S128x128, .f32⟩
  | .local _ .vmem, ⟨44, _⟩ => ⟨S128x128, .f32⟩
  | .local _ .smem, ⟨0, _⟩ => ⟨S16, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .smem, ⟨0, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0_0 : Ref sig .tc := ⟨.hbm, 19, rfl⟩
abbrev main_v0_1 : Ref sig .tc := ⟨.hbm, 20, rfl⟩
abbrev main_v0_2 : Ref sig .tc := ⟨.hbm, 21, rfl⟩
abbrev main_v0_3 : Ref sig .tc := ⟨.hbm, 22, rfl⟩
abbrev main_v0_4 : Ref sig .tc := ⟨.hbm, 23, rfl⟩
abbrev main_v0_5 : Ref sig .tc := ⟨.hbm, 24, rfl⟩
abbrev main_v0_6 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40

abbrev nD : Nat := 1
abbrev τ : Topo := Topo.v7x

variable {F : FTy → Type} [FloatOps F]

abbrev grid0 : Pipeline.Grid := ⟨2, ![4, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c31_i32 : BitVec 32 := 31#32
  let v3 : BitVec 32 := Scalar.minsi v2 c31_i32
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c6400_i32 : BitVec 32 := 6400#32
  let c0_i32 : BitVec 32 := 0#32
  ![v2.toNat, c6400_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_23 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_24 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_25 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x6400 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S64x6144 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S32x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S32x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S32x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S64x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S64x6144 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S3x32x2048 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S64x2048 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S1x2048 : Shape := ⟨2, ![1, 2048]⟩
abbrev S256x2048 : Shape := ⟨2, ![256, 2048]⟩
abbrev S2048x6400 : Shape := ⟨2, ![2048, 6400]⟩
abbrev S4x1024 : Shape := ⟨2, ![4, 1024]⟩
abbrev S1x1024 : Shape := ⟨2, ![1, 1024]⟩
abbrev S8x128x256 : Shape := ⟨3, ![8, 128, 256]⟩
abbrev S16 : Shape := ⟨1, ![16]⟩
abbrev S16x128x256 : Shape := ⟨3, ![16, 128, 256]⟩
abbrev S4x1024x256 : Shape := ⟨3, ![4, 1024, 256]⟩
abbrev S4x256x1024 : Shape := ⟨3, ![4, 256, 1024]⟩
abbrev S2048x12544 : Shape := ⟨2, ![2048, 12544]⟩
abbrev S1024x2048 : Shape := ⟨2, ![1024, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S7936x2048 : Shape := ⟨2, ![7936, 2048]⟩
abbrev S8192x6400 : Shape := ⟨2, ![8192, 6400]⟩
abbrev S4x2048x6400 : Shape := ⟨3, ![4, 2048, 6400]⟩
abbrev S4x2048x1024 : Shape := ⟨3, ![4, 2048, 1024]⟩
abbrev S4x2048x128 : Shape := ⟨3, ![4, 2048, 128]⟩
abbrev S1024 : Shape := ⟨1, ![1024]⟩
abbrev S8x128x128 : Shape := ⟨3, ![8, 128, 128]⟩
abbrev S4x2051x1024 : Shape := ⟨3, ![4, 2051, 1024]⟩
abbrev S1x1x1024 : Shape := ⟨3, ![1, 1, 1024]⟩
abbrev S4x2048x8x128 : Shape := ⟨4, ![4, 2048, 8, 128]⟩
abbrev S8x128x4x2048 : Shape := ⟨4, ![8, 128, 4, 2048]⟩
abbrev S2048 : Shape := ⟨1, ![2048]⟩
abbrev S1x2048x1 : Shape := ⟨3, ![1, 2048, 1]⟩
abbrev S4x1024x1024 : Shape := ⟨3, ![4, 1024, 1024]⟩
abbrev S4x512x1024 : Shape := ⟨3, ![4, 512, 1024]⟩
abbrev S4x128x1024 : Shape := ⟨3, ![4, 128, 1024]⟩
abbrev S4x64x1024 : Shape := ⟨3, ![4, 64, 1024]⟩
abbrev S4x32x1024 : Shape := ⟨3, ![4, 32, 1024]⟩
abbrev S4x16x1024 : Shape := ⟨3, ![4, 16, 1024]⟩
abbrev S4x8x1024 : Shape := ⟨3, ![4, 8, 1024]⟩
abbrev S4x4x1024 : Shape := ⟨3, ![4, 4, 1024]⟩
abbrev S4x2x1024 : Shape := ⟨3, ![4, 2, 1024]⟩
abbrev S4x1x1024 : Shape := ⟨3, ![4, 1, 1024]⟩
abbrev S4x0x1024 : Shape := ⟨3, ![4, 0, 1024]⟩
abbrev S4x3x1024 : Shape := ⟨3, ![4, 3, 1024]⟩
abbrev S4x7x1024 : Shape := ⟨3, ![4, 7, 1024]⟩
abbrev S4x15x1024 : Shape := ⟨3, ![4, 15, 1024]⟩
abbrev S4x31x1024 : Shape := ⟨3, ![4, 31, 1024]⟩
abbrev S4x63x1024 : Shape := ⟨3, ![4, 63, 1024]⟩
abbrev S4x127x1024 : Shape := ⟨3, ![4, 127, 1024]⟩
abbrev S4x255x1024 : Shape := ⟨3, ![4, 255, 1024]⟩
abbrev S4x511x1024 : Shape := ⟨3, ![4, 511, 1024]⟩
abbrev S4x1023x1024 : Shape := ⟨3, ![4, 1023, 1024]⟩
abbrev S4x16x128x2x8x64 : Shape := ⟨6, ![4, 16, 128, 2, 8, 64]⟩
abbrev S4x16x128x2x64 : Shape := ⟨5, ![4, 16, 128, 2, 64]⟩
abbrev S4x1x128x2x64 : Shape := ⟨5, ![4, 1, 128, 2, 64]⟩
abbrev S4x15x128x2x64 : Shape := ⟨5, ![4, 15, 128, 2, 64]⟩
abbrev S4x16x256x2x64 : Shape := ⟨5, ![4, 16, 256, 2, 64]⟩
abbrev S4x16x2x256x128x8 : Shape := ⟨6, ![4, 16, 2, 256, 128, 8]⟩
abbrev S4x16x2x8x128x256 : Shape := ⟨6, ![4, 16, 2, 8, 128, 256]⟩
abbrev S2x8x128x256 : Shape := ⟨4, ![2, 8, 128, 256]⟩
abbrev S1x1x2x8x128x256 : Shape := ⟨6, ![1, 1, 2, 8, 128, 256]⟩
abbrev S16x1 : Shape := ⟨2, ![16, 1]⟩
abbrev S256 : Shape := ⟨1, ![256]⟩
abbrev S1x256 : Shape := ⟨2, ![1, 256]⟩
abbrev S16x256 : Shape := ⟨2, ![16, 256]⟩
abbrev S1x16x1x1x1x256 : Shape := ⟨6, ![1, 16, 1, 1, 1, 256]⟩
abbrev S2x8 : Shape := ⟨2, ![2, 8]⟩
abbrev S1x1x2x8x1x1 : Shape := ⟨6, ![1, 1, 2, 8, 1, 1]⟩
abbrev S4x16x2x8x128 : Shape := ⟨5, ![4, 16, 2, 8, 128]⟩
abbrev S4x16x2x8x128x1 : Shape := ⟨6, ![4, 16, 2, 8, 128, 1]⟩
abbrev S4x16x2x64x8x128 : Shape := ⟨6, ![4, 16, 2, 64, 8, 128]⟩
abbrev S4x2048x4x256 : Shape := ⟨4, ![4, 2048, 4, 256]⟩
abbrev S4x256x4x256 : Shape := ⟨4, ![4, 256, 4, 256]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S2048x6144 : Shape := ⟨2, ![2048, 6144]⟩
abbrev S1x1024x2048 : Shape := ⟨3, ![1, 1024, 2048]⟩
abbrev S3x1024x2048 : Shape := ⟨3, ![3, 1024, 2048]⟩
abbrev S8192x1024 : Shape := ⟨2, ![8192, 1024]⟩

abbrev nBuf : Space → Nat
  | .hbm => 605
  | .vmem => 0
  | .smem => 0
  | _ => 0

abbrev hbmTy0_0 (i : Nat) : BufTy := match i % 128 with
  | 0 => ⟨S8192x2048, .f32⟩
  | 1 => ⟨S1x2048, .f32⟩
  | 2 => ⟨S256x2048, .bf16⟩
  | 3 => ⟨S2048x6400, .bf16⟩
  | 4 => ⟨S4x1024, .f32⟩
  | 5 => ⟨S1x1024, .f32⟩
  | 6 => ⟨S8x128x256, .bf16⟩
  | 7 => ⟨S1x1024, .f32⟩
  | 8 => ⟨S1x1024, .f32⟩
  | 9 => ⟨S1x1024, .f32⟩
  | 10 => ⟨S16, .f32⟩
  | 11 => ⟨S16x128x256, .f32⟩
  | 12 => ⟨S4x1024x256, .bf16⟩
  | 13 => ⟨S4x256x1024, .bf16⟩
  | 14 => ⟨S2048x12544, .f32⟩
  | 15 => ⟨S1024x2048, .f32⟩
  | 16 => ⟨S1024x2048, .f32⟩
  | 17 => ⟨S1024x2048, .f32⟩
  | 18 => ⟨S2048x2048, .f32⟩
  | 19 => ⟨S8192x2048, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x1, .f32⟩
  | 30 => ⟨S8192x2048, .f32⟩
  | 31 => ⟨S8192x2048, .f32⟩
  | 32 => ⟨S8192x2048, .f32⟩
  | 33 => ⟨S8192x2048, .f32⟩
  | 34 => ⟨S7936x2048, .f32⟩
  | 35 => ⟨S7936x2048, .bf16⟩
  | 36 => ⟨S8192x2048, .bf16⟩
  | 37 => ⟨S8192x2048, .f32⟩
  | 38 => ⟨S2048x6400, .f32⟩
  | 39 => ⟨S8192x6400, .f32⟩
  | 40 => ⟨S4x2048x6400, .f32⟩
  | 41 => ⟨S4x2048x1024, .f32⟩
  | 42 => ⟨S4x2048x1024, .f32⟩
  | 43 => ⟨S4x2048x1024, .f32⟩
  | 44 => ⟨S4x2048x128, .f32⟩
  | 45 => ⟨S4x2048x128, .f32⟩
  | 46 => ⟨S4x2048x1024, .f32⟩
  | 47 => ⟨S4x2048x1024, .f32⟩
  | 48 => ⟨S4x2048x1024, .f32⟩
  | 49 => ⟨S8x128x256, .f32⟩
  | 50 => ⟨S1024, .f32⟩
  | 51 => ⟨S8x128x128, .f32⟩
  | 52 => ⟨S1024, .f32⟩
  | 53 => ⟨S8x128x128, .f32⟩
  | 54 => ⟨S1024, .f32⟩
  | 55 => ⟨S1024, .f32⟩
  | 56 => ⟨S_, .i32⟩
  | 57 => ⟨S_, .f32⟩
  | 58 => ⟨S4x2051x1024, .f32⟩
  | 59 => ⟨S4x2048x1024, .f32⟩
  | 60 => ⟨S1x1024, .f32⟩
  | 61 => ⟨S1024, .f32⟩
  | 62 => ⟨S1x1x1024, .f32⟩
  | 63 => ⟨S4x2048x1024, .f32⟩
  | 64 => ⟨S4x2048x1024, .f32⟩
  | 65 => ⟨S_, .f32⟩
  | 66 => ⟨S4x2048x1024, .f32⟩
  | 67 => ⟨S4x2048x1024, .f32⟩
  | 68 => ⟨S4x2048x1024, .f32⟩
  | 69 => ⟨S1x1024, .f32⟩
  | 70 => ⟨S1024, .f32⟩
  | 71 => ⟨S1x1x1024, .f32⟩
  | 72 => ⟨S4x2048x1024, .f32⟩
  | 73 => ⟨S4x2048x1024, .f32⟩
  | 74 => ⟨S4x2048x1024, .f32⟩
  | 75 => ⟨S4x2048x1024, .f32⟩
  | 76 => ⟨S1x1024, .f32⟩
  | 77 => ⟨S1024, .f32⟩
  | 78 => ⟨S1x1x1024, .f32⟩
  | 79 => ⟨S4x2048x1024, .f32⟩
  | 80 => ⟨S4x2048x1024, .f32⟩
  | 81 => ⟨S4x2048x1024, .f32⟩
  | 82 => ⟨S4x2048x1024, .f32⟩
  | 83 => ⟨S1x1024, .f32⟩
  | 84 => ⟨S1024, .f32⟩
  | 85 => ⟨S1x1x1024, .f32⟩
  | 86 => ⟨S4x2048x1024, .f32⟩
  | 87 => ⟨S4x2048x1024, .f32⟩
  | 88 => ⟨S4x2048x1024, .f32⟩
  | 89 => ⟨S1x1x1024, .f32⟩
  | 90 => ⟨S4x2048x1024, .f32⟩
  | 91 => ⟨S4x2048x1024, .f32⟩
  | 92 => ⟨S4x2048x8x128, .f32⟩
  | 93 => ⟨S8x128x4x2048, .f32⟩
  | 94 => ⟨S4x2048x8x128, .f32⟩
  | 95 => ⟨S4x2048x1024, .f32⟩
  | 96 => ⟨S1x1x1024, .f32⟩
  | 97 => ⟨S4x2048x1024, .f32⟩
  | 98 => ⟨S4x2048x1024, .f32⟩
  | 99 => ⟨S4x2048x1024, .f32⟩
  | 100 => ⟨S4x2048x1024, .f32⟩
  | 101 => ⟨S_, .f32⟩
  | 102 => ⟨S4x2048x1024, .f32⟩
  | 103 => ⟨S4x2048x1024, .f32⟩
  | 104 => ⟨S_, .f32⟩
  | 105 => ⟨S4x2048x1024, .f32⟩
  | 106 => ⟨S4x2048x1024, .f32⟩
  | 107 => ⟨S8x128x4x2048, .f32⟩
  | 108 => ⟨S4x2048x8x128, .f32⟩
  | 109 => ⟨S4x2048x1024, .f32⟩
  | 110 => ⟨S1x1x1024, .f32⟩
  | 111 => ⟨S4x2048x1024, .f32⟩
  | 112 => ⟨S4x2048x1024, .f32⟩
  | 113 => ⟨S4x2048x1024, .f32⟩
  | 114 => ⟨S4x2048x1024, .f32⟩
  | 115 => ⟨S_, .f32⟩
  | 116 => ⟨S4x2048x1024, .f32⟩
  | 117 => ⟨S4x2048x1024, .f32⟩
  | 118 => ⟨S_, .f32⟩
  | 119 => ⟨S4x2048x1024, .f32⟩
  | 120 => ⟨S4x2048x1024, .f32⟩
  | 121 => ⟨S_, .f32⟩
  | 122 => ⟨S4x2048x1024, .f32⟩
  | 123 => ⟨S4x2048x1024, .f32⟩
  | 124 => ⟨S1024, .f32⟩
  | 125 => ⟨S_, .f32⟩
  | 126 => ⟨S1024, .f32⟩
  | 127 => ⟨S1024, .f32⟩
  | _ => ⟨S8192x2048, .f32⟩

abbrev hbmTy0_1 (i : Nat) : BufTy := match i % 128 with
  | 0 => ⟨S1024, .f32⟩
  | 1 => ⟨S1024, .f32⟩
  | 2 => ⟨S1024, .i1⟩
  | 3 => ⟨S1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S1x1x1024, .f32⟩
  | 12 => ⟨S4x2048x1024, .f32⟩
  | 13 => ⟨S4x2048x1024, .f32⟩
  | 14 => ⟨S4x2048x1024, .f32⟩
  | 15 => ⟨S_, .f32⟩
  | 16 => ⟨S4x2048x1024, .f32⟩
  | 17 => ⟨S4x2048x1024, .f32⟩
  | 18 => ⟨S4x2048x1024, .f32⟩
  | 19 => ⟨S4x2048x1024, .f32⟩
  | 20 => ⟨S4x2048x1024, .f32⟩
  | 21 => ⟨S2048, .i32⟩
  | 22 => ⟨S_, .i32⟩
  | 23 => ⟨S2048, .i32⟩
  | 24 => ⟨S2048, .i1⟩
  | 25 => ⟨S1x2048x1, .i1⟩
  | 26 => ⟨S_, .f32⟩
  | 27 => ⟨S_, .f32⟩
  | 28 => ⟨S4x2048x1024, .i1⟩
  | 29 => ⟨S4x2048x1024, .f32⟩
  | 30 => ⟨S4x2048x1024, .f32⟩
  | 31 => ⟨S4x2048x1024, .f32⟩
  | 32 => ⟨S4x2048x1024, .f32⟩
  | 33 => ⟨S4x1024x1024, .f32⟩
  | 34 => ⟨S4x1024x1024, .f32⟩
  | 35 => ⟨S4x1024x1024, .f32⟩
  | 36 => ⟨S4x1024x1024, .f32⟩
  | 37 => ⟨S4x1024x1024, .f32⟩
  | 38 => ⟨S4x1024x1024, .f32⟩
  | 39 => ⟨S4x1024x1024, .f32⟩
  | 40 => ⟨S4x512x1024, .f32⟩
  | 41 => ⟨S4x512x1024, .f32⟩
  | 42 => ⟨S4x512x1024, .f32⟩
  | 43 => ⟨S4x512x1024, .f32⟩
  | 44 => ⟨S4x512x1024, .f32⟩
  | 45 => ⟨S4x512x1024, .f32⟩
  | 46 => ⟨S4x512x1024, .f32⟩
  | 47 => ⟨S4x256x1024, .f32⟩
  | 48 => ⟨S4x256x1024, .f32⟩
  | 49 => ⟨S4x256x1024, .f32⟩
  | 50 => ⟨S4x256x1024, .f32⟩
  | 51 => ⟨S4x256x1024, .f32⟩
  | 52 => ⟨S4x256x1024, .f32⟩
  | 53 => ⟨S4x256x1024, .f32⟩
  | 54 => ⟨S4x128x1024, .f32⟩
  | 55 => ⟨S4x128x1024, .f32⟩
  | 56 => ⟨S4x128x1024, .f32⟩
  | 57 => ⟨S4x128x1024, .f32⟩
  | 58 => ⟨S4x128x1024, .f32⟩
  | 59 => ⟨S4x128x1024, .f32⟩
  | 60 => ⟨S4x128x1024, .f32⟩
  | 61 => ⟨S4x64x1024, .f32⟩
  | 62 => ⟨S4x64x1024, .f32⟩
  | 63 => ⟨S4x64x1024, .f32⟩
  | 64 => ⟨S4x64x1024, .f32⟩
  | 65 => ⟨S4x64x1024, .f32⟩
  | 66 => ⟨S4x64x1024, .f32⟩
  | 67 => ⟨S4x64x1024, .f32⟩
  | 68 => ⟨S4x32x1024, .f32⟩
  | 69 => ⟨S4x32x1024, .f32⟩
  | 70 => ⟨S4x32x1024, .f32⟩
  | 71 => ⟨S4x32x1024, .f32⟩
  | 72 => ⟨S4x32x1024, .f32⟩
  | 73 => ⟨S4x32x1024, .f32⟩
  | 74 => ⟨S4x32x1024, .f32⟩
  | 75 => ⟨S4x16x1024, .f32⟩
  | 76 => ⟨S4x16x1024, .f32⟩
  | 77 => ⟨S4x16x1024, .f32⟩
  | 78 => ⟨S4x16x1024, .f32⟩
  | 79 => ⟨S4x16x1024, .f32⟩
  | 80 => ⟨S4x16x1024, .f32⟩
  | 81 => ⟨S4x16x1024, .f32⟩
  | 82 => ⟨S4x8x1024, .f32⟩
  | 83 => ⟨S4x8x1024, .f32⟩
  | 84 => ⟨S4x8x1024, .f32⟩
  | 85 => ⟨S4x8x1024, .f32⟩
  | 86 => ⟨S4x8x1024, .f32⟩
  | 87 => ⟨S4x8x1024, .f32⟩
  | 88 => ⟨S4x8x1024, .f32⟩
  | 89 => ⟨S4x4x1024, .f32⟩
  | 90 => ⟨S4x4x1024, .f32⟩
  | 91 => ⟨S4x4x1024, .f32⟩
  | 92 => ⟨S4x4x1024, .f32⟩
  | 93 => ⟨S4x4x1024, .f32⟩
  | 94 => ⟨S4x4x1024, .f32⟩
  | 95 => ⟨S4x4x1024, .f32⟩
  | 96 => ⟨S4x2x1024, .f32⟩
  | 97 => ⟨S4x2x1024, .f32⟩
  | 98 => ⟨S4x2x1024, .f32⟩
  | 99 => ⟨S4x2x1024, .f32⟩
  | 100 => ⟨S4x2x1024, .f32⟩
  | 101 => ⟨S4x2x1024, .f32⟩
  | 102 => ⟨S4x2x1024, .f32⟩
  | 103 => ⟨S4x1x1024, .f32⟩
  | 104 => ⟨S4x1x1024, .f32⟩
  | 105 => ⟨S4x1x1024, .f32⟩
  | 106 => ⟨S4x1x1024, .f32⟩
  | 107 => ⟨S4x1x1024, .f32⟩
  | 108 => ⟨S4x1x1024, .f32⟩
  | 109 => ⟨S4x1x1024, .f32⟩
  | 110 => ⟨S4x0x1024, .f32⟩
  | 111 => ⟨S4x0x1024, .f32⟩
  | 112 => ⟨S4x0x1024, .f32⟩
  | 113 => ⟨S4x0x1024, .f32⟩
  | 114 => ⟨S4x0x1024, .f32⟩
  | 115 => ⟨S4x0x1024, .f32⟩
  | 116 => ⟨S4x0x1024, .f32⟩
  | 117 => ⟨S4x1x1024, .f32⟩
  | 118 => ⟨S4x1x1024, .f32⟩
  | 119 => ⟨S4x1x1024, .f32⟩
  | 120 => ⟨S4x1x1024, .f32⟩
  | 121 => ⟨S_, .f32⟩
  | 122 => ⟨S4x2x1024, .f32⟩
  | 123 => ⟨S_, .f32⟩
  | 124 => ⟨S4x2x1024, .f32⟩
  | 125 => ⟨S4x2x1024, .f32⟩
  | 126 => ⟨S_, .f32⟩
  | 127 => ⟨S4x2x1024, .f32⟩
  | _ => ⟨S8192x2048, .f32⟩

abbrev hbmTy0_2 (i : Nat) : BufTy := match i % 128 with
  | 0 => ⟨S_, .f32⟩
  | 1 => ⟨S4x2x1024, .f32⟩
  | 2 => ⟨S4x2x1024, .f32⟩
  | 3 => ⟨S4x1x1024, .f32⟩
  | 4 => ⟨S4x1x1024, .f32⟩
  | 5 => ⟨S4x1x1024, .f32⟩
  | 6 => ⟨S4x1x1024, .f32⟩
  | 7 => ⟨S4x1x1024, .f32⟩
  | 8 => ⟨S4x1x1024, .f32⟩
  | 9 => ⟨S4x1x1024, .f32⟩
  | 10 => ⟨S4x1x1024, .f32⟩
  | 11 => ⟨S4x2x1024, .f32⟩
  | 12 => ⟨S4x1x1024, .f32⟩
  | 13 => ⟨S4x2x1024, .f32⟩
  | 14 => ⟨S_, .f32⟩
  | 15 => ⟨S4x4x1024, .f32⟩
  | 16 => ⟨S_, .f32⟩
  | 17 => ⟨S4x4x1024, .f32⟩
  | 18 => ⟨S4x4x1024, .f32⟩
  | 19 => ⟨S_, .f32⟩
  | 20 => ⟨S4x4x1024, .f32⟩
  | 21 => ⟨S_, .f32⟩
  | 22 => ⟨S4x4x1024, .f32⟩
  | 23 => ⟨S4x4x1024, .f32⟩
  | 24 => ⟨S4x3x1024, .f32⟩
  | 25 => ⟨S4x3x1024, .f32⟩
  | 26 => ⟨S4x3x1024, .f32⟩
  | 27 => ⟨S4x3x1024, .f32⟩
  | 28 => ⟨S4x3x1024, .f32⟩
  | 29 => ⟨S4x3x1024, .f32⟩
  | 30 => ⟨S4x3x1024, .f32⟩
  | 31 => ⟨S4x1x1024, .f32⟩
  | 32 => ⟨S4x4x1024, .f32⟩
  | 33 => ⟨S4x1x1024, .f32⟩
  | 34 => ⟨S4x4x1024, .f32⟩
  | 35 => ⟨S_, .f32⟩
  | 36 => ⟨S4x8x1024, .f32⟩
  | 37 => ⟨S_, .f32⟩
  | 38 => ⟨S4x8x1024, .f32⟩
  | 39 => ⟨S4x8x1024, .f32⟩
  | 40 => ⟨S_, .f32⟩
  | 41 => ⟨S4x8x1024, .f32⟩
  | 42 => ⟨S_, .f32⟩
  | 43 => ⟨S4x8x1024, .f32⟩
  | 44 => ⟨S4x8x1024, .f32⟩
  | 45 => ⟨S4x7x1024, .f32⟩
  | 46 => ⟨S4x7x1024, .f32⟩
  | 47 => ⟨S4x7x1024, .f32⟩
  | 48 => ⟨S4x7x1024, .f32⟩
  | 49 => ⟨S4x7x1024, .f32⟩
  | 50 => ⟨S4x7x1024, .f32⟩
  | 51 => ⟨S4x7x1024, .f32⟩
  | 52 => ⟨S4x1x1024, .f32⟩
  | 53 => ⟨S4x8x1024, .f32⟩
  | 54 => ⟨S4x1x1024, .f32⟩
  | 55 => ⟨S4x8x1024, .f32⟩
  | 56 => ⟨S_, .f32⟩
  | 57 => ⟨S4x16x1024, .f32⟩
  | 58 => ⟨S_, .f32⟩
  | 59 => ⟨S4x16x1024, .f32⟩
  | 60 => ⟨S4x16x1024, .f32⟩
  | 61 => ⟨S_, .f32⟩
  | 62 => ⟨S4x16x1024, .f32⟩
  | 63 => ⟨S_, .f32⟩
  | 64 => ⟨S4x16x1024, .f32⟩
  | 65 => ⟨S4x16x1024, .f32⟩
  | 66 => ⟨S4x15x1024, .f32⟩
  | 67 => ⟨S4x15x1024, .f32⟩
  | 68 => ⟨S4x15x1024, .f32⟩
  | 69 => ⟨S4x15x1024, .f32⟩
  | 70 => ⟨S4x15x1024, .f32⟩
  | 71 => ⟨S4x15x1024, .f32⟩
  | 72 => ⟨S4x15x1024, .f32⟩
  | 73 => ⟨S4x1x1024, .f32⟩
  | 74 => ⟨S4x16x1024, .f32⟩
  | 75 => ⟨S4x1x1024, .f32⟩
  | 76 => ⟨S4x16x1024, .f32⟩
  | 77 => ⟨S_, .f32⟩
  | 78 => ⟨S4x32x1024, .f32⟩
  | 79 => ⟨S_, .f32⟩
  | 80 => ⟨S4x32x1024, .f32⟩
  | 81 => ⟨S4x32x1024, .f32⟩
  | 82 => ⟨S_, .f32⟩
  | 83 => ⟨S4x32x1024, .f32⟩
  | 84 => ⟨S_, .f32⟩
  | 85 => ⟨S4x32x1024, .f32⟩
  | 86 => ⟨S4x32x1024, .f32⟩
  | 87 => ⟨S4x31x1024, .f32⟩
  | 88 => ⟨S4x31x1024, .f32⟩
  | 89 => ⟨S4x31x1024, .f32⟩
  | 90 => ⟨S4x31x1024, .f32⟩
  | 91 => ⟨S4x31x1024, .f32⟩
  | 92 => ⟨S4x31x1024, .f32⟩
  | 93 => ⟨S4x31x1024, .f32⟩
  | 94 => ⟨S4x1x1024, .f32⟩
  | 95 => ⟨S4x32x1024, .f32⟩
  | 96 => ⟨S4x1x1024, .f32⟩
  | 97 => ⟨S4x32x1024, .f32⟩
  | 98 => ⟨S_, .f32⟩
  | 99 => ⟨S4x64x1024, .f32⟩
  | 100 => ⟨S_, .f32⟩
  | 101 => ⟨S4x64x1024, .f32⟩
  | 102 => ⟨S4x64x1024, .f32⟩
  | 103 => ⟨S_, .f32⟩
  | 104 => ⟨S4x64x1024, .f32⟩
  | 105 => ⟨S_, .f32⟩
  | 106 => ⟨S4x64x1024, .f32⟩
  | 107 => ⟨S4x64x1024, .f32⟩
  | 108 => ⟨S4x63x1024, .f32⟩
  | 109 => ⟨S4x63x1024, .f32⟩
  | 110 => ⟨S4x63x1024, .f32⟩
  | 111 => ⟨S4x63x1024, .f32⟩
  | 112 => ⟨S4x63x1024, .f32⟩
  | 113 => ⟨S4x63x1024, .f32⟩
  | 114 => ⟨S4x63x1024, .f32⟩
  | 115 => ⟨S4x1x1024, .f32⟩
  | 116 => ⟨S4x64x1024, .f32⟩
  | 117 => ⟨S4x1x1024, .f32⟩
  | 118 => ⟨S4x64x1024, .f32⟩
  | 119 => ⟨S_, .f32⟩
  | 120 => ⟨S4x128x1024, .f32⟩
  | 121 => ⟨S_, .f32⟩
  | 122 => ⟨S4x128x1024, .f32⟩
  | 123 => ⟨S4x128x1024, .f32⟩
  | 124 => ⟨S_, .f32⟩
  | 125 => ⟨S4x128x1024, .f32⟩
  | 126 => ⟨S_, .f32⟩
  | 127 => ⟨S4x128x1024, .f32⟩
  | _ => ⟨S8192x2048, .f32⟩

abbrev hbmTy0_3 (i : Nat) : BufTy := match i % 128 with
  | 0 => ⟨S4x128x1024, .f32⟩
  | 1 => ⟨S4x127x1024, .f32⟩
  | 2 => ⟨S4x127x1024, .f32⟩
  | 3 => ⟨S4x127x1024, .f32⟩
  | 4 => ⟨S4x127x1024, .f32⟩
  | 5 => ⟨S4x127x1024, .f32⟩
  | 6 => ⟨S4x127x1024, .f32⟩
  | 7 => ⟨S4x127x1024, .f32⟩
  | 8 => ⟨S4x1x1024, .f32⟩
  | 9 => ⟨S4x128x1024, .f32⟩
  | 10 => ⟨S4x1x1024, .f32⟩
  | 11 => ⟨S4x128x1024, .f32⟩
  | 12 => ⟨S_, .f32⟩
  | 13 => ⟨S4x256x1024, .f32⟩
  | 14 => ⟨S_, .f32⟩
  | 15 => ⟨S4x256x1024, .f32⟩
  | 16 => ⟨S4x256x1024, .f32⟩
  | 17 => ⟨S_, .f32⟩
  | 18 => ⟨S4x256x1024, .f32⟩
  | 19 => ⟨S_, .f32⟩
  | 20 => ⟨S4x256x1024, .f32⟩
  | 21 => ⟨S4x256x1024, .f32⟩
  | 22 => ⟨S4x255x1024, .f32⟩
  | 23 => ⟨S4x255x1024, .f32⟩
  | 24 => ⟨S4x255x1024, .f32⟩
  | 25 => ⟨S4x255x1024, .f32⟩
  | 26 => ⟨S4x255x1024, .f32⟩
  | 27 => ⟨S4x255x1024, .f32⟩
  | 28 => ⟨S4x255x1024, .f32⟩
  | 29 => ⟨S4x1x1024, .f32⟩
  | 30 => ⟨S4x256x1024, .f32⟩
  | 31 => ⟨S4x1x1024, .f32⟩
  | 32 => ⟨S4x256x1024, .f32⟩
  | 33 => ⟨S_, .f32⟩
  | 34 => ⟨S4x512x1024, .f32⟩
  | 35 => ⟨S_, .f32⟩
  | 36 => ⟨S4x512x1024, .f32⟩
  | 37 => ⟨S4x512x1024, .f32⟩
  | 38 => ⟨S_, .f32⟩
  | 39 => ⟨S4x512x1024, .f32⟩
  | 40 => ⟨S_, .f32⟩
  | 41 => ⟨S4x512x1024, .f32⟩
  | 42 => ⟨S4x512x1024, .f32⟩
  | 43 => ⟨S4x511x1024, .f32⟩
  | 44 => ⟨S4x511x1024, .f32⟩
  | 45 => ⟨S4x511x1024, .f32⟩
  | 46 => ⟨S4x511x1024, .f32⟩
  | 47 => ⟨S4x511x1024, .f32⟩
  | 48 => ⟨S4x511x1024, .f32⟩
  | 49 => ⟨S4x511x1024, .f32⟩
  | 50 => ⟨S4x1x1024, .f32⟩
  | 51 => ⟨S4x512x1024, .f32⟩
  | 52 => ⟨S4x1x1024, .f32⟩
  | 53 => ⟨S4x512x1024, .f32⟩
  | 54 => ⟨S_, .f32⟩
  | 55 => ⟨S4x1024x1024, .f32⟩
  | 56 => ⟨S_, .f32⟩
  | 57 => ⟨S4x1024x1024, .f32⟩
  | 58 => ⟨S4x1024x1024, .f32⟩
  | 59 => ⟨S_, .f32⟩
  | 60 => ⟨S4x1024x1024, .f32⟩
  | 61 => ⟨S_, .f32⟩
  | 62 => ⟨S4x1024x1024, .f32⟩
  | 63 => ⟨S4x1024x1024, .f32⟩
  | 64 => ⟨S4x1023x1024, .f32⟩
  | 65 => ⟨S4x1023x1024, .f32⟩
  | 66 => ⟨S4x1023x1024, .f32⟩
  | 67 => ⟨S4x1023x1024, .f32⟩
  | 68 => ⟨S4x1023x1024, .f32⟩
  | 69 => ⟨S4x1023x1024, .f32⟩
  | 70 => ⟨S4x1023x1024, .f32⟩
  | 71 => ⟨S4x1x1024, .f32⟩
  | 72 => ⟨S4x1024x1024, .f32⟩
  | 73 => ⟨S4x1x1024, .f32⟩
  | 74 => ⟨S4x1024x1024, .f32⟩
  | 75 => ⟨S_, .f32⟩
  | 76 => ⟨S4x2048x1024, .f32⟩
  | 77 => ⟨S_, .f32⟩
  | 78 => ⟨S4x2048x1024, .f32⟩
  | 79 => ⟨S4x2048x1024, .f32⟩
  | 80 => ⟨S_, .f32⟩
  | 81 => ⟨S4x2048x1024, .f32⟩
  | 82 => ⟨S_, .f32⟩
  | 83 => ⟨S4x2048x1024, .f32⟩
  | 84 => ⟨S4x2048x1024, .f32⟩
  | 85 => ⟨S4x2048x1024, .f32⟩
  | 86 => ⟨S4x2048x1024, .f32⟩
  | 87 => ⟨S_, .f32⟩
  | 88 => ⟨S4x2048x1024, .f32⟩
  | 89 => ⟨S4x2048x1024, .f32⟩
  | 90 => ⟨S_, .f32⟩
  | 91 => ⟨S4x2048x1024, .f32⟩
  | 92 => ⟨S4x2048x1024, .f32⟩
  | 93 => ⟨S4x2048x1024, .f32⟩
  | 94 => ⟨S4x2048x1024, .f32⟩
  | 95 => ⟨S4x16x128x2x8x64, .f32⟩
  | 96 => ⟨S4x16x128x2x64, .f32⟩
  | 97 => ⟨S4x16x128x2x64, .f32⟩
  | 98 => ⟨S4x1x128x2x64, .f32⟩
  | 99 => ⟨S_, .f32⟩
  | 100 => ⟨S4x1x128x2x64, .f32⟩
  | 101 => ⟨S4x15x128x2x64, .f32⟩
  | 102 => ⟨S4x16x128x2x64, .f32⟩
  | 103 => ⟨S4x16x256x2x64, .f32⟩
  | 104 => ⟨S4x16x2x256x128x8, .f32⟩
  | 105 => ⟨S4x16x2x8x128x256, .f32⟩
  | 106 => ⟨S_, .f32⟩
  | 107 => ⟨S4x16x2x8x128x256, .f32⟩
  | 108 => ⟨S4x16x2x8x128x256, .f32⟩
  | 109 => ⟨S2x8x128x256, .f32⟩
  | 110 => ⟨S1x1x2x8x128x256, .f32⟩
  | 111 => ⟨S4x16x2x8x128x256, .f32⟩
  | 112 => ⟨S4x16x2x8x128x256, .f32⟩
  | 113 => ⟨S16, .i32⟩
  | 114 => ⟨S16x1, .i32⟩
  | 115 => ⟨S_, .i32⟩
  | 116 => ⟨S16x1, .i32⟩
  | 117 => ⟨S16x1, .i32⟩
  | 118 => ⟨S256, .i32⟩
  | 119 => ⟨S1x256, .i32⟩
  | 120 => ⟨S16x256, .i32⟩
  | 121 => ⟨S16x256, .i32⟩
  | 122 => ⟨S16x256, .i32⟩
  | 123 => ⟨S_, .i32⟩
  | 124 => ⟨S16x256, .i32⟩
  | 125 => ⟨S16x256, .i32⟩
  | 126 => ⟨S_, .i32⟩
  | 127 => ⟨S16x256, .i32⟩
  | _ => ⟨S8192x2048, .f32⟩

abbrev hbmTy0_4 (i : Nat) : BufTy := match i % 128 with
  | 0 => ⟨S16x256, .i1⟩
  | 1 => ⟨S1x16x1x1x1x256, .i1⟩
  | 2 => ⟨S_, .f32⟩
  | 3 => ⟨S_, .f32⟩
  | 4 => ⟨S4x16x2x8x128x256, .i1⟩
  | 5 => ⟨S4x16x2x8x128x256, .f32⟩
  | 6 => ⟨S4x16x2x8x128x256, .f32⟩
  | 7 => ⟨S2x8, .f32⟩
  | 8 => ⟨S1x1x2x8x1x1, .f32⟩
  | 9 => ⟨S_, .f32⟩
  | 10 => ⟨S4x16x2x8x128, .f32⟩
  | 11 => ⟨S4x16x2x8x128x1, .f32⟩
  | 12 => ⟨S4x16x2x8x128x1, .f32⟩
  | 13 => ⟨S4x16x2x8x128x1, .f32⟩
  | 14 => ⟨S4x16x2x8x128x256, .f32⟩
  | 15 => ⟨S4x16x2x8x128x256, .f32⟩
  | 16 => ⟨S4x16x2x8x128x256, .f32⟩
  | 17 => ⟨S_, .f32⟩
  | 18 => ⟨S4x16x2x8x128, .f32⟩
  | 19 => ⟨S4x16x2x8x128x1, .f32⟩
  | 20 => ⟨S4x16x2x8x128x1, .f32⟩
  | 21 => ⟨S4x16x2x8x128x1, .f32⟩
  | 22 => ⟨S4x16x2x8x128x1, .f32⟩
  | 23 => ⟨S4x16x2x8x128x1, .f32⟩
  | 24 => ⟨S4x16x2x8x128x256, .f32⟩
  | 25 => ⟨S4x16x2x8x128x256, .f32⟩
  | 26 => ⟨S4x1x128x2x64, .f32⟩
  | 27 => ⟨S_, .f32⟩
  | 28 => ⟨S4x1x128x2x64, .f32⟩
  | 29 => ⟨S4x15x128x2x64, .f32⟩
  | 30 => ⟨S4x16x128x2x64, .f32⟩
  | 31 => ⟨S4x16x256x2x64, .f32⟩
  | 32 => ⟨S4x16x2x64x8x128, .f32⟩
  | 33 => ⟨S4x16x128x2x8x64, .f32⟩
  | 34 => ⟨S4x2048x1024, .f32⟩
  | 35 => ⟨S4x2048x1024, .f32⟩
  | 36 => ⟨S4x2048x1024, .f32⟩
  | 37 => ⟨S_, .f32⟩
  | 38 => ⟨S4x2048x1024, .f32⟩
  | 39 => ⟨S4x2048x1024, .f32⟩
  | 40 => ⟨S_, .f32⟩
  | 41 => ⟨S4x2048x1024, .f32⟩
  | 42 => ⟨S4x2048x1024, .f32⟩
  | 43 => ⟨S4x2048x1024, .f32⟩
  | 44 => ⟨S4x2048x1024, .f32⟩
  | 45 => ⟨S4x1024x256, .f32⟩
  | 46 => ⟨S4x256x1024, .f32⟩
  | 47 => ⟨S4x256x1024, .f32⟩
  | 48 => ⟨S4x2048x4x256, .f32⟩
  | 49 => ⟨S4x256x4x256, .f32⟩
  | 50 => ⟨S4x256x4x256, .f32⟩
  | 51 => ⟨S4x4x2048x256, .f32⟩
  | 52 => ⟨S_, .f32⟩
  | 53 => ⟨S4x4x2048x256, .f32⟩
  | 54 => ⟨S4x4x2048x256, .f32⟩
  | 55 => ⟨S_, .f32⟩
  | 56 => ⟨S4x4x2048, .f32⟩
  | 57 => ⟨S4x4x2048x1, .f32⟩
  | 58 => ⟨S4x4x2048x256, .f32⟩
  | 59 => ⟨S4x4x2048x256, .f32⟩
  | 60 => ⟨S4x4x2048x256, .f32⟩
  | 61 => ⟨S_, .f32⟩
  | 62 => ⟨S4x4x2048, .f32⟩
  | 63 => ⟨S4x4x2048x1, .f32⟩
  | 64 => ⟨S4x4x2048x256, .f32⟩
  | 65 => ⟨S4x4x2048x256, .f32⟩
  | 66 => ⟨S4x4x256x2048, .f32⟩
  | 67 => ⟨S4x2048x4x256, .f32⟩
  | 68 => ⟨S4x2048x1024, .f32⟩
  | 69 => ⟨S4x2048x1024, .f32⟩
  | 70 => ⟨S4x2048x1024, .f32⟩
  | 71 => ⟨S_, .f32⟩
  | 72 => ⟨S4x2048x1024, .f32⟩
  | 73 => ⟨S4x2048x1024, .f32⟩
  | 74 => ⟨S_, .f32⟩
  | 75 => ⟨S4x2048x1024, .f32⟩
  | 76 => ⟨S4x2048x1024, .f32⟩
  | 77 => ⟨S4x2048x1024, .f32⟩
  | 78 => ⟨S4x2048x1024, .f32⟩
  | 79 => ⟨S2048x6144, .f32⟩
  | 80 => ⟨S2048x6144, .bf16⟩
  | 81 => ⟨S1x1024x2048, .f32⟩
  | 82 => ⟨S1x1024x2048, .f32⟩
  | 83 => ⟨S1x1024x2048, .f32⟩
  | 84 => ⟨S3x1024x2048, .f32⟩
  | 85 => ⟨S3x1024x2048, .bf16⟩
  | 86 => ⟨S8192x1024, .f32⟩
  | 87 => ⟨S8192x1024, .bf16⟩
  | 88 => ⟨S8192x1024, .f32⟩
  | 89 => ⟨S8192x1024, .bf16⟩
  | 90 => ⟨S8192x1024, .f32⟩
  | 91 => ⟨S8192x1024, .bf16⟩
  | 92 => ⟨S2048x2048, .bf16⟩
  | _ => ⟨S8192x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c : Ref sig .tc := ⟨.hbm, 56, rfl⟩
abbrev main_call0_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_2 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_3 : Ref sig .tc := ⟨.hbm, 101, rfl⟩
abbrev main_v76 : Ref sig .tc := ⟨.hbm, 102, rfl⟩
abbrev main_v77 : Ref sig .tc := ⟨.hbm, 103, rfl⟩
abbrev main_cst_4 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_5 : Ref sig .tc := ⟨.hbm, 115, rfl⟩
abbrev main_v88 : Ref sig .tc := ⟨.hbm, 116, rfl⟩
abbrev main_v89 : Ref sig .tc := ⟨.hbm, 117, rfl⟩
abbrev main_cst_6 : Ref sig .tc := ⟨.hbm, 118, rfl⟩
abbrev main_v90 : Ref sig .tc := ⟨.hbm, 119, rfl⟩
abbrev main_v91 : Ref sig .tc := ⟨.hbm, 120, rfl⟩
abbrev main_cst_7 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_call1_cst : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_call1_v3 : Ref sig .tc := ⟨.hbm, 129, rfl⟩
abbrev main_call1_v4 : Ref sig .tc := ⟨.hbm, 130, rfl⟩
abbrev main_call1_v5 : Ref sig .tc := ⟨.hbm, 131, rfl⟩
abbrev main_call1_v6 : Ref sig .tc := ⟨.hbm, 132, rfl⟩
abbrev main_call1_v7 : Ref sig .tc := ⟨.hbm, 133, rfl⟩
abbrev main_call1_v8 : Ref sig .tc := ⟨.hbm, 134, rfl⟩
abbrev main_call1_v9 : Ref sig .tc := ⟨.hbm, 135, rfl⟩
abbrev main_call1_v10 : Ref sig .tc := ⟨.hbm, 136, rfl⟩
abbrev main_call1_v11 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_8 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c_9 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_10 : Ref sig .tc := ⟨.hbm, 154, rfl⟩
abbrev main_call2_v0 : Ref sig .tc := ⟨.hbm, 155, rfl⟩
abbrev main_call2_v1 : Ref sig .tc := ⟨.hbm, 156, rfl⟩
abbrev main_call2_v2 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_cst_11 : Ref sig .tc := ⟨.hbm, 249, rfl⟩
abbrev main_v200 : Ref sig .tc := ⟨.hbm, 250, rfl⟩
abbrev main_cst_12 : Ref sig .tc := ⟨.hbm, 251, rfl⟩
abbrev main_v201 : Ref sig .tc := ⟨.hbm, 252, rfl⟩
abbrev main_v202 : Ref sig .tc := ⟨.hbm, 253, rfl⟩
abbrev main_cst_13 : Ref sig .tc := ⟨.hbm, 254, rfl⟩
abbrev main_v203 : Ref sig .tc := ⟨.hbm, 255, rfl⟩
abbrev main_cst_14 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_cst_15 : Ref sig .tc := ⟨.hbm, 270, rfl⟩
abbrev main_v217 : Ref sig .tc := ⟨.hbm, 271, rfl⟩
abbrev main_cst_16 : Ref sig .tc := ⟨.hbm, 272, rfl⟩
abbrev main_v218 : Ref sig .tc := ⟨.hbm, 273, rfl⟩
abbrev main_v219 : Ref sig .tc := ⟨.hbm, 274, rfl⟩
abbrev main_cst_17 : Ref sig .tc := ⟨.hbm, 275, rfl⟩
abbrev main_v220 : Ref sig .tc := ⟨.hbm, 276, rfl⟩
abbrev main_cst_18 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_cst_19 : Ref sig .tc := ⟨.hbm, 291, rfl⟩
abbrev main_v234 : Ref sig .tc := ⟨.hbm, 292, rfl⟩
abbrev main_cst_20 : Ref sig .tc := ⟨.hbm, 293, rfl⟩
abbrev main_v235 : Ref sig .tc := ⟨.hbm, 294, rfl⟩
abbrev main_v236 : Ref sig .tc := ⟨.hbm, 295, rfl⟩
abbrev main_cst_21 : Ref sig .tc := ⟨.hbm, 296, rfl⟩
abbrev main_v237 : Ref sig .tc := ⟨.hbm, 297, rfl⟩
abbrev main_cst_22 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_cst_23 : Ref sig .tc := ⟨.hbm, 312, rfl⟩
abbrev main_v251 : Ref sig .tc := ⟨.hbm, 313, rfl⟩
abbrev main_cst_24 : Ref sig .tc := ⟨.hbm, 314, rfl⟩
abbrev main_v252 : Ref sig .tc := ⟨.hbm, 315, rfl⟩
abbrev main_v253 : Ref sig .tc := ⟨.hbm, 316, rfl⟩
abbrev main_cst_25 : Ref sig .tc := ⟨.hbm, 317, rfl⟩
abbrev main_v254 : Ref sig .tc := ⟨.hbm, 318, rfl⟩
abbrev main_cst_26 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_cst_27 : Ref sig .tc := ⟨.hbm, 333, rfl⟩
abbrev main_v268 : Ref sig .tc := ⟨.hbm, 334, rfl⟩
abbrev main_cst_28 : Ref sig .tc := ⟨.hbm, 335, rfl⟩
abbrev main_v269 : Ref sig .tc := ⟨.hbm, 336, rfl⟩
abbrev main_v270 : Ref sig .tc := ⟨.hbm, 337, rfl⟩
abbrev main_cst_29 : Ref sig .tc := ⟨.hbm, 338, rfl⟩
abbrev main_v271 : Ref sig .tc := ⟨.hbm, 339, rfl⟩
abbrev main_cst_30 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_v277 : Ref sig .tc := ⟨.hbm, 346, rfl⟩
abbrev main_v278 : Ref sig .tc := ⟨.hbm, 347, rfl⟩
abbrev main_v279 : Ref sig .tc := ⟨.hbm, 348, rfl⟩
abbrev main_v280 : Ref sig .tc := ⟨.hbm, 349, rfl⟩
abbrev main_v281 : Ref sig .tc := ⟨.hbm, 350, rfl⟩
abbrev main_v282 : Ref sig .tc := ⟨.hbm, 351, rfl⟩
abbrev main_v283 : Ref sig .tc := ⟨.hbm, 352, rfl⟩
abbrev main_v284 : Ref sig .tc := ⟨.hbm, 353, rfl⟩
abbrev main_cst_31 : Ref sig .tc := ⟨.hbm, 354, rfl⟩
abbrev main_v285 : Ref sig .tc := ⟨.hbm, 355, rfl⟩
abbrev main_cst_32 : Ref sig .tc := ⟨.hbm, 356, rfl⟩
abbrev main_v286 : Ref sig .tc := ⟨.hbm, 357, rfl⟩
abbrev main_v287 : Ref sig .tc := ⟨.hbm, 358, rfl⟩
abbrev main_cst_33 : Ref sig .tc := ⟨.hbm, 359, rfl⟩
abbrev main_v288 : Ref sig .tc := ⟨.hbm, 360, rfl⟩
abbrev main_cst_34 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_v292 : Ref sig .tc := ⟨.hbm, 365, rfl⟩
abbrev main_v293 : Ref sig .tc := ⟨.hbm, 366, rfl⟩
abbrev main_v294 : Ref sig .tc := ⟨.hbm, 367, rfl⟩
abbrev main_v295 : Ref sig .tc := ⟨.hbm, 368, rfl⟩
abbrev main_v296 : Ref sig .tc := ⟨.hbm, 369, rfl⟩
abbrev main_v297 : Ref sig .tc := ⟨.hbm, 370, rfl⟩
abbrev main_v298 : Ref sig .tc := ⟨.hbm, 371, rfl⟩
abbrev main_v299 : Ref sig .tc := ⟨.hbm, 372, rfl⟩
abbrev main_v300 : Ref sig .tc := ⟨.hbm, 373, rfl⟩
abbrev main_v301 : Ref sig .tc := ⟨.hbm, 374, rfl⟩
abbrev main_cst_35 : Ref sig .tc := ⟨.hbm, 375, rfl⟩
abbrev main_v302 : Ref sig .tc := ⟨.hbm, 376, rfl⟩
abbrev main_cst_36 : Ref sig .tc := ⟨.hbm, 377, rfl⟩
abbrev main_v303 : Ref sig .tc := ⟨.hbm, 378, rfl⟩
abbrev main_v304 : Ref sig .tc := ⟨.hbm, 379, rfl⟩
abbrev main_cst_37 : Ref sig .tc := ⟨.hbm, 380, rfl⟩
abbrev main_v305 : Ref sig .tc := ⟨.hbm, 381, rfl⟩
abbrev main_cst_38 : Ref sig .tc := ⟨.hbm, 382, rfl⟩
abbrev main_v306 : Ref sig .tc := ⟨.hbm, 383, rfl⟩
abbrev main_v307 : Ref sig .tc := ⟨.hbm, 384, rfl⟩
abbrev main_v308 : Ref sig .tc := ⟨.hbm, 385, rfl⟩
abbrev main_v309 : Ref sig .tc := ⟨.hbm, 386, rfl⟩
abbrev main_v310 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_v314 : Ref sig .tc := ⟨.hbm, 391, rfl⟩
abbrev main_v315 : Ref sig .tc := ⟨.hbm, 392, rfl⟩
abbrev main_v316 : Ref sig .tc := ⟨.hbm, 393, rfl⟩
abbrev main_v317 : Ref sig .tc := ⟨.hbm, 394, rfl⟩
abbrev main_v318 : Ref sig .tc := ⟨.hbm, 395, rfl⟩
abbrev main_cst_39 : Ref sig .tc := ⟨.hbm, 396, rfl⟩
abbrev main_v319 : Ref sig .tc := ⟨.hbm, 397, rfl⟩
abbrev main_cst_40 : Ref sig .tc := ⟨.hbm, 398, rfl⟩
abbrev main_v320 : Ref sig .tc := ⟨.hbm, 399, rfl⟩
abbrev main_v321 : Ref sig .tc := ⟨.hbm, 400, rfl⟩
abbrev main_cst_41 : Ref sig .tc := ⟨.hbm, 401, rfl⟩
abbrev main_v322 : Ref sig .tc := ⟨.hbm, 402, rfl⟩
abbrev main_cst_42 : Ref sig .tc := ⟨.hbm, 403, rfl⟩
abbrev main_v323 : Ref sig .tc := ⟨.hbm, 404, rfl⟩
abbrev main_v324 : Ref sig .tc := ⟨.hbm, 405, rfl⟩
abbrev main_v325 : Ref sig .tc := ⟨.hbm, 406, rfl⟩
abbrev main_v326 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_v332 : Ref sig .tc := ⟨.hbm, 413, rfl⟩
abbrev main_v333 : Ref sig .tc := ⟨.hbm, 414, rfl⟩
abbrev main_v334 : Ref sig .tc := ⟨.hbm, 415, rfl⟩
abbrev main_v335 : Ref sig .tc := ⟨.hbm, 416, rfl⟩
abbrev main_cst_43 : Ref sig .tc := ⟨.hbm, 417, rfl⟩
abbrev main_v336 : Ref sig .tc := ⟨.hbm, 418, rfl⟩
abbrev main_cst_44 : Ref sig .tc := ⟨.hbm, 419, rfl⟩
abbrev main_v337 : Ref sig .tc := ⟨.hbm, 420, rfl⟩
abbrev main_v338 : Ref sig .tc := ⟨.hbm, 421, rfl⟩
abbrev main_cst_45 : Ref sig .tc := ⟨.hbm, 422, rfl⟩
abbrev main_v339 : Ref sig .tc := ⟨.hbm, 423, rfl⟩
abbrev main_cst_46 : Ref sig .tc := ⟨.hbm, 424, rfl⟩
abbrev main_v340 : Ref sig .tc := ⟨.hbm, 425, rfl⟩
abbrev main_v341 : Ref sig .tc := ⟨.hbm, 426, rfl⟩
abbrev main_v342 : Ref sig .tc := ⟨.hbm, 427, rfl⟩
abbrev main_v343 : Ref sig .tc := ⟨.hbm, 428, rfl⟩
abbrev main_v344 : Ref sig .tc := ⟨.hbm, 429, rfl⟩
abbrev main_v345 : Ref sig .tc := ⟨.hbm, 430, rfl⟩
abbrev main_v346 : Ref sig .tc := ⟨.hbm, 431, rfl⟩
abbrev main_v347 : Ref sig .tc := ⟨.hbm, 432, rfl⟩
abbrev main_v348 : Ref sig .tc := ⟨.hbm, 433, rfl⟩
abbrev main_v349 : Ref sig .tc := ⟨.hbm, 434, rfl⟩
abbrev main_v350 : Ref sig .tc := ⟨.hbm, 435, rfl⟩
abbrev main_v351 : Ref sig .tc := ⟨.hbm, 436, rfl⟩
abbrev main_v352 : Ref sig .tc := ⟨.hbm, 437, rfl⟩
abbrev main_cst_47 : Ref sig .tc := ⟨.hbm, 438, rfl⟩
abbrev main_v353 : Ref sig .tc := ⟨.hbm, 439, rfl⟩
abbrev main_cst_48 : Ref sig .tc := ⟨.hbm, 440, rfl⟩
abbrev main_v354 : Ref sig .tc := ⟨.hbm, 441, rfl⟩
abbrev main_v355 : Ref sig .tc := ⟨.hbm, 442, rfl⟩
abbrev main_cst_49 : Ref sig .tc := ⟨.hbm, 443, rfl⟩
abbrev main_v356 : Ref sig .tc := ⟨.hbm, 444, rfl⟩
abbrev main_cst_50 : Ref sig .tc := ⟨.hbm, 445, rfl⟩
abbrev main_v357 : Ref sig .tc := ⟨.hbm, 446, rfl⟩
abbrev main_v358 : Ref sig .tc := ⟨.hbm, 447, rfl⟩
abbrev main_v359 : Ref sig .tc := ⟨.hbm, 448, rfl⟩
abbrev main_v360 : Ref sig .tc := ⟨.hbm, 449, rfl⟩
abbrev main_v361 : Ref sig .tc := ⟨.hbm, 450, rfl⟩
abbrev main_v362 : Ref sig .tc := ⟨.hbm, 451, rfl⟩
abbrev main_v363 : Ref sig .tc := ⟨.hbm, 452, rfl⟩
abbrev main_v364 : Ref sig .tc := ⟨.hbm, 453, rfl⟩
abbrev main_v365 : Ref sig .tc := ⟨.hbm, 454, rfl⟩
abbrev main_v366 : Ref sig .tc := ⟨.hbm, 455, rfl⟩
abbrev main_v367 : Ref sig .tc := ⟨.hbm, 456, rfl⟩
abbrev main_v368 : Ref sig .tc := ⟨.hbm, 457, rfl⟩
abbrev main_v369 : Ref sig .tc := ⟨.hbm, 458, rfl⟩
abbrev main_cst_51 : Ref sig .tc := ⟨.hbm, 459, rfl⟩
abbrev main_v370 : Ref sig .tc := ⟨.hbm, 460, rfl⟩
abbrev main_cst_52 : Ref sig .tc := ⟨.hbm, 461, rfl⟩
abbrev main_v371 : Ref sig .tc := ⟨.hbm, 462, rfl⟩
abbrev main_v372 : Ref sig .tc := ⟨.hbm, 463, rfl⟩
abbrev main_cst_53 : Ref sig .tc := ⟨.hbm, 464, rfl⟩
abbrev main_v373 : Ref sig .tc := ⟨.hbm, 465, rfl⟩
abbrev main_cst_54 : Ref sig .tc := ⟨.hbm, 466, rfl⟩
abbrev main_v374 : Ref sig .tc := ⟨.hbm, 467, rfl⟩
abbrev main_v375 : Ref sig .tc := ⟨.hbm, 468, rfl⟩
abbrev main_v376 : Ref sig .tc := ⟨.hbm, 469, rfl⟩
abbrev main_v377 : Ref sig .tc := ⟨.hbm, 470, rfl⟩
abbrev main_cst_55 : Ref sig .tc := ⟨.hbm, 471, rfl⟩
abbrev main_v378 : Ref sig .tc := ⟨.hbm, 472, rfl⟩
abbrev main_v379 : Ref sig .tc := ⟨.hbm, 473, rfl⟩
abbrev main_cst_56 : Ref sig .tc := ⟨.hbm, 474, rfl⟩
abbrev main_v380 : Ref sig .tc := ⟨.hbm, 475, rfl⟩
abbrev main_v381 : Ref sig .tc := ⟨.hbm, 476, rfl⟩
abbrev main_v382 : Ref sig .tc := ⟨.hbm, 477, rfl⟩
abbrev main_v383 : Ref sig .tc := ⟨.hbm, 478, rfl⟩
abbrev main_v384 : Ref sig .tc := ⟨.hbm, 479, rfl⟩
abbrev main_v385 : Ref sig .tc := ⟨.hbm, 480, rfl⟩
abbrev main_v386 : Ref sig .tc := ⟨.hbm, 481, rfl⟩
abbrev main_v387 : Ref sig .tc := ⟨.hbm, 482, rfl⟩
abbrev main_cst_57 : Ref sig .tc := ⟨.hbm, 483, rfl⟩
abbrev main_v388 : Ref sig .tc := ⟨.hbm, 484, rfl⟩
abbrev main_v389 : Ref sig .tc := ⟨.hbm, 485, rfl⟩
abbrev main_v390 : Ref sig .tc := ⟨.hbm, 486, rfl⟩
abbrev main_v391 : Ref sig .tc := ⟨.hbm, 487, rfl⟩
abbrev main_v392 : Ref sig .tc := ⟨.hbm, 488, rfl⟩
abbrev main_v393 : Ref sig .tc := ⟨.hbm, 489, rfl⟩
abbrev main_cst_58 : Ref sig .tc := ⟨.hbm, 490, rfl⟩
abbrev main_v394 : Ref sig .tc := ⟨.hbm, 491, rfl⟩
abbrev main_v395 : Ref sig .tc := ⟨.hbm, 492, rfl⟩
abbrev main_v396 : Ref sig .tc := ⟨.hbm, 493, rfl⟩
abbrev main_v397 : Ref sig .tc := ⟨.hbm, 494, rfl⟩
abbrev main_v398 : Ref sig .tc := ⟨.hbm, 495, rfl⟩
abbrev main_v399 : Ref sig .tc := ⟨.hbm, 496, rfl⟩
abbrev main_v400 : Ref sig .tc := ⟨.hbm, 497, rfl⟩
abbrev main_v401 : Ref sig .tc := ⟨.hbm, 498, rfl⟩
abbrev main_c_59 : Ref sig .tc := ⟨.hbm, 499, rfl⟩
abbrev main_v402 : Ref sig .tc := ⟨.hbm, 500, rfl⟩
abbrev main_v403 : Ref sig .tc := ⟨.hbm, 501, rfl⟩
abbrev main_v404 : Ref sig .tc := ⟨.hbm, 502, rfl⟩
abbrev main_v405 : Ref sig .tc := ⟨.hbm, 503, rfl⟩
abbrev main_v406 : Ref sig .tc := ⟨.hbm, 504, rfl⟩
abbrev main_v407 : Ref sig .tc := ⟨.hbm, 505, rfl⟩
abbrev main_v408 : Ref sig .tc := ⟨.hbm, 506, rfl⟩
abbrev main_c_60 : Ref sig .tc := ⟨.hbm, 507, rfl⟩
abbrev main_v409 : Ref sig .tc := ⟨.hbm, 508, rfl⟩
abbrev main_v410 : Ref sig .tc := ⟨.hbm, 509, rfl⟩
abbrev main_c_61 : Ref sig .tc := ⟨.hbm, 510, rfl⟩
abbrev main_v411 : Ref sig .tc := ⟨.hbm, 511, rfl⟩
abbrev main_v412 : Ref sig .tc := ⟨.hbm, 512, rfl⟩
abbrev main_v413 : Ref sig .tc := ⟨.hbm, 513, rfl⟩
abbrev main_cst_62 : Ref sig .tc := ⟨.hbm, 514, rfl⟩
abbrev main_call3_v0 : Ref sig .tc := ⟨.hbm, 515, rfl⟩
abbrev main_call3_v1 : Ref sig .tc := ⟨.hbm, 516, rfl⟩
abbrev main_call3_v2 : Ref sig .tc := ⟨.hbm, 517, rfl⟩
abbrev main_v414 : Ref sig .tc := ⟨.hbm, 518, rfl⟩
abbrev main_v415 : Ref sig .tc := ⟨.hbm, 519, rfl⟩
abbrev main_v416 : Ref sig .tc := ⟨.hbm, 520, rfl⟩
abbrev main_cst_63 : Ref sig .tc := ⟨.hbm, 521, rfl⟩
abbrev main_v417 : Ref sig .tc := ⟨.hbm, 522, rfl⟩
abbrev main_v418 : Ref sig .tc := ⟨.hbm, 523, rfl⟩
abbrev main_v419 : Ref sig .tc := ⟨.hbm, 524, rfl⟩
abbrev main_v420 : Ref sig .tc := ⟨.hbm, 525, rfl⟩
abbrev main_v421 : Ref sig .tc := ⟨.hbm, 526, rfl⟩
abbrev main_v422 : Ref sig .tc := ⟨.hbm, 527, rfl⟩
abbrev main_v423 : Ref sig .tc := ⟨.hbm, 528, rfl⟩
abbrev main_cst_64 : Ref sig .tc := ⟨.hbm, 529, rfl⟩
abbrev main_v424 : Ref sig .tc := ⟨.hbm, 530, rfl⟩
abbrev main_v425 : Ref sig .tc := ⟨.hbm, 531, rfl⟩
abbrev main_v426 : Ref sig .tc := ⟨.hbm, 532, rfl⟩
abbrev main_v427 : Ref sig .tc := ⟨.hbm, 533, rfl⟩
abbrev main_v428 : Ref sig .tc := ⟨.hbm, 534, rfl⟩
abbrev main_v429 : Ref sig .tc := ⟨.hbm, 535, rfl⟩
abbrev main_v430 : Ref sig .tc := ⟨.hbm, 536, rfl⟩
abbrev main_v431 : Ref sig .tc := ⟨.hbm, 537, rfl⟩
abbrev main_v432 : Ref sig .tc := ⟨.hbm, 538, rfl⟩
abbrev main_cst_65 : Ref sig .tc := ⟨.hbm, 539, rfl⟩
abbrev main_v433 : Ref sig .tc := ⟨.hbm, 540, rfl⟩
abbrev main_v434 : Ref sig .tc := ⟨.hbm, 541, rfl⟩
abbrev main_v435 : Ref sig .tc := ⟨.hbm, 542, rfl⟩
abbrev main_v436 : Ref sig .tc := ⟨.hbm, 543, rfl⟩
abbrev main_v437 : Ref sig .tc := ⟨.hbm, 544, rfl⟩
abbrev main_v438 : Ref sig .tc := ⟨.hbm, 545, rfl⟩
abbrev main_v439 : Ref sig .tc := ⟨.hbm, 546, rfl⟩
abbrev main_v440 : Ref sig .tc := ⟨.hbm, 547, rfl⟩
abbrev main_v441 : Ref sig .tc := ⟨.hbm, 548, rfl⟩
abbrev main_cst_66 : Ref sig .tc := ⟨.hbm, 549, rfl⟩
abbrev main_v442 : Ref sig .tc := ⟨.hbm, 550, rfl⟩
abbrev main_v443 : Ref sig .tc := ⟨.hbm, 551, rfl⟩
abbrev main_cst_67 : Ref sig .tc := ⟨.hbm, 552, rfl⟩
abbrev main_v444 : Ref sig .tc := ⟨.hbm, 553, rfl⟩
abbrev main_v445 : Ref sig .tc := ⟨.hbm, 554, rfl⟩
abbrev main_v446 : Ref sig .tc := ⟨.hbm, 555, rfl⟩
abbrev main_v447 : Ref sig .tc := ⟨.hbm, 556, rfl⟩
abbrev main_v448 : Ref sig .tc := ⟨.hbm, 557, rfl⟩
abbrev main_v449 : Ref sig .tc := ⟨.hbm, 558, rfl⟩
abbrev main_v450 : Ref sig .tc := ⟨.hbm, 559, rfl⟩
abbrev main_v451 : Ref sig .tc := ⟨.hbm, 560, rfl⟩
abbrev main_v452 : Ref sig .tc := ⟨.hbm, 561, rfl⟩
abbrev main_v453 : Ref sig .tc := ⟨.hbm, 562, rfl⟩
abbrev main_v454 : Ref sig .tc := ⟨.hbm, 563, rfl⟩
abbrev main_cst_68 : Ref sig .tc := ⟨.hbm, 564, rfl⟩
abbrev main_v455 : Ref sig .tc := ⟨.hbm, 565, rfl⟩
abbrev main_v456 : Ref sig .tc := ⟨.hbm, 566, rfl⟩
abbrev main_cst_69 : Ref sig .tc := ⟨.hbm, 567, rfl⟩
abbrev main_v457 : Ref sig .tc := ⟨.hbm, 568, rfl⟩
abbrev main_v458 : Ref sig .tc := ⟨.hbm, 569, rfl⟩
abbrev main_v459 : Ref sig .tc := ⟨.hbm, 570, rfl⟩
abbrev main_v460 : Ref sig .tc := ⟨.hbm, 571, rfl⟩
abbrev main_v461 : Ref sig .tc := ⟨.hbm, 572, rfl⟩
abbrev main_cst_70 : Ref sig .tc := ⟨.hbm, 573, rfl⟩
abbrev main_v462 : Ref sig .tc := ⟨.hbm, 574, rfl⟩
abbrev main_v463 : Ref sig .tc := ⟨.hbm, 575, rfl⟩
abbrev main_v464 : Ref sig .tc := ⟨.hbm, 576, rfl⟩
abbrev main_v465 : Ref sig .tc := ⟨.hbm, 577, rfl⟩
abbrev main_v466 : Ref sig .tc := ⟨.hbm, 578, rfl⟩
abbrev main_v467 : Ref sig .tc := ⟨.hbm, 579, rfl⟩
abbrev main_v468 : Ref sig .tc := ⟨.hbm, 580, rfl⟩
abbrev main_v469 : Ref sig .tc := ⟨.hbm, 581, rfl⟩
abbrev main_v470 : Ref sig .tc := ⟨.hbm, 582, rfl⟩
abbrev main_cst_71 : Ref sig .tc := ⟨.hbm, 583, rfl⟩
abbrev main_v471 : Ref sig .tc := ⟨.hbm, 584, rfl⟩
abbrev main_v472 : Ref sig .tc := ⟨.hbm, 585, rfl⟩
abbrev main_cst_72 : Ref sig .tc := ⟨.hbm, 586, rfl⟩
abbrev main_v473 : Ref sig .tc := ⟨.hbm, 587, rfl⟩
abbrev main_v474 : Ref sig .tc := ⟨.hbm, 588, rfl⟩
abbrev main_v475 : Ref sig .tc := ⟨.hbm, 589, rfl⟩
abbrev main_v476 : Ref sig .tc := ⟨.hbm, 590, rfl⟩
abbrev main_v477 : Ref sig .tc := ⟨.hbm, 591, rfl⟩
abbrev main_v478 : Ref sig .tc := ⟨.hbm, 592, rfl⟩
abbrev main_v479 : Ref sig .tc := ⟨.hbm, 593, rfl⟩
abbrev main_v480 : Ref sig .tc := ⟨.hbm, 594, rfl⟩
abbrev main_v481 : Ref sig .tc := ⟨.hbm, 595, rfl⟩
abbrev main_v482 : Ref sig .tc := ⟨.hbm, 596, rfl⟩
abbrev main_v483 : Ref sig .tc := ⟨.hbm, 597, rfl⟩
abbrev main_v484 : Ref sig .tc := ⟨.hbm, 598, rfl⟩
abbrev main_v485 : Ref sig .tc := ⟨.hbm, 599, rfl⟩
abbrev main_v486 : Ref sig .tc := ⟨.hbm, 600, rfl⟩
abbrev main_v487 : Ref sig .tc := ⟨.hbm, 601, rfl⟩
abbrev main_v488 : Ref sig .tc := ⟨.hbm, 602, rfl⟩
abbrev main_v489 : Ref sig .tc := ⟨.hbm, 603, rfl⟩
abbrev main_v490 : Ref sig .tc := ⟨.hbm, 604, rfl⟩

abbrev nD : Nat := 1
abbrev τ : Topo := Topo.v7x

variable {F : FTy → Type} [FloatOps F]
-- ==== Kernel2.lean ====
abbrev S8192x2048 : Shape := ⟨2, ![8192, 2048]⟩
abbrev S8192x1024 : Shape := ⟨2, ![8192, 1024]⟩
abbrev S2048x6144 : Shape := ⟨2, ![2048, 6144]⟩
abbrev S3x1024x2048 : Shape := ⟨3, ![3, 1024, 2048]⟩
abbrev S2048x2048 : Shape := ⟨2, ![2048, 2048]⟩
abbrev S1x2048 : Shape := ⟨2, ![1, 2048]⟩
abbrev S512x2048 : Shape := ⟨2, ![512, 2048]⟩
abbrev S512x1024 : Shape := ⟨2, ![512, 1024]⟩
abbrev S2048x512 : Shape := ⟨2, ![2048, 512]⟩
abbrev S3x1024x512 : Shape := ⟨3, ![3, 1024, 512]⟩
abbrev S512x512 : Shape := ⟨2, ![512, 512]⟩
abbrev S1x1024x512 : Shape := ⟨3, ![1, 1024, 512]⟩
abbrev S1024x512 : Shape := ⟨2, ![1024, 512]⟩
abbrev S256x512 : Shape := ⟨2, ![256, 512]⟩
abbrev S256x2048 : Shape := ⟨2, ![256, 2048]⟩
abbrev S16x2048 : Shape := ⟨2, ![16, 2048]⟩
abbrev S16 : Shape := ⟨1, ![16]⟩
abbrev S16x1 : Shape := ⟨2, ![16, 1]⟩

abbrev nBuf : Space → Nat
  | .hbm => 10
  | .vmem => 23
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S2048x6144, .bf16⟩
  | .hbm, ⟨6, _⟩ => ⟨S3x1024x2048, .bf16⟩
  | .hbm, ⟨7, _⟩ => ⟨S2048x2048, .bf16⟩
  | .hbm, ⟨8, _⟩ => ⟨S1x2048, .f32⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S3x1024x512, .bf16⟩
  | .local _ .vmem, ⟨17, _⟩ => ⟨S3x1024x512, .bf16⟩
  | .local _ .vmem, ⟨18, _⟩ => ⟨S512x2048, .bf16⟩
  | .local _ .vmem, ⟨19, _⟩ => ⟨S512x2048, .bf16⟩
  | .local _ .vmem, ⟨20, _⟩ => ⟨S1x2048, .f32⟩
  | .local _ .vmem, ⟨21, _⟩ => ⟨S512x2048, .f32⟩
  | .local _ .vmem, ⟨22, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg1 c2_i32
  let c1_i32 : BitVec 32 := 1#32
  let v1 : BitVec 32 := Scalar.subi arg0 c1_i32
  let c0_i32 : BitVec 32 := 0#32
  let v2 : BitVec 32 := Scalar.maxsi v1 c0_i32
  let v3 : BitVec 32 := Scalar.select v0 arg0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S8192x2048 : Shape := ⟨2, ![8192, 2048]⟩
abbrev S8192x1024 : Shape := ⟨2, ![8192, 1024]⟩
abbrev S2048x6144 : Shape := ⟨2, ![2048, 6144]⟩
abbrev S3x1024x2048 : Shape := ⟨3, ![3, 1024, 2048]⟩
abbrev S2048x2048 : Shape := ⟨2, ![2048, 2048]⟩
abbrev S1x2048 : Shape := ⟨2, ![1, 2048]⟩
abbrev S8192x6144 : Shape := ⟨2, ![8192, 6144]⟩
abbrev S_ : Shape := ⟨0, ![]⟩
abbrev S1x1024x2048 : Shape := ⟨3, ![1, 1024, 2048]⟩
abbrev S1024x2048 : Shape := ⟨2, ![1024, 2048]⟩
abbrev S8192 : Shape := ⟨1, ![8192]⟩
abbrev S8192x1 : Shape := ⟨2, ![8192, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S2048x6144, .bf16⟩
  | .hbm, ⟨6, _⟩ => ⟨S3x1024x2048, .bf16⟩
  | .hbm, ⟨7, _⟩ => ⟨S2048x2048, .bf16⟩
  | .hbm, ⟨8, _⟩ => ⟨S1x2048, .f32⟩
  | .hbm, ⟨9, _⟩ => ⟨S8192x2048, .f32⟩
  | .hbm, ⟨10, _⟩ => ⟨S2048x6144, .f32⟩
  | .hbm, ⟨11, _⟩ => ⟨S8192x6144, .f32⟩
  | .hbm, ⟨12, _⟩ => ⟨S8192x6144, .f32⟩
  | .hbm, ⟨13, _⟩ => ⟨S8192x6144, .f32⟩
  | .hbm, ⟨14, _⟩ => ⟨S_, .f32⟩
  | .hbm, ⟨15, _⟩ => ⟨S8192x6144, .f32⟩
  | .hbm, ⟨16, _⟩ => ⟨S8192x6144, .f32⟩
  | .hbm, ⟨17, _⟩ => ⟨S_, .f32⟩
  | .hbm, ⟨18, _⟩ => ⟨S8192x6144, .f32⟩
  | .hbm, ⟨19, _⟩ => ⟨S8192x6144, .f32⟩
  | .hbm, ⟨20, _⟩ => ⟨S3x1024x2048, .f32⟩
  | .hbm, ⟨21, _⟩ => ⟨S8192x2048, .f32⟩
  | .hbm, ⟨22, _⟩ => ⟨S8192x1024, .f32⟩
  | .hbm, ⟨23, _⟩ => ⟨S1x1024x2048, .f32⟩
  | .hbm, ⟨24, _⟩ => ⟨S1024x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S1x1024x2048, .f32⟩
  | .hbm, ⟨30, _⟩ => ⟨S1024x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x1024, .f32⟩
  | .hbm, ⟨36, _⟩ => ⟨S1x1024x2048, .f32⟩
  | .hbm, ⟨37, _⟩ => ⟨S1024x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S2048x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Proof.MergeBody.lean ====
module

public import proofs.«01_k».proof.Proof.Gen.Kernel2Ideal.Value
public import Idealize.ShloMosaic.Lib.Pipeline.ValueKit

@[expose] public section
set_option maxRecDepth 16384
noncomputable section
namespace Cert.Kernel2Ideal.Merge
open Cert.Kernel2Ideal Cert.Kernel2Ideal.Gen Idealize.ShloMosaic Idealize.ShloMosaic.TcCoe Idealize.SL.Sem
open Idealize.ShloMosaic.Pipeline (Dat)
open Idealize.ShloMosaic.Pointwise

/-- The logistic function over the extended reals, as the quotient. -/
def sigm (x : EReal) : EReal := Ideal.div 1 (1 + Ideal.exp (-x))

/-- One element of the gated sum of the three branch projections. -/
def mergedAt (h w0 w1 w2 : Fin 2048 → EReal) (y0 y1 y2 b0 b1 b2 : Fin 1024 → EReal) : EReal :=
  sigm (∑ d, h d * w0 d) * (∑ e, y0 e * b0 e) + sigm (∑ d, h d * w1 d) * (∑ e, y1 e * b1 e)
    + sigm (∑ d, h d * w2 d) * (∑ e, y2 e * b2 e)

theorem pay4_apply (v11 : Vec Ideal S512x2048 .bf16) (v12 v15 v18 : Vec Ideal S2048x512 .bf16)
    (v21 : Vec Ideal S512x1024 .bf16) (v22 : Vec Ideal S1x1024x512 .bf16) (v26 : Vec Ideal S512x1024 .bf16)
    (v27 : Vec Ideal S1x1024x512 .bf16) (v32 : Vec Ideal S512x1024 .bf16) (v33 : Vec Ideal S1x1024x512 .bf16)
    (r k : Fin 512) :
    k0_pay4 v11 v12 v15 v18 v21 v22 v26 v27 v32 v33 (ix2 r k)
      = mergedAt (fun d => v11 (ix2 r d)) (fun d => v12 (ix2 d k)) (fun d => v15 (ix2 d k)) (fun d => v18 (ix2 d k))
          (fun e => v21 (ix2 r e)) (fun e => v26 (ix2 r e)) (fun e => v32 (ix2 r e))
          (fun e => v22 (ix3 0 e k)) (fun e => v27 (ix3 0 e k)) (fun e => v33 (ix3 0 e k)) := by
  pointwise [k0_pay4]
  rfl

theorem pay6_apply (v11 : Vec Ideal S512x2048 .bf16) (v12 v15 v18 : Vec Ideal S2048x512 .bf16)
    (v21 : Vec Ideal S512x1024 .bf16) (v22 : Vec Ideal S1x1024x512 .bf16) (v26 : Vec Ideal S512x1024 .bf16)
    (v27 : Vec Ideal S1x1024x512 .bf16) (v32 : Vec Ideal S512x1024 .bf16) (v33 : Vec Ideal S1x1024x512 .bf16)
    (r k : Fin 512) :
    k0_pay6 v11 v12 v15 v18 v21 v22 v26 v27 v32 v33 (ix2 r k)
      = mergedAt (fun d => v11 (ix2 r d)) (fun d => v12 (ix2 d k)) (fun d => v15 (ix2 d k)) (fun d => v18 (ix2 d k))
          (fun e => v21 (ix2 r e)) (fun e => v26 (ix2 r e)) (fun e => v32 (ix2 r e))
          (fun e => v22 (ix3 0 e k)) (fun e => v27 (ix3 0 e k)) (fun e => v33 (ix3 0 e k)) := by
  pointwise [k0_pay6]
  rfl

theorem pay7_apply (v11 : Vec Ideal S512x2048 .bf16) (v12 v15 v18 : Vec Ideal S2048x512 .bf16)
    (v21 : Vec Ideal S512x1024 .bf16) (v22 : Vec Ideal S1x1024x512 .bf16) (v26 : Vec Ideal S512x1024 .bf16)
    (v27 : Vec Ideal S1x1024x512 .bf16) (v32 : Vec Ideal S512x1024 .bf16) (v33 : Vec Ideal S1x1024x512 .bf16)
    (r k : Fin 512) :
    k0_pay7 v11 v12 v15 v18 v21 v22 v26 v27 v32 v33 (ix2 r k)
      = mergedAt (fun d => v11 (ix2 r d)) (fun d => v12 (ix2 d k)) (fun d => v15 (ix2 d k)) (fun d => v18 (ix2 d k))
          (fun e => v21 (ix2 r e)) (fun e => v26 (ix2 r e)) (fun e => v32 (ix2 r e))
          (fun e => v22 (ix3 0 e k)) (fun e => v27 (ix3 0 e k)) (fun e => v33 (ix3 0 e k)) := by
  pointwise [k0_pay7]
  rfl

/-- The product of a chunk of merged rows with its rows of the output weight. -/
theorem pay1_apply (a : FVec Ideal S512x512 .bf16) (w : Vec Ideal S512x2048 .bf16) (r : Fin 512) (j : Fin 2048) :
    k0_pay1 a w (ix2 r j) = ∑ k : Fin 512, a (ix2 r k) * w (ix2 k j) := by
  pointwise [k0_pay1]

theorem pay2_apply (o : FVec Ideal S512x2048 .f32) (a : FVec Ideal S512x512 .f32) (w : Vec Ideal S512x2048 .bf16) (r : Fin 512) (j : Fin 2048) :
    k0_pay2 o a w (ix2 r j) = o (ix2 r j) + ∑ k : Fin 512, a (ix2 r k) * w (ix2 k j) := by
  pointwise [k0_pay2]

theorem pay9_apply (v11 : Vec Ideal S512x2048 .bf16) (v12 v15 v18 : Vec Ideal S2048x512 .bf16)
    (v21 : Vec Ideal S512x1024 .bf16) (v22 : Vec Ideal S1x1024x512 .bf16) (v26 : Vec Ideal S512x1024 .bf16)
    (v27 : Vec Ideal S1x1024x512 .bf16) (v32 : Vec Ideal S512x1024 .bf16) (v33 : Vec Ideal S1x1024x512 .bf16)
    (w : Vec Ideal S512x2048 .bf16) (r : Fin 256) (j : Fin 2048) :
    k0_pay9 (k0_pay8 v11 v12 v15 v18 v21 v22 v26 v27 v32 v33) w (ix2 r j)
      = ∑ k : Fin 512, k0_pay7 v11 v12 v15 v18 v21 v22 v26 v27 v32 v33 (ix2 ⟨r.val, by omega⟩ k) * w (ix2 k j) := by
  pointwise [k0_pay9, k0_pay8]

theorem pay10_apply (a : FVec Ideal S512x512 .bf16) (w : Vec Ideal S512x2048 .bf16) (r : Fin 256) (j : Fin 2048) :
    k0_pay10 a w (ix2 r j) = ∑ k : Fin 512, a (ix2 ⟨256 + r.val, by omega⟩ k) * w (ix2 k j) := by
  pointwise [k0_pay10]

/-- Sixteen rows finished: the residual plus the normalised, scaled rows. -/
def finish {F : FTy → Type} [FloatOps F] (a x : FVec F S16x2048 .f32) (g : Vec F S1x2048 .f32) : FVec F S16x2048 .f32 :=
  addf x (mulf (mulf a (broadcastTo S16x2048 (rsqrt (addf (divf (shapeCast S16x1
      (multiReduction .add [1] S16 (mulf a a) 0x00000000#32 reduces_S16x2048_S16 (.inl rfl) rfl) shapeCasts_S16_S16x1)
      (broadcast S16x1 (Scalar.ofBits .f32 0x45000000#32))) (broadcast S16x1 (Scalar.ofBits .f32 0x358637BD#32))))
      broadcasts_S16x1_S16x2048)) (broadcastTo S16x2048 g broadcasts_S1x2048_S16x2048))

theorem finish_apply (a x : FVec Ideal S16x2048 .f32) (g : Vec Ideal S1x2048 .f32) (r : Fin 16) (j : Fin 2048) :
    finish a x g (ix2 r j) = x (ix2 r j) + a (ix2 r j) * Ideal.rsqrt (Ideal.div (∑ k, a (ix2 r k) * a (ix2 r k))
      (Ideal.ofBits FTy.f32 1157627904#32) + Ideal.ofBits FTy.f32 897988541#32) * g (ix2 0 j) := by
  pointwise [finish]

/-- One element of the finished rows: the residual plus the normalised, scaled sum of the output projection. -/
def finishAt (x : EReal) (a : Fin 2048 → EReal) (g : EReal) (j : Fin 2048) : EReal :=
  x + a j * Ideal.rsqrt (Ideal.div (∑ k, a k * a k)
      (Ideal.ofBits FTy.f32 1157627904#32) + Ideal.ofBits FTy.f32 897988541#32) * g

/-- A group of sixteen rows, stored at row `off` from the rows `off …` of the running sum and rows `poff …` of the last
    product, holds the finished rows. -/
theorem piece (O X : FVec Ideal S512x2048 .f32) (g : Vec Ideal S1x2048 .f32) (P : FVec Ideal S256x2048 .f32)
    (Q : Fin 512 → Fin 2048 → EReal) (off poff : Nat) (h : off + 16 ≤ 512)
    (inb : ∀ a, (![off, 0] : Fin 2 → Nat) a + S16x2048.size a ≤ S512x2048.size a)
    (hs : S256x2048.Slices ![poff, 0] S16x2048) (hpo : poff + 16 ≤ 256)
    (hP : ∀ (r : Fin 16) (j : Fin 2048), P (ix2 ⟨poff + r.val, by omega⟩ j) = Q ⟨off + r.val, by omega⟩ j)
    (y : S512x2048.Idx) :
    View.TileAt (Val := Elt Ideal) (e := .f32) y ![off, 0] S16x2048.size
      (finish (addf (shapeCast S16x2048 (View.ld (Val := Elt Ideal) (e' := .f32) O (Rect.unit ![off, 0] S16x2048.size inb)) shapeCasts_S16x2048_S16x2048)
        (extractStridedSlice S16x2048 ![poff, 0] P hs)) (View.ld (Val := Elt Ideal) (e' := .f32) X (Rect.unit ![off, 0] S16x2048.size inb)) g)
      (finishAt (X y) (fun k => O (ix2 (y 0) k) + Q (y 0) k) (g (ix2 0 (y 1))) (y 1)) := by
  intro x hx
  have hx0 : (y 0 : Nat) = off + x 0 := hx 0
  have hx1 : (y 1 : Nat) = x 1 := by simpa using hx 1
  have key : ∀ (r : Fin 16) (k : Fin 2048),
      (addf (shapeCast S16x2048 (View.ld (Val := Elt Ideal) (e' := .f32) O (Rect.unit ![off, 0] S16x2048.size inb)) shapeCasts_S16x2048_S16x2048)
        (extractStridedSlice S16x2048 ![poff, 0] P hs) : FVec Ideal S16x2048 .f32) (ix2 r k) = O (ix2 ⟨off + r.val, by omega⟩ k) + Q ⟨off + r.val, by omega⟩ k := by
    intro r k
    rw [← hP r k]
    pointwise
  obtain ⟨r, j, rfl⟩ : ∃ (r : Fin 16) (j : Fin 2048), x = ix2 r j := ⟨x 0, x 1, by funext a; match a with | ⟨0, _⟩ => rfl | ⟨1, _⟩ => rfl⟩
  have hr : off + r.val < 512 := by exact Nat.lt_of_lt_of_le (Nat.add_lt_add_left r.isLt off) h
  obtain rfl : y = ix2 (⟨off + r.val, hr⟩ : Fin 512) j := by
    funext a
    match a with
    | ⟨0, _⟩ => exact Fin.ext hx0
    | ⟨1, _⟩ => exact Fin.ext hx1
  refine (finish_apply _ _ g r j).trans ?_
  unfold finishAt
  simp only [key]
  congr 1
  refine (View.ld_unit_apply_of (Val := Elt Ideal) (e := .f32) (S := S512x2048) X _ _ inb _ (ix2 (⟨off + r.val, by omega⟩ : Fin 512) j) fun a => ?_)
  match a with
  | ⟨0, _⟩ => rfl
  | ⟨1, _⟩ => exact (Nat.zero_add _).symm

/-- The merged chunk from the blocks of a point. -/
def chunkOf (h : Vec Ideal S512x2048 .bf16) (w0 w1 w2 : Vec Ideal S2048x512 .bf16) (y0 y1 y2 : Vec Ideal S512x1024 .bf16)
    (b : Vec Ideal S3x1024x512 .bf16) (r k : Fin 512) : EReal :=
  mergedAt (fun d => h (ix2 r d)) (fun d => w0 (ix2 d k)) (fun d => w1 (ix2 d k)) (fun d => w2 (ix2 d k))
    (fun e => y0 (ix2 r e)) (fun e => y1 (ix2 r e)) (fun e => y2 (ix2 r e))
    (fun e => b (ix3 0 e k)) (fun e => b (ix3 1 e k)) (fun e => b (ix3 2 e k))

/-- A branch's matrix read out of the three stacked ones. -/
theorem ld_b (B : Vec Ideal S3x1024x512 .bf16) (b : Fin 3) (inb : ∀ a, (![b.val, 0, 0] : Fin 3 → Nat) a + S1x1024x512.size a ≤ S3x1024x512.size a)
    (e : Fin 1024) (k : Fin 512) :
    View.ld (Val := Elt Ideal) (e' := .bf16) B (Rect.unit ![b.val, 0, 0] S1x1024x512.size inb) (ix3 0 e k) = B (ix3 b e k) := by
  refine (View.ld_unit_apply_of (Val := Elt Ideal) (e := .bf16) (S := S3x1024x512) B _ _ inb _ (ix3 b e k) fun a => ?_)
  match a with
  | ⟨0, _⟩ => rfl
  | ⟨1, _⟩ => exact (Nat.zero_add _).symm
  | ⟨2, _⟩ => exact (Nat.zero_add _).symm

/-- The point's share of the output projection, from its blocks. -/
def partOf (h : Vec Ideal S512x2048 .bf16) (w0 w1 w2 : Vec Ideal S2048x512 .bf16) (y0 y1 y2 : Vec Ideal S512x1024 .bf16)
    (b : Vec Ideal S3x1024x512 .bf16) (w : Vec Ideal S512x2048 .bf16) (r : Fin 512) (j : Fin 2048) : EReal :=
  ∑ k : Fin 512, chunkOf h w0 w1 w2 y0 y1 y2 b r k * w (ix2 k j)

section
variable (h : Vec Ideal S512x2048 .bf16) (w0 w1 w2 : Vec Ideal S2048x512 .bf16) (y0 y1 y2 : Vec Ideal S512x1024 .bf16)
    (b : Vec Ideal S3x1024x512 .bf16) (w : Vec Ideal S512x2048 .bf16) (o : FVec Ideal S512x2048 .f32)

theorem caseA_apply (r : Fin 512) (j : Fin 2048) :
    k0_pay1 (k0_pay4 h w0 w1 w2
      y0 (View.ld (Val := Elt Ideal) (e' := .bf16) b (Rect.unit ![0, 0, 0] S1x1024x512.size inb_S3x1024x512_S1x1024x512_0_0_0))
      y1 (View.ld (Val := Elt Ideal) (e' := .bf16) b (Rect.unit ![1, 0, 0] S1x1024x512.size inb_S3x1024x512_S1x1024x512_1_0_0))
      y2 (View.ld (Val := Elt Ideal) (e' := .bf16) b (Rect.unit ![2, 0, 0] S1x1024x512.size inb_S3x1024x512_S1x1024x512_2_0_0))) w (ix2 r j)
      = partOf h w0 w1 w2 y0 y1 y2 b w r j := by
  rw [pay1_apply]
  simp only [pay4_apply]
  unfold partOf chunkOf
  simp only [← ld_b b 0 inb_S3x1024x512_S1x1024x512_0_0_0, ← ld_b b 1 inb_S3x1024x512_S1x1024x512_1_0_0, ← ld_b b 2 inb_S3x1024x512_S1x1024x512_2_0_0]
  rfl

theorem caseB_apply (r : Fin 512) (j : Fin 2048) :
    k0_pay2 (k0_pay5 o) (k0_pay6 h w0 w1 w2
      y0 (View.ld (Val := Elt Ideal) (e' := .bf16) b (Rect.unit ![0, 0, 0] S1x1024x512.size inb_S3x1024x512_S1x1024x512_0_0_0))
      y1 (View.ld (Val := Elt Ideal) (e' := .bf16) b (Rect.unit ![1, 0, 0] S1x1024x512.size inb_S3x1024x512_S1x1024x512_1_0_0))
      y2 (View.ld (Val := Elt Ideal) (e' := .bf16) b (Rect.unit ![2, 0, 0] S1x1024x512.size inb_S3x1024x512_S1x1024x512_2_0_0))) w (ix2 r j)
      = o (ix2 r j) + partOf h w0 w1 w2 y0 y1 y2 b w r j := by
  rw [pay2_apply]
  simp only [pay6_apply]
  have e : k0_pay5 o (ix2 r j) = o (ix2 r j) := by pointwise [k0_pay5]
  rw [e]
  unfold partOf chunkOf
  simp only [← ld_b b 0 inb_S3x1024x512_S1x1024x512_0_0_0, ← ld_b b 1 inb_S3x1024x512_S1x1024x512_1_0_0, ← ld_b b 2 inb_S3x1024x512_S1x1024x512_2_0_0]
  rfl

/-- The last point's product, by its two halves of the rows. -/
theorem caseC_lo (r : Fin 256) (j : Fin 2048) :
    k0_pay9 (k0_pay8 h w0 w1 w2
      y0 (View.ld (Val := Elt Ideal) (e' := .bf16) b (Rect.unit ![0, 0, 0] S1x1024x512.size inb_S3x1024x512_S1x1024x512_0_0_0))
      y1 (View.ld (Val := Elt Ideal) (e' := .bf16) b (Rect.unit ![1, 0, 0] S1x1024x512.size inb_S3x1024x512_S1x1024x512_1_0_0))
      y2 (View.ld (Val := Elt Ideal) (e' := .bf16) b (Rect.unit ![2, 0, 0] S1x1024x512.size inb_S3x1024x512_S1x1024x512_2_0_0))) w (ix2 r j)
      = partOf h w0 w1 w2 y0 y1 y2 b w ⟨r.val, by omega⟩ j := by
  rw [pay9_apply]
  simp only [pay7_apply]
  unfold partOf chunkOf
  simp only [← ld_b b 0 inb_S3x1024x512_S1x1024x512_0_0_0, ← ld_b b 1 inb_S3x1024x512_S1x1024x512_1_0_0, ← ld_b b 2 inb_S3x1024x512_S1x1024x512_2_0_0]
  rfl

theorem caseC_hi (r : Fin 256) (j : Fin 2048) :
    k0_pay10 (k0_pay7 h w0 w1 w2
      y0 (View.ld (Val := Elt Ideal) (e' := .bf16) b (Rect.unit ![0, 0, 0] S1x1024x512.size inb_S3x1024x512_S1x1024x512_0_0_0))
      y1 (View.ld (Val := Elt Ideal) (e' := .bf16) b (Rect.unit ![1, 0, 0] S1x1024x512.size inb_S3x1024x512_S1x1024x512_1_0_0))
      y2 (View.ld (Val := Elt Ideal) (e' := .bf16) b (Rect.unit ![2, 0, 0] S1x1024x512.size inb_S3x1024x512_S1x1024x512_2_0_0))) w (ix2 r j)
      = partOf h w0 w1 w2 y0 y1 y2 b w ⟨256 + r.val, by omega⟩ j := by
  rw [pay10_apply]
  simp only [pay7_apply]
  unfold partOf chunkOf
  simp only [← ld_b b 0 inb_S3x1024x512_S1x1024x512_0_0_0, ← ld_b b 1 inb_S3x1024x512_S1x1024x512_1_0_0, ← ld_b b 2 inb_S3x1024x512_S1x1024x512_2_0_0]
  rfl
end
end Cert.Kernel2Ideal.Merge
end
-- ==== Proof.MergeOut.lean ====
module

public import proofs.«01_k».proof.Proof.MergeBody

@[expose] public section
set_option maxRecDepth 16384
noncomputable section
namespace Cert.Kernel2Ideal.Merge
open Cert.Kernel2Ideal Cert.Kernel2Ideal.Gen Idealize.ShloMosaic Idealize.ShloMosaic.TcCoe Idealize.SL.Sem
open Idealize.ShloMosaic.Pipeline (Dat)
open Idealize.ShloMosaic.Pointwise

/-! ## What each point leaves in the output block -/

variable (m : (ℓ : Loc nD τ sig) → Buf (Elt Ideal) ℓ)

/-- The point's share of the output projection. -/
def part (c : Dev nD) (t : Fin cfg0.N) (r : Fin 512) (j : Fin 2048) : EReal :=
  partOf (iblk m c 1 t) (iblk m c 5 t) (iblk m c 6 t) (iblk m c 7 t) (iblk m c 2 t) (iblk m c 3 t) (iblk m c 4 t)
    (iblk m c 8 t) (iblk m c 9 t) r j

theorem out_A (c : Dev nD) (t : Fin cfg0.N) (h0 : t.val % 4 = 0)
    (r : Fin 512) (j : Fin 2048) : outsAt0 m c t.val t.isLt (ix2 r j) = part m c t r j := by
  rw [outsAt0_A m c t h0 (by omega) (by omega)]
  frame_out
  exact caseA_apply _ _ _ _ _ _ _ _ _ r j

theorem out_B (c : Dev nD) (t : Fin cfg0.N) (h1 : (1 ≤ t.val % 4 ∧ t.val % 4 ≤ 2))
    (r : Fin 512) (j : Fin 2048) : outsAt0 m c t.val t.isLt (ix2 r j)
      = outsAt0 m c (t.val - 1) (by omega) (ix2 r j) + part m c t r j := by
  rw [outsAt0_B m c t (by omega) h1 (by omega)]
  frame_out
  exact caseB_apply _ _ _ _ _ _ _ _ _ _ r j

theorem out_C (c : Dev nD) (t : Fin cfg0.N) (h2 : t.val % 4 = 3) (y : S512x2048.Idx) :
    outsAt0 m c t.val t.isLt y
      = finishAt ((iblk m c 0 t : Vec Ideal S512x2048 .f32) y)
          (fun k => outsAt0 m c (t.val - 1) (by omega) (ix2 (y 0) k) + part m c t (y 0) k)
          ((iblk m c 10 t : Vec Ideal S1x2048 .f32) (ix2 0 (y 1))) (y 1) := by
  rw [outsAt0_C m c t (by omega) (by omega) h2]
  frame_out
  refine View.canon_eq_of_allAt _ y _ (View.cover_of_tiled_head _ _ _ rfl y) ?_
  refine View.allAt_cons_unit _ _ _ _ _ (piece _ _ _ _ (part m c t) 496 240 (by omega) inb_S512x2048_S16x2048_496_0 slices_S256x2048_o240_0_S16x2048 (by omega) (fun r j => (caseC_hi _ _ _ _ _ _ _ _ _ ⟨240 + r.val, by omega⟩ j).trans (congrArg (fun a => partOf _ _ _ _ _ _ _ _ _ a j) (Fin.ext (by show 256 + (240 + r.val) = 496 + r.val; omega)))) y) ?_
  refine View.allAt_cons_unit _ _ _ _ _ (piece _ _ _ _ (part m c t) 480 224 (by omega) inb_S512x2048_S16x2048_480_0 slices_S256x2048_o224_0_S16x2048 (by omega) (fun r j => (caseC_hi _ _ _ _ _ _ _ _ _ ⟨224 + r.val, by omega⟩ j).trans (congrArg (fun a => partOf _ _ _ _ _ _ _ _ _ a j) (Fin.ext (by show 256 + (224 + r.val) = 480 + r.val; omega)))) y) ?_
  refine View.allAt_cons_unit _ _ _ _ _ (piece _ _ _ _ (part m c t) 464 208 (by omega) inb_S512x2048_S16x2048_464_0 slices_S256x2048_o208_0_S16x2048 (by omega) (fun r j => (caseC_hi _ _ _ _ _ _ _ _ _ ⟨208 + r.val, by omega⟩ j).trans (congrArg (fun a => partOf _ _ _ _ _ _ _ _ _ a j) (Fin.ext (by show 256 + (208 + r.val) = 464 + r.val; omega)))) y) ?_
  refine View.allAt_cons_unit _ _ _ _ _ (piece _ _ _ _ (part m c t) 448 192 (by omega) inb_S512x2048_S16x2048_448_0 slices_S256x2048_o192_0_S16x2048 (by omega) (fun r j => (caseC_hi _ _ _ _ _ _ _ _ _ ⟨192 + r.val, by omega⟩ j).trans (congrArg (fun a => partOf _ _ _ _ _ _ _ _ _ a j) (Fin.ext (by show 256 + (192 + r.val) = 448 + r.val; omega)))) y) ?_
  refine View.allAt_cons_unit _ _ _ _ _ (piece _ _ _ _ (part m c t) 432 176 (by omega) inb_S512x2048_S16x2048_432_0 slices_S256x2048_o176_0_S16x2048 (by omega) (fun r j => (caseC_hi _ _ _ _ _ _ _ _ _ ⟨176 + r.val, by omega⟩ j).trans (congrArg (fun a => partOf _ _ _ _ _ _ _ _ _ a j) (Fin.ext (by show 256 + (176 + r.val) = 432 + r.val; omega)))) y) ?_
  refine View.allAt_cons_unit _ _ _ _ _ (piece _ _ _ _ (part m c t) 416 160 (by omega) inb_S512x2048_S16x2048_416_0 slices_S256x2048_o160_0_S16x2048 (by omega) (fun r j => (caseC_hi _ _ _ _ _ _ _ _ _ ⟨160 + r.val, by omega⟩ j).trans (congrArg (fun a => partOf _ _ _ _ _ _ _ _ _ a j) (Fin.ext (by show 256 + (160 + r.val) = 416 + r.val; omega)))) y) ?_
  refine View.allAt_cons_unit _ _ _ _ _ (piece _ _ _ _ (part m c t) 400 144 (by omega) inb_S512x2048_S16x2048_400_0 slices_S256x2048_o144_0_S16x2048 (by omega) (fun r j => (caseC_hi _ _ _ _ _ _ _ _ _ ⟨144 + r.val, by omega⟩ j).trans (congrArg (fun a => partOf _ _ _ _ _ _ _ _ _ a j) (Fin.ext (by show 256 + (144 + r.val) = 400 + r.val; omega)))) y) ?_
  refine View.allAt_cons_unit _ _ _ _ _ (piece _ _ _ _ (part m c t) 384 128 (by omega) inb_S512x2048_S16x2048_384_0 slices_S256x2048_o128_0_S16x2048 (by omega) (fun r j => (caseC_hi _ _ _ _ _ _ _ _ _ ⟨128 + r.val, by omega⟩ j).trans (congrArg (fun a => partOf _ _ _ _ _ _ _ _ _ a j) (Fin.ext (by show 256 + (128 + r.val) = 384 + r.val; omega)))) y) ?_
  refine View.allAt_cons_unit _ _ _ _ _ (piece _ _ _ _ (part m c t) 368 112 (by omega) inb_S512x2048_S16x2048_368_0 slices_S256x2048_o112_0_S16x2048 (by omega) (fun r j => (caseC_hi _ _ _ _ _ _ _ _ _ ⟨112 + r.val, by omega⟩ j).trans (congrArg (fun a => partOf _ _ _ _ _ _ _ _ _ a j) (Fin.ext (by show 256 + (112 + r.val) = 368 + r.val; omega)))) y) ?_
  refine View.allAt_cons_unit _ _ _ _ _ (piece _ _ _ _ (part m c t) 352 96 (by omega) inb_S512x2048_S16x2048_352_0 slices_S256x2048_o96_0_S16x2048 (by omega) (fun r j => (caseC_hi _ _ _ _ _ _ _ _ _ ⟨96 + r.val, by omega⟩ j).trans (congrArg (fun a => partOf _ _ _ _ _ _ _ _ _ a j) (Fin.ext (by show 256 + (96 + r.val) = 352 + r.val; omega)))) y) ?_
  refine View.allAt_cons_unit _ _ _ _ _ (piece _ _ _ _ (part m c t) 336 80 (by omega) inb_S512x2048_S16x2048_336_0 slices_S256x2048_o80_0_S16x2048 (by omega) (fun r j => (caseC_hi _ _ _ _ _ _ _ _ _ ⟨80 + r.val, by omega⟩ j).trans (congrArg (fun a => partOf _ _ _ _ _ _ _ _ _ a j) (Fin.ext (by show 256 + (80 + r.val) = 336 + r.val; omega)))) y) ?_
  refine View.allAt_cons_unit _ _ _ _ _ (piece _ _ _ _ (part m c t) 320 64 (by omega) inb_S512x2048_S16x2048_320_0 slices_S256x2048_o64_0_S16x2048 (by omega) (fun r j => (caseC_hi _ _ _ _ _ _ _ _ _ ⟨64 + r.val, by omega⟩ j).trans (congrArg (fun a => partOf _ _ _ _ _ _ _ _ _ a j) (Fin.ext (by show 256 + (64 + r.val) = 320 + r.val; omega)))) y) ?_
  refine View.allAt_cons_unit _ _ _ _ _ (piece _ _ _ _ (part m c t) 304 48 (by omega) inb_S512x2048_S16x2048_304_0 slices_S256x2048_o48_0_S16x2048 (by omega) (fun r j => (caseC_hi _ _ _ _ _ _ _ _ _ ⟨48 + r.val, by omega⟩ j).trans (congrArg (fun a => partOf _ _ _ _ _ _ _ _ _ a j) (Fin.ext (by show 256 + (48 + r.val) = 304 + r.val; omega)))) y) ?_
  refine View.allAt_cons_unit _ _ _ _ _ (piece _ _ _ _ (part m c t) 288 32 (by omega) inb_S512x2048_S16x2048_288_0 slices_S256x2048_o32_0_S16x2048 (by omega) (fun r j => (caseC_hi _ _ _ _ _ _ _ _ _ ⟨32 + r.val, by omega⟩ j).trans (congrArg (fun a => partOf _ _ _ _ _ _ _ _ _ a j) (Fin.ext (by show 256 + (32 + r.val) = 288 + r.val; omega)))) y) ?_
  refine View.allAt_cons_unit _ _ _ _ _ (piece _ _ _ _ (part m c t) 272 16 (by omega) inb_S512x2048_S16x2048_272_0 slices_S256x2048_o16_0_S16x2048 (by omega) (fun r j => (caseC_hi _ _ _ _ _ _ _ _ _ ⟨16 + r.val, by omega⟩ j).trans (congrArg (fun a => partOf _ _ _ _ _ _ _ _ _ a j) (Fin.ext (by show 256 + (16 + r.val) = 272 + r.val; omega)))) y) ?_
  refine View.allAt_cons_unit _ _ _ _ _ (piece _ _ _ _ (part m c t) 256 0 (by omega) inb_S512x2048_S16x2048_256_0 slices_S256x2048_o0_0_S16x2048 (by omega) (fun r j => (caseC_hi _ _ _ _ _ _ _ _ _ ⟨0 + r.val, by omega⟩ j).trans (congrArg (fun a => partOf _ _ _ _ _ _ _ _ _ a j) (Fin.ext (by show 256 + (0 + r.val) = 256 + r.val; omega)))) y) ?_
  refine View.allAt_cons_unit _ _ _ _ _ (piece _ _ _ _ (part m c t) 240 240 (by omega) inb_S512x2048_S16x2048_240_0 slices_S256x2048_o240_0_S16x2048 (by omega) (fun r j => (caseC_lo _ _ _ _ _ _ _ _ _ ⟨240 + r.val, by omega⟩ j).trans (congrArg (fun a => partOf _ _ _ _ _ _ _ _ _ a j) (Fin.ext (by show 240 + r.val = 240 + r.val; omega)))) y) ?_
  refine View.allAt_cons_unit _ _ _ _ _ (piece _ _ _ _ (part m c t) 224 224 (by omega) inb_S512x2048_S16x2048_224_0 slices_S256x2048_o224_0_S16x2048 (by omega) (fun r j => (caseC_lo _ _ _ _ _ _ _ _ _ ⟨224 + r.val, by omega⟩ j).trans (congrArg (fun a => partOf _ _ _ _ _ _ _ _ _ a j) (Fin.ext (by show 224 + r.val = 224 + r.val; omega)))) y) ?_
  refine View.allAt_cons_unit _ _ _ _ _ (piece _ _ _ _ (part m c t) 208 208 (by omega) inb_S512x2048_S16x2048_208_0 slices_S256x2048_o208_0_S16x2048 (by omega) (fun r j => (caseC_lo _ _ _ _ _ _ _ _ _ ⟨208 + r.val, by omega⟩ j).trans (congrArg (fun a => partOf _ _ _ _ _ _ _ _ _ a j) (Fin.ext (by show 208 + r.val = 208 + r.val; omega)))) y) ?_
  refine View.allAt_cons_unit _ _ _ _ _ (piece _ _ _ _ (part m c t) 192 192 (by omega) inb_S512x2048_S16x2048_192_0 slices_S256x2048_o192_0_S16x2048 (by omega) (fun r j => (caseC_lo _ _ _ _ _ _ _ _ _ ⟨192 + r.val, by omega⟩ j).trans (congrArg (fun a => partOf _ _ _ _ _ _ _ _ _ a j) (Fin.ext (by show 192 + r.val = 192 + r.val; omega)))) y) ?_
  refine View.allAt_cons_unit _ _ _ _ _ (piece _ _ _ _ (part m c t) 176 176 (by omega) inb_S512x2048_S16x2048_176_0 slices_S256x2048_o176_0_S16x2048 (by omega) (fun r j => (caseC_lo _ _ _ _ _ _ _ _ _ ⟨176 + r.val, by omega⟩ j).trans (congrArg (fun a => partOf _ _ _ _ _ _ _ _ _ a j) (Fin.ext (by show 176 + r.val = 176 + r.val; omega)))) y) ?_
  refine View.allAt_cons_unit _ _ _ _ _ (piece _ _ _ _ (part m c t) 160 160 (by omega) inb_S512x2048_S16x2048_160_0 slices_S256x2048_o160_0_S16x2048 (by omega) (fun r j => (caseC_lo _ _ _ _ _ _ _ _ _ ⟨160 + r.val, by omega⟩ j).trans (congrArg (fun a => partOf _ _ _ _ _ _ _ _ _ a j) (Fin.ext (by show 160 + r.val = 160 + r.val; omega)))) y) ?_
  refine View.allAt_cons_unit _ _ _ _ _ (piece _ _ _ _ (part m c t) 144 144 (by omega) inb_S512x2048_S16x2048_144_0 slices_S256x2048_o144_0_S16x2048 (by omega) (fun r j => (caseC_lo _ _ _ _ _ _ _ _ _ ⟨144 + r.val, by omega⟩ j).trans (congrArg (fun a => partOf _ _ _ _ _ _ _ _ _ a j) (Fin.ext (by show 144 + r.val = 144 + r.val; omega)))) y) ?_
  refine View.allAt_cons_unit _ _ _ _ _ (piece _ _ _ _ (part m c t) 128 128 (by omega) inb_S512x2048_S16x2048_128_0 slices_S256x2048_o128_0_S16x2048 (by omega) (fun r j => (caseC_lo _ _ _ _ _ _ _ _ _ ⟨128 + r.val, by omega⟩ j).trans (congrArg (fun a => partOf _ _ _ _ _ _ _ _ _ a j) (Fin.ext (by show 128 + r.val = 128 + r.val; omega)))) y) ?_
  refine View.allAt_cons_unit _ _ _ _ _ (piece _ _ _ _ (part m c t) 112 112 (by omega) inb_S512x2048_S16x2048_112_0 slices_S256x2048_o112_0_S16x2048 (by omega) (fun r j => (caseC_lo _ _ _ _ _ _ _ _ _ ⟨112 + r.val, by omega⟩ j).trans (congrArg (fun a => partOf _ _ _ _ _ _ _ _ _ a j) (Fin.ext (by show 112 + r.val = 112 + r.val; omega)))) y) ?_
  refine View.allAt_cons_unit _ _ _ _ _ (piece _ _ _ _ (part m c t) 96 96 (by omega) inb_S512x2048_S16x2048_96_0 slices_S256x2048_o96_0_S16x2048 (by omega) (fun r j => (caseC_lo _ _ _ _ _ _ _ _ _ ⟨96 + r.val, by omega⟩ j).trans (congrArg (fun a => partOf _ _ _ _ _ _ _ _ _ a j) (Fin.ext (by show 96 + r.val = 96 + r.val; omega)))) y) ?_
  refine View.allAt_cons_unit _ _ _ _ _ (piece _ _ _ _ (part m c t) 80 80 (by omega) inb_S512x2048_S16x2048_80_0 slices_S256x2048_o80_0_S16x2048 (by omega) (fun r j => (caseC_lo _ _ _ _ _ _ _ _ _ ⟨80 + r.val, by omega⟩ j).trans (congrArg (fun a => partOf _ _ _ _ _ _ _ _ _ a j) (Fin.ext (by show 80 + r.val = 80 + r.val; omega)))) y) ?_
  refine View.allAt_cons_unit _ _ _ _ _ (piece _ _ _ _ (part m c t) 64 64 (by omega) inb_S512x2048_S16x2048_64_0 slices_S256x2048_o64_0_S16x2048 (by omega) (fun r j => (caseC_lo _ _ _ _ _ _ _ _ _ ⟨64 + r.val, by omega⟩ j).trans (congrArg (fun a => partOf _ _ _ _ _ _ _ _ _ a j) (Fin.ext (by show 64 + r.val = 64 + r.val; omega)))) y) ?_
  refine View.allAt_cons_unit _ _ _ _ _ (piece _ _ _ _ (part m c t) 48 48 (by omega) inb_S512x2048_S16x2048_48_0 slices_S256x2048_o48_0_S16x2048 (by omega) (fun r j => (caseC_lo _ _ _ _ _ _ _ _ _ ⟨48 + r.val, by omega⟩ j).trans (congrArg (fun a => partOf _ _ _ _ _ _ _ _ _ a j) (Fin.ext (by show 48 + r.val = 48 + r.val; omega)))) y) ?_
  refine View.allAt_cons_unit _ _ _ _ _ (piece _ _ _ _ (part m c t) 32 32 (by omega) inb_S512x2048_S16x2048_32_0 slices_S256x2048_o32_0_S16x2048 (by omega) (fun r j => (caseC_lo _ _ _ _ _ _ _ _ _ ⟨32 + r.val, by omega⟩ j).trans (congrArg (fun a => partOf _ _ _ _ _ _ _ _ _ a j) (Fin.ext (by show 32 + r.val = 32 + r.val; omega)))) y) ?_
  refine View.allAt_cons_unit _ _ _ _ _ (piece _ _ _ _ (part m c t) 16 16 (by omega) inb_S512x2048_S16x2048_16_0 slices_S256x2048_o16_0_S16x2048 (by omega) (fun r j => (caseC_lo _ _ _ _ _ _ _ _ _ ⟨16 + r.val, by omega⟩ j).trans (congrArg (fun a => partOf _ _ _ _ _ _ _ _ _ a j) (Fin.ext (by show 16 + r.val = 16 + r.val; omega)))) y) ?_
  refine View.allAt_cons_unit _ _ _ _ _ (piece _ _ _ _ (part m c t) 0 0 (by omega) inb_S512x2048_S16x2048_0_0 slices_S256x2048_o0_0_S16x2048 (by omega) (fun r j => (caseC_lo _ _ _ _ _ _ _ _ _ ⟨0 + r.val, by omega⟩ j).trans (congrArg (fun a => partOf _ _ _ _ _ _ _ _ _ a j) (Fin.ext (by show 0 + r.val = 0 + r.val; omega)))) y) ?_
  exact View.allAt_nil _ _
end Cert.Kernel2Ideal.Merge
end
-- ==== Proof.MergeValue.lean ====
module

public import proofs.«01_k».proof.Proof.MergeOut

@[expose] public section
set_option maxRecDepth 16384
noncomputable section
namespace Cert.Kernel2Ideal.Merge
open Cert.Kernel2Ideal Cert.Kernel2Ideal.Gen Idealize.ShloMosaic Idealize.ShloMosaic.TcCoe Idealize.SL.Sem
open Idealize.ShloMosaic.Pipeline (Dat)
open Idealize.ShloMosaic.Pointwise

/-! ## The result over the whole arrays -/

section
variable (x : Vec Ideal S8192x2048 .f32) (h : Vec Ideal S8192x2048 .bf16) (y0 y1 y2 : Vec Ideal S8192x1024 .bf16)
  (wg : Vec Ideal S2048x6144 .bf16) (wb : Vec Ideal S3x1024x2048 .bf16) (wo : Vec Ideal S2048x2048 .bf16)
  (g : Vec Ideal S1x2048 .f32)

/-- The gated sum of the branch projections, at a row and a column of the model's width. -/
def merged (r : Fin 8192) (k : Fin 2048) : EReal :=
  mergedAt (fun d => h (ix2 r d)) (fun d => wg (ix2 d (⟨k.val, by omega⟩ : Fin 6144)))
    (fun d => wg (ix2 d (⟨2048 + k.val, by omega⟩ : Fin 6144))) (fun d => wg (ix2 d (⟨4096 + k.val, by omega⟩ : Fin 6144)))
    (fun e => y0 (ix2 r e)) (fun e => y1 (ix2 r e)) (fun e => y2 (ix2 r e))
    (fun e => wb (ix3 0 e k)) (fun e => wb (ix3 1 e k)) (fun e => wb (ix3 2 e k))

/-- The output projection of the merged rows. -/
def projected (r : Fin 8192) (j : Fin 2048) : EReal := ∑ k : Fin 2048, merged h y0 y1 y2 wg wb r k * wo (ix2 k j)

/-- The layer's output at an index. -/
def outAt (r : Fin 8192) (j : Fin 2048) : EReal :=
  finishAt (x (ix2 r j)) (projected h y0 y1 y2 wg wb wo r) (g (ix2 0 j)) j

/-- The layer's output. -/
def outArr : S8192x2048.Idx → EReal := fun i => outAt x h y0 y1 y2 wg wb wo g (i 0) (i 1)
end

/-- The blocks the windows show at each point. -/
theorem idx : ∀ t : Fin cfg0.N,
    win0_1.index t = ![t.val / 4, 0] ∧ win0_2.index t = ![t.val / 4, 0]
    ∧ win0_3.index t = ![t.val / 4, 0] ∧ win0_4.index t = ![t.val / 4, 0] ∧ win0_5.index t = ![0, t.val % 4]
    ∧ win0_6.index t = ![0, 4 + t.val % 4] ∧ win0_7.index t = ![0, 8 + t.val % 4] ∧ win0_8.index t = ![0, 0, t.val % 4]
    ∧ win0_9.index t = ![t.val % 4, 0] ∧ win0_10.index t = ![0, 0] ∧ win0_11.index t = ![t.val / 4, 0]
    ∧ t.val / 4 < 16 :=
  (by decide +kernel : ∀ t : Fin grid0.N, _)

theorem idx0 : ∀ t : Fin cfg0.N, t.val % 4 = 3 → win0_0.index t = ![t.val / 4, 0] :=
  (by decide +kernel : ∀ t : Fin grid0.N, _)

variable (m : (ℓ : Loc nD τ sig) → Buf (Elt Ideal) ℓ)

/-- A point's share of the output projection, over the whole arrays. -/
theorem part_eq (c : Dev nD) (t : Fin cfg0.N) (r : Fin 512) (j : Fin 2048) (R : Fin 8192) (hR : R.val = t.val / 4 * 512 + r.val) :
    part m c t r j = ∑ k : Fin 512, merged (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) R ⟨t.val % 4 * 512 + k.val, by omega⟩
      * (m ((c : Thread nD τ).loc main_arg7) : Vec Ideal S2048x2048 .bf16) (ix2 (⟨t.val % 4 * 512 + k.val, by omega⟩ : Fin 2048) j) := by
  obtain ⟨h1, h2, h3, h4, h5, h6, h7, h8, h9, -, -, ht⟩ := idx t
  have r1 : ∀ (d : Fin 2048), (iblk m c 1 t : Vec Ideal S512x2048 .bf16) (ix2 r d) = (m ((c : Thread nD τ).loc main_arg1) : Vec Ideal S8192x2048 .bf16) (ix2 R d) := by
    intros; blk_ext [iblk, V, h1]
  have r2 : ∀ (e : Fin 1024), (iblk m c 2 t : Vec Ideal S512x1024 .bf16) (ix2 r e) = (m ((c : Thread nD τ).loc main_arg2) : Vec Ideal S8192x1024 .bf16) (ix2 R e) := by
    intros; blk_ext [iblk, V, h2]
  have r3 : ∀ (e : Fin 1024), (iblk m c 3 t : Vec Ideal S512x1024 .bf16) (ix2 r e) = (m ((c : Thread nD τ).loc main_arg3) : Vec Ideal S8192x1024 .bf16) (ix2 R e) := by
    intros; blk_ext [iblk, V, h3]
  have r4 : ∀ (e : Fin 1024), (iblk m c 4 t : Vec Ideal S512x1024 .bf16) (ix2 r e) = (m ((c : Thread nD τ).loc main_arg4) : Vec Ideal S8192x1024 .bf16) (ix2 R e) := by
    intros; blk_ext [iblk, V, h4]
  have r5 : ∀ (d : Fin 2048) (k : Fin 512), (iblk m c 5 t : Vec Ideal S2048x512 .bf16) (ix2 d k) = (m ((c : Thread nD τ).loc main_arg5) : Vec Ideal S2048x6144 .bf16) (ix2 d (⟨(t.val % 4 * 512 + k.val), by omega⟩ : Fin 6144)) := by
    intros; blk_ext [iblk, V, h5]
  have r6 : ∀ (d : Fin 2048) (k : Fin 512), (iblk m c 6 t : Vec Ideal S2048x512 .bf16) (ix2 d k) = (m ((c : Thread nD τ).loc main_arg5) : Vec Ideal S2048x6144 .bf16) (ix2 d (⟨2048 + (t.val % 4 * 512 + k.val), by omega⟩ : Fin 6144)) := by
    intros; blk_ext [iblk, V, h6]
  have r7 : ∀ (d : Fin 2048) (k : Fin 512), (iblk m c 7 t : Vec Ideal S2048x512 .bf16) (ix2 d k) = (m ((c : Thread nD τ).loc main_arg5) : Vec Ideal S2048x6144 .bf16) (ix2 d (⟨4096 + (t.val % 4 * 512 + k.val), by omega⟩ : Fin 6144)) := by
    intros; blk_ext [iblk, V, h7]
  have r8 : ∀ (b : Fin 3) (e : Fin 1024) (k : Fin 512), (iblk m c 8 t : Vec Ideal S3x1024x512 .bf16) (ix3 b e k) = (m ((c : Thread nD τ).loc main_arg6) : Vec Ideal S3x1024x2048 .bf16) (ix3 b e (⟨t.val % 4 * 512 + k.val, by omega⟩ : Fin 2048)) := by
    intros; blk_ext [iblk, V, h8]
  have r9 : ∀ (k : Fin 512), (iblk m c 9 t : Vec Ideal S512x2048 .bf16) (ix2 k j) = (m ((c : Thread nD τ).loc main_arg7) : Vec Ideal S2048x2048 .bf16) (ix2 (⟨t.val % 4 * 512 + k.val, by omega⟩ : Fin 2048) j) := by
    intros; blk_ext [iblk, V, h9]
  unfold part partOf chunkOf merged mergedAt
  simp only [r1, r2, r3, r4, r5, r6, r7, r8, r9]

/-- What the last point of a row block leaves: the layer's rows. -/
theorem point (c : Dev nD) (t : Fin cfg0.N) (h3 : t.val % 4 = 3) (r : Fin 512) (j : Fin 2048) (R : Fin 8192)
    (hR : R.val = t.val / 4 * 512 + r.val) :
    outsAt0 m c t.val t.isLt (ix2 r j)
      = outAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) R j := by
  have hsum : ∀ k : Fin 2048, outsAt0 m c (t.val - 1) (by omega) (ix2 r k) + part m c t r k
      = projected (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) R k := by
    intro k
    have e1 := out_B m c ⟨t.val - 1, by omega⟩ (by dsimp only; omega) r k
    have e2 := out_B m c ⟨t.val - 1 - 1, by omega⟩ (by dsimp only; omega) r k
    have e3 := out_A m c ⟨t.val - 1 - 1 - 1, by omega⟩ (by dsimp only; omega) r k
    rw [e1, e2, e3]
    rw [part_eq m c t r k R hR, part_eq m c ⟨t.val - 1, by omega⟩ r k R (by dsimp only; omega),
      part_eq m c ⟨t.val - 1 - 1, by omega⟩ r k R (by dsimp only; omega),
      part_eq m c ⟨t.val - 1 - 1 - 1, by omega⟩ r k R (by dsimp only; omega)]
    have a0 : (t.val - 1 - 1 - 1) % 4 = 0 := by omega
    have a1 : (t.val - 1 - 1) % 4 = 1 := by omega
    have a2 : (t.val - 1) % 4 = 2 := by omega
    unfold projected
    rw [← Fin.sum_mul_add_fin 4 512 (fun k' : Fin 2048 => merged (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) R k' * (m ((c : Thread nD τ).loc main_arg7) : Vec Ideal S2048x2048 .bf16) (ix2 k' k))]
    rw [Fin.sum_univ_four]
    simp only [a0, a1, a2, h3]
    rfl
  rw [out_C m c t h3]
  unfold outAt
  have hx : (iblk m c 0 t : Vec Ideal S512x2048 .f32) (ix2 r j) = (m ((c : Thread nD τ).loc main_arg0) : Vec Ideal S8192x2048 .f32) (ix2 R j) := by
    have h0 := idx0 t h3
    blk_ext [iblk, V, h0]
  have hg : (iblk m c 10 t : Vec Ideal S1x2048 .f32) (ix2 0 j) = (m ((c : Thread nD τ).loc main_arg8) : Vec Ideal S1x2048 .f32) (ix2 0 j) := by
    obtain ⟨-, -, -, -, -, -, -, -, -, h10, -, -⟩ := idx t
    blk_ext [iblk, V, h10]
  rw [← hx, ← hg, ← funext hsum]
  rfl

/-- The result array after the run. -/
theorem final (c : Dev nD) : (dats m 0 c).arrAt 11 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 11 _ (by decide +kernel) fun t hf y => ?_
  obtain ⟨-, -, -, -, -, -, -, -, -, -, h11, ht⟩ := idx t
  blk_simp
  rw [after0_11]
  have h3 : t.val % 4 = 3 := (flush0_11 t).mp hf
  have e0 : (((win0_11.blk t).view.emb y) 0 : Nat) = t.val / 4 * 512 + (y 0 : Nat) := by blk_simp [h11]
  have e1 : (((win0_11.blk t).view.emb y) 1 : Nat) = (y 1 : Nat) := by blk_simp [h11]
  have hy : (y : S512x2048.Idx) = ix2 (y 0 : Fin 512) (y 1 : Fin 2048) := by
    funext a
    match a with
    | ⟨0, _⟩ => rfl
    | ⟨1, _⟩ => rfl
  refine (congrArg (outsAt0 m c t.val t.isLt) hy).trans ((point m c t h3 (y 0) (y 1) (((win0_11.blk t).view.emb y) 0) e0).trans ?_)
  unfold outArr
  exact congrArg _ (Fin.ext e1.symm)
end Cert.Kernel2Ideal.Merge
end
-- ==== Proof.MergeRef.lean ====
module

public import proofs.«01_k».proof.Proof.MergeValue
public import proofs.«01_k».proof.Proof.Gen.Reference2Ideal.Read

@[expose] public section
set_option maxRecDepth 16384
noncomputable section
namespace Cert.Reference2Ideal.Merge
open Cert.Reference2Ideal Cert.Reference2Ideal.Gen Cert.Reference2Ideal.Read Idealize.ShloMosaic Idealize.ShloMosaic.TcCoe Idealize.SL.Sem
open Idealize.ShloMosaic.Pointwise
open Cert.Kernel2Ideal.Merge (projected outAt outArr merged mergedAt sigm finishAt)

theorem v31_apply (x1 : (⟨S8192x2048, .bf16⟩ : BufTy).Contents (Elt Ideal))
    (x2 x3 x4 : (⟨S8192x1024, .bf16⟩ : BufTy).Contents (Elt Ideal)) (x5 : (⟨S2048x6144, .bf16⟩ : BufTy).Contents (Elt Ideal)) (x6 : (⟨S3x1024x2048, .bf16⟩ : BufTy).Contents (Elt Ideal)) (x7 : (⟨S2048x2048, .bf16⟩ : BufTy).Contents (Elt Ideal)) (r : Fin 8192) (j : Fin 2048) :
    val_main_v31 (F := Ideal) x1 x2 x3 x4 x5 x6 x7 (ix2 r j) = projected x1 x2 x3 x4 x5 x6 x7 r j := by
  pointwise [val_main_v0, val_main_v1, val_main_v2, val_main_v3, val_main_v4, val_main_cst, val_main_v5, val_main_v6, val_main_cst_0, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31]
  rfl

theorem v44_eq (x0 : (⟨S8192x2048, .f32⟩ : BufTy).Contents (Elt Ideal)) (x1 : (⟨S8192x2048, .bf16⟩ : BufTy).Contents (Elt Ideal))
    (x2 x3 x4 : (⟨S8192x1024, .bf16⟩ : BufTy).Contents (Elt Ideal))
    (x5 : (⟨S2048x6144, .bf16⟩ : BufTy).Contents (Elt Ideal)) (x6 : (⟨S3x1024x2048, .bf16⟩ : BufTy).Contents (Elt Ideal)) (x7 : (⟨S2048x2048, .bf16⟩ : BufTy).Contents (Elt Ideal)) (x8 : (⟨S1x2048, .f32⟩ : BufTy).Contents (Elt Ideal)) :
    val_main_v44 (F := Ideal) x0 x1 x2 x3 x4 x5 x6 x7 x8 = outArr x0 x1 x2 x3 x4 x5 x6 x7 x8 := by
  funext i
  obtain ⟨r, j, rfl⟩ : ∃ (r : Fin 8192) (j : Fin 2048), i = ix2 r j := ⟨i 0, i 1, by funext a; match a with | ⟨0, _⟩ => rfl | ⟨1, _⟩ => rfl⟩
  show _ = outAt x0 x1 x2 x3 x4 x5 x6 x7 x8 r j
  unfold outAt finishAt
  pointwise [val_main_v32, val_main_cst_1, val_main_v33, val_main_v34, val_main_cst_2, val_main_v35, val_main_v36, val_main_cst_3, val_main_v37, val_main_v38, val_main_v39, val_main_v40, val_main_v41, val_main_v42, val_main_v43, val_main_v44]
  simp only [v31_apply]

end Cert.Reference2Ideal.Merge
end
-- ==== Proof.RealLift.lean ====
module

public import Idealize.ShloMosaic.Lib.Pipeline.ValueKit
public import Idealize.ShloMosaic.Lib.Pointwise

@[expose] public section
noncomputable section
namespace Mixers
open Idealize.ShloMosaic

/-! ## Extended reals that are real numbers -/

/-- The extended real is a real number. -/
def IsReal (x : EReal) : Prop := ∃ r : ℝ, x = (r : EReal)

theorem isReal_iff (x : EReal) : IsReal x ↔ x ≠ ⊥ ∧ x ≠ ⊤ := by
  constructor
  · rintro ⟨r, rfl⟩
    exact ⟨EReal.coe_ne_bot r, EReal.coe_ne_top r⟩
  · rintro ⟨h1, h2⟩
    exact ⟨x.toReal, (EReal.coe_toReal h2 h1).symm⟩

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

theorem isReal_exp {x : EReal} (hx : x ≠ ⊤) : IsReal (Ideal.exp x) := by
  induction x with
  | bot => exact isReal_zero
  | top => exact absurd rfl hx
  | coe r => exact ⟨Real.exp r, rfl⟩

theorem exp_nonneg (x : EReal) : 0 ≤ Ideal.exp x := by
  induction x with
  | bot => exact le_refl _
  | top => exact le_top
  | coe r => exact EReal.coe_nonneg.mpr (Real.exp_nonneg r)

theorem exp_pos {x : EReal} (hx : x ≠ ⊥) : 0 < Ideal.exp x := by
  induction x with
  | bot => exact absurd rfl hx
  | top => exact EReal.zero_lt_top
  | coe r => exact EReal.coe_pos.mpr (Real.exp_pos r)

theorem IsReal.ne_top {x : EReal} (hx : IsReal x) : x ≠ ⊤ := ((isReal_iff x).mp hx).2
theorem IsReal.ne_bot {x : EReal} (hx : IsReal x) : x ≠ ⊥ := ((isReal_iff x).mp hx).1

theorem IsReal.max {x y : EReal} (hx : IsReal x) (hy : IsReal y) : IsReal (Max.max x y) := by
  rcases max_choice x y with h | h <;> rw [h] <;> assumption

theorem isReal_div {x y : EReal} (hx : IsReal x) (hy : IsReal y) (h0 : y ≠ 0) : IsReal (Ideal.div x y) := by
  obtain ⟨b, rfl⟩ := hy
  have hb : b ≠ 0 := fun h => h0 (by rw [h]; rfl)
  rw [Ideal.div_coe hb]
  exact hx.mul (isReal_coe _)

/-- The maximum of a family of reals together with a real floor is real. -/
theorem isReal_fold_max {n : ℕ} {f : Fin n → EReal} {s : EReal} (hf : ∀ k, f k ≠ ⊤) (hs : IsReal s) :
    IsReal (Max.max (Finset.univ.fold Max.max ⊥ f) s) := by
  rw [isReal_iff]
  constructor
  · intro h
    have : s ≤ ⊥ := h ▸ le_max_right _ _
    exact hs.ne_bot (le_bot_iff.mp this)
  · refine ne_of_lt (max_lt ?_ (lt_top_iff_ne_top.mpr hs.ne_top))
    exact (Finset.fold_max_lt _).mpr ⟨bot_lt_top, fun k _ => lt_top_iff_ne_top.mpr (hf k)⟩

theorem isReal_fold_max_pos {n : ℕ} {f : Fin (n + 1) → EReal} (hf : ∀ k, IsReal (f k)) :
    IsReal (Finset.univ.fold Max.max ⊥ f) := by
  have h := isReal_fold_max (fun k => (hf k).ne_top) (hf 0)
  have h0 : f 0 ≤ Finset.univ.fold Max.max ⊥ f := (Finset.le_fold_max _).mpr (Or.inr ⟨0, Finset.mem_univ _, le_refl _⟩)
  rwa [max_eq_left h0] at h

theorem sum_nonneg {n : ℕ} {f : Fin n → EReal} (hf : ∀ k, 0 ≤ f k) : 0 ≤ ∑ k, f k :=
  Finset.sum_nonneg fun k _ => hf k

/-! ## Moving a real factor across a sum -/

theorem sum_mul_real {n : ℕ} {f : Fin n → EReal} {c : EReal} (hf : ∀ k, IsReal (f k)) (hc : IsReal c) :
    (∑ k, f k) * c = ∑ k, f k * c := by
  choose g hg using hf
  obtain ⟨r, rfl⟩ := hc
  simp only [hg, ← EReal.coe_mul]
  rw [← coe_sum, ← coe_sum, ← EReal.coe_mul, Finset.sum_mul]

/-- Scaling one factor of every product scales the sum. -/
theorem sum_scaled {n : ℕ} {q k : Fin n → EReal} {c : EReal} (hq : ∀ e, IsReal (q e)) (hk : ∀ e, IsReal (k e)) (hc : IsReal c) :
    ∑ e, q e * c * k e = (∑ e, q e * k e) * c := by
  rw [sum_mul_real (fun e => (hq e).mul (hk e)) hc]
  exact Finset.sum_congr rfl fun e _ => mul_right_comm _ _ _

/-- Weights normalised after the weighted sum or before it. -/
theorem normalise {n : ℕ} {p v : Fin n → EReal} {d : EReal} (hp : ∀ k, IsReal (p k)) (hv : ∀ k, IsReal (v k)) (hd : IsReal d)
    (h0 : d ≠ 0) : (∑ k, p k * v k) * Ideal.div 1 d = ∑ k, v k * Ideal.div (p k) d := by
  rw [sum_mul_real (fun k => (hp k).mul (hv k)) (isReal_div isReal_one hd h0)]
  obtain ⟨b, rfl⟩ := hd
  have hb : b ≠ 0 := fun h => h0 (by rw [h]; rfl)
  refine Finset.sum_congr rfl fun k _ => ?_
  rw [Ideal.div_coe hb, Ideal.div_coe hb, one_mul, mul_comm (p k), mul_assoc]

/-! ## Constants -/

theorem ofBits_neg_inf : Ideal.ofBits .f32 0xFF800000#32 = ⊥ := by simp [Ideal.ofBits, Ideal.ieee]

theorem isReal_eighth : IsReal (Ideal.ofBits .f32 0x3E000000#32) := by
  simp [Ideal.ofBits, Ideal.ieee]
  exact (isReal_coe _).mul (isReal_coe _)
theorem isReal_sixteenth : IsReal (Ideal.ofBits .f32 0x3D800000#32) := by
  simp [Ideal.ofBits, Ideal.ieee]
  exact (isReal_coe _).mul (isReal_coe _)
theorem ofBits_neg_eight : Ideal.ofBits .f32 0xC1000000#32 = ((-8 : ℝ) : EReal) := by
  simp [Ideal.ofBits, Ideal.ieee]; rw [← EReal.coe_mul]; norm_num
theorem ofBits_neg_two : Ideal.ofBits .f32 0xC0000000#32 = ((-2 : ℝ) : EReal) := by
  simp [Ideal.ofBits, Ideal.ieee]; rw [← EReal.coe_mul]; norm_num
theorem ofBits_two : Ideal.ofBits .f32 0x40000000#32 = ((2 : ℝ) : EReal) := by
  simp [Ideal.ofBits, Ideal.ieee]; rw [← EReal.coe_mul]; norm_num
theorem ofBits_width : Ideal.ofBits .f32 0x45000000#32 = ((2048 : ℝ) : EReal) := by
  simp [Ideal.ofBits, Ideal.ieee]; rw [← EReal.coe_mul]; norm_num
theorem ofBits_eps : ∃ r : ℝ, 0 < r ∧ Ideal.ofBits .f32 0x358637BD#32 = (r : EReal) := by
  refine ⟨8796093 * (2 ^ 43)⁻¹, by positivity, ?_⟩
  simp [Ideal.ofBits, Ideal.ieee]

/-- The logistic function of a real is real. -/
theorem isReal_logistic {x : EReal} (hx : IsReal x) : IsReal (Ideal.logistic x) := by
  obtain ⟨r, rfl⟩ := hx
  exact ⟨_, Ideal.logistic_coe r⟩

end Mixers
end
-- ==== Proof.MixSpec.lean ====
module

public import proofs.«01_k».proof.Proof.RealLift

@[expose] public section
noncomputable section
namespace Mixers
open Idealize.ShloMosaic

/-! ## The formulas of the layer's branches, over the extended reals -/

/-- `z * sigmoid z`. -/
def gate (z : EReal) : EReal := z * Ideal.logistic z

/-- The largest of finitely many scores. -/
def top {n : ℕ} (l : Fin n → EReal) : EReal := Finset.univ.fold max (Ideal.ofBits .f32 0xFF800000#32) l

/-- Attention with the scores `l` over the values `v`, divided by the sum at the end. -/
def attendLate {n : ℕ} (l v : Fin n → EReal) : EReal :=
  (∑ s, Ideal.exp (l s - top l) * v s) * Ideal.div (Ideal.ofBits .f32 0x3F800000#32) (∑ s, Ideal.exp (l s - top l))

/-- Attention with the scores `l` over the values `v`, from the probabilities. -/
def attend {n : ℕ} (l v : Fin n → EReal) : EReal :=
  ∑ s, v s * Ideal.div (Ideal.exp (l s - top l)) (∑ s, Ideal.exp (l s - top l))
end Mixers
end
-- ==== Proof.Scan.lean ====
module

public import proofs.«01_k».proof.Proof.RealLift
public import Idealize.ShloMosaic.Lib.KernelVsHost

@[expose] public section
noncomputable section
namespace Mixers
open Idealize.ShloMosaic Idealize.ShloMosaic.Pointwise

/-! ## A linear recurrence over the real numbers -/

/-- The states of `s (n + 1) = a (n + 1) * s n + b (n + 1)` from `s 0 = b 0`. -/
def lin (a b : ℕ → ℝ) : ℕ → ℝ
  | 0 => b 0
  | n + 1 => a (n + 1) * lin a b n + b (n + 1)

/-- The recurrence over pairs of steps gives every second state. -/
theorem lin_pair (a b : ℕ → ℝ) (i : ℕ) :
    lin (fun i => a (2 * i) * a (2 * i + 1)) (fun i => a (2 * i + 1) * b (2 * i) + b (2 * i + 1)) i
      = lin a b (2 * i + 1) := by
  induction i with
  | zero => simp [lin]
  | succ i ih =>
    show a (2 * (i + 1)) * a (2 * (i + 1) + 1) * lin _ _ i
      + (a (2 * (i + 1) + 1) * b (2 * (i + 1)) + b (2 * (i + 1) + 1)) = _
    rw [ih]
    show _ = a (2 * (i + 1) + 1) * (a (2 * i + 1 + 1) * lin a b (2 * i + 1) + b (2 * i + 1 + 1))
      + b (2 * (i + 1) + 1)
    rw [show 2 * (i + 1) = 2 * i + 1 + 1 from by ring]
    ring

/-! ## One level of the scan by halves -/

/-- A sequence of `n` rows for each of four sequences and each of 1024 channels. -/
abbrev Seq (n : ℕ) : Shape := ⟨3, ![4, n, 1024]⟩

/-- The array holds the real family `f`: sequence, channel, row. -/
def Holds {n : ℕ} (A : FVec Ideal (Seq n) .f32) (f : Fin 4 → Fin 1024 → ℕ → ℝ) : Prop :=
  ∀ (b : Fin 4) (i : Fin n) (c : Fin 1024), A (ix3 b i c) = ((f b c i.val : ℝ) : EReal)

theorem strided {M N : ℕ} (A : FVec Ideal (Seq M) .f32) (s : ℕ)
    (h : (Seq M).SlicesBy ![0, s, 0] ![1, 2, 1] (Seq N)) (b : Fin 4) (i : Fin N) (c : Fin 1024)
    (hi : s + 2 * i.val < M) :
    Host.slice (Seq N) ![0, s, 0] ![1, 2, 1] A h (ix3 b i c) = A (ix3 b ⟨s + 2 * i.val, hi⟩ c) := by
  show A _ = A _
  congr 1
  funext a
  match a with
  | 0 => exact Fin.ext (show 0 + 1 * b.val = b.val by omega)
  | 1 => rfl
  | 2 => exact Fin.ext (show 0 + 1 * c.val = c.val by omega)

theorem prefix_apply {M N : ℕ} (A : FVec Ideal (Seq M) .f32)
    (h : (Seq M).Slices ![0, 0, 0] (Seq N)) (b : Fin 4) (i : Fin N) (c : Fin 1024) (hi : i.val < M) :
    extractStridedSlice (Seq N) ![0, 0, 0] A h (ix3 b i c) = A (ix3 b ⟨i.val, hi⟩ c) := by
  show A _ = A _
  congr 1
  funext a
  match a with
  | 0 => exact Fin.ext (show 0 + b.val = b.val by omega)
  | 1 => exact Fin.ext (show 0 + i.val = i.val by omega)
  | 2 => exact Fin.ext (show 0 + c.val = c.val by omega)

/-- Upwards, the factors: a pair of steps has the product of its factors. -/
theorem up_factor {M N : ℕ} (hM : M = 2 * N) {A : FVec Ideal (Seq M) .f32} {a : Fin 4 → Fin 1024 → ℕ → ℝ}
    (hA : Holds A a) (h0 : (Seq M).SlicesBy ![0, 0, 0] ![1, 2, 1] (Seq N))
    (h1 : (Seq M).SlicesBy ![0, 1, 0] ![1, 2, 1] (Seq N)) :
    Holds (mulf (Host.slice (Seq N) ![0, 0, 0] ![1, 2, 1] A h0) (Host.slice (Seq N) ![0, 1, 0] ![1, 2, 1] A h1))
      (fun b c i => a b c (2 * i) * a b c (2 * i + 1)) := by
  intro b i c
  have hi := i.isLt
  show Host.slice (Seq N) ![0, 0, 0] ![1, 2, 1] A h0 (ix3 b i c)
    * Host.slice (Seq N) ![0, 1, 0] ![1, 2, 1] A h1 (ix3 b i c) = _
  rw [strided A 0 h0 b i c (by omega), strided A 1 h1 b i c (by omega), hA, hA, ← EReal.coe_mul]
  simp only [Nat.zero_add, Nat.add_comm 1]

/-- Upwards, the offsets. -/
theorem up_offset {M N : ℕ} (hM : M = 2 * N) {A B : FVec Ideal (Seq M) .f32} {a b : Fin 4 → Fin 1024 → ℕ → ℝ}
    (hA : Holds A a) (hB : Holds B b) (h1 : (Seq M).SlicesBy ![0, 1, 0] ![1, 2, 1] (Seq N))
    (h0 : (Seq M).SlicesBy ![0, 0, 0] ![1, 2, 1] (Seq N))
    (h2 : (Seq M).SlicesBy ![0, 1, 0] ![1, 2, 1] (Seq N)) :
    Holds (addf (mulf (Host.slice (Seq N) ![0, 1, 0] ![1, 2, 1] A h1) (Host.slice (Seq N) ![0, 0, 0] ![1, 2, 1] B h0))
        (Host.slice (Seq N) ![0, 1, 0] ![1, 2, 1] B h2))
      (fun s c i => a s c (2 * i + 1) * b s c (2 * i) + b s c (2 * i + 1)) := by
  intro s i c
  have hi := i.isLt
  show Host.slice (Seq N) ![0, 1, 0] ![1, 2, 1] A h1 (ix3 s i c)
    * Host.slice (Seq N) ![0, 0, 0] ![1, 2, 1] B h0 (ix3 s i c)
    + Host.slice (Seq N) ![0, 1, 0] ![1, 2, 1] B h2 (ix3 s i c) = _
  rw [strided A 1 h1 s i c (by omega), strided B 0 h0 s i c (by omega), strided B 1 h2 s i c (by omega), hA, hB, hB,
    ← EReal.coe_mul, ← EReal.coe_add]
  simp only [Nat.zero_add, Nat.add_comm 1]

/-- The even states of a level, from the states of the level above. -/
theorem down_even {M N K : ℕ} (hM : M = 2 * N) (hN : N = K + 1) {A B : FVec Ideal (Seq M) .f32}
    {S : FVec Ideal (Seq N) .f32} {a b : Fin 4 → Fin 1024 → ℕ → ℝ} (hA : Holds A a) (hB : Holds B b)
    (hS : Holds S (fun s c i => lin (a s c) (b s c) (2 * i + 1)))
    (h1 : (Seq M).SlicesBy ![0, 2, 0] ![1, 2, 1] (Seq K)) (h2 : (Seq N).Slices ![0, 0, 0] (Seq K))
    (h3 : (Seq M).SlicesBy ![0, 2, 0] ![1, 2, 1] (Seq K)) (h4 : (Seq M).Slices ![0, 0, 0] (Seq 1))
    (h5 : Shape.Concatenates [Seq 1, Seq K] (Seq N) 1) :
    Holds (concatenate (Seq N) 1 [⟨Seq 1, extractStridedSlice (Seq 1) ![0, 0, 0] B h4⟩,
        ⟨Seq K, addf (mulf (Host.slice (Seq K) ![0, 2, 0] ![1, 2, 1] A h1)
          (extractStridedSlice (Seq K) ![0, 0, 0] S h2)) (Host.slice (Seq K) ![0, 2, 0] ![1, 2, 1] B h3)⟩] h5)
      (fun s c i => lin (a s c) (b s c) (2 * i)) := by
  intro s i c
  obtain ⟨i, hi⟩ := i
  rcases i with _ | i
  · rw [concatenate_pair_apply_left (t := Seq N) (s₁ := Seq 1) (s₂ := Seq K) 1 _ _ h5 _ rfl (ix3 s 0 c)
      (fun b => by match b with | 0 => rfl | 1 => rfl | 2 => rfl)]
    rw [prefix_apply B h4 s 0 c (by simp; omega), hB]
    rfl
  · have hK : i < K := by omega
    rw [concatenate_pair_apply_right (t := Seq N) (s₁ := Seq 1) (s₂ := Seq K) 1 _ _ h5 _ rfl rfl (ix3 s ⟨i, hK⟩ c)
      (fun b hb => by match b with | 0 => rfl | 1 => exact absurd rfl hb | 2 => rfl) rfl]
    show Host.slice (Seq K) ![0, 2, 0] ![1, 2, 1] A h1 (ix3 s ⟨i, hK⟩ c)
      * extractStridedSlice (Seq K) ![0, 0, 0] S h2 (ix3 s ⟨i, hK⟩ c)
      + Host.slice (Seq K) ![0, 2, 0] ![1, 2, 1] B h3 (ix3 s ⟨i, hK⟩ c) = _
    rw [strided A 2 h1 s ⟨i, hK⟩ c (by simp; omega), strided B 2 h3 s ⟨i, hK⟩ c (by simp; omega),
      prefix_apply S h2 s ⟨i, hK⟩ c (by simp; omega), hA, hB, hS, ← EReal.coe_mul, ← EReal.coe_add]
    congr 1
    show a s c (2 + 2 * i) * _ + b s c (2 + 2 * i) = lin (a s c) (b s c) (2 * i + 1 + 1)
    rw [show 2 + 2 * i = 2 * i + 1 + 1 from by ring]
    rfl

/-- The even and the odd states of a level put together. -/
theorem down_merge {M N : ℕ} (hM : M = 2 * N) {E O : FVec Ideal (Seq N) .f32} {u : Fin 4 → Fin 1024 → ℕ → ℝ}
    (hE : Holds E (fun s c i => u s c (2 * i))) (hO : Holds O (fun s c i => u s c (2 * i + 1)))
    {Z : Shape} (z z' : FVec Ideal Z .f32) (hz : ∀ j, z j = 0) (hz' : ∀ j, z' j = 0) (hu hu' : 0 < Z.numel)
    (h1 : (Seq N).Pads ![0, 0, 0] ![0, 1, 0] ![0, 1, 0] (Seq M))
    (h2 : (Seq N).Pads ![0, 1, 0] ![0, 0, 0] ![0, 1, 0] (Seq M)) :
    Holds (addf (F := Ideal) (φ := .f32) (pad (Seq M) ![0, 0, 0] ![0, 1, 0] ![0, 1, 0] E z h1 hu)
      (pad (Seq M) ![0, 1, 0] ![0, 0, 0] ![0, 1, 0] O z' h2 hu')) u := by
  intro s i c
  obtain ⟨i, hi⟩ := i
  show pad (Seq M) ![0, 0, 0] ![0, 1, 0] ![0, 1, 0] E z h1 hu (ix3 s ⟨i, hi⟩ c)
    + pad (Seq M) ![0, 1, 0] ![0, 0, 0] ![0, 1, 0] O z' h2 hu' (ix3 s ⟨i, hi⟩ c) = _
  rcases Nat.even_or_odd' i with ⟨k, rfl | rfl⟩
  · have hk : k < N := by omega
    rw [pad_apply_of_inside ![0, 0, 0] ![0, 1, 0] ![0, 1, 0] E z h1 hu (ix3 s ⟨2 * k, hi⟩ c) (ix3 s ⟨k, hk⟩ c)
        (fun a => by
          match a with
          | 0 => show s.val = 0 + s.val * 1; omega
          | 1 => show 2 * k = 0 + k * 2; omega
          | 2 => show c.val = 0 + c.val * 1; omega),
      pad_apply_of_not_inside ![0, 1, 0] ![0, 0, 0] ![0, 1, 0] O z' h2 hu' (ix3 s ⟨2 * k, hi⟩ c) 1
        (by
          show ¬ (1 ≤ 2 * k ∧ (2 * k - 1) % 2 = 0 ∧ (2 * k - 1) / 2 < N)
          omega), hz', hE, add_zero]
  · have hk : k < N := by omega
    rw [pad_apply_of_inside ![0, 1, 0] ![0, 0, 0] ![0, 1, 0] O z' h2 hu' (ix3 s ⟨2 * k + 1, hi⟩ c) (ix3 s ⟨k, hk⟩ c)
        (fun a => by
          match a with
          | 0 => show s.val = 0 + s.val * 1; omega
          | 1 => show 2 * k + 1 = 1 + k * 2; omega
          | 2 => show c.val = 0 + c.val * 1; omega),
      pad_apply_of_not_inside ![0, 0, 0] ![0, 1, 0] ![0, 1, 0] E z h1 hu (ix3 s ⟨2 * k + 1, hi⟩ c) 1
        (by
          show ¬ (0 ≤ 2 * k + 1 ∧ (2 * k + 1 - 0) % 2 = 0 ∧ (2 * k + 1 - 0) / 2 < N)
          omega), hz, hO, zero_add]

/-- One level of the scan downwards: the states of a level from the states of the level above. -/
theorem down {M N K : ℕ} (hM : M = 2 * N) (hN : N = K + 1) {A B : FVec Ideal (Seq M) .f32}
    {S : FVec Ideal (Seq N) .f32} {a b : Fin 4 → Fin 1024 → ℕ → ℝ} (hA : Holds A a) (hB : Holds B b)
    (hS : Holds S (fun s c => lin (fun i => a s c (2 * i) * a s c (2 * i + 1))
      (fun i => a s c (2 * i + 1) * b s c (2 * i) + b s c (2 * i + 1))))
    (h1 : (Seq M).SlicesBy ![0, 2, 0] ![1, 2, 1] (Seq K)) (h2 : (Seq N).Slices ![0, 0, 0] (Seq K))
    (h3 : (Seq M).SlicesBy ![0, 2, 0] ![1, 2, 1] (Seq K)) (h4 : (Seq M).Slices ![0, 0, 0] (Seq 1))
    (h5 : Shape.Concatenates [Seq 1, Seq K] (Seq N) 1)
    {Z : Shape} (z z' : FVec Ideal Z .f32) (hz : ∀ j, z j = 0) (hz' : ∀ j, z' j = 0) (hu hu' : 0 < Z.numel)
    (h6 : (Seq N).Pads ![0, 0, 0] ![0, 1, 0] ![0, 1, 0] (Seq M))
    (h7 : (Seq N).Pads ![0, 1, 0] ![0, 0, 0] ![0, 1, 0] (Seq M)) :
    Holds (addf (F := Ideal) (φ := .f32)
      (pad (Seq M) ![0, 0, 0] ![0, 1, 0] ![0, 1, 0]
        (concatenate (Seq N) 1 [⟨Seq 1, extractStridedSlice (Seq 1) ![0, 0, 0] B h4⟩,
          ⟨Seq K, addf (mulf (Host.slice (Seq K) ![0, 2, 0] ![1, 2, 1] A h1)
            (extractStridedSlice (Seq K) ![0, 0, 0] S h2)) (Host.slice (Seq K) ![0, 2, 0] ![1, 2, 1] B h3)⟩] h5)
        z h6 hu)
      (pad (Seq M) ![0, 1, 0] ![0, 0, 0] ![0, 1, 0] S z' h7 hu'))
      (fun s c => lin (a s c) (b s c)) := by
  have hS' : Holds S (fun s c i => lin (a s c) (b s c) (2 * i + 1)) := fun s i c =>
    (hS s i c).trans (congrArg _ (lin_pair (a s c) (b s c) i.val))
  exact down_merge hM (down_even hM hN hA hB hS' h1 h2 h3 h4 h5) hS' z z' hz hz' hu hu' h6 h7

/-- The top level has one row. -/
theorem top_level {B : FVec Ideal (Seq 1) .f32} {a b : Fin 4 → Fin 1024 → ℕ → ℝ} (hB : Holds B b) :
    Holds B (fun s c => lin (a s c) (b s c)) := fun s i c => by
  obtain ⟨i, hi⟩ := i
  obtain rfl : i = 0 := by omega
  exact hB s 0 c

/-! ## The factor of an input -/

/-- Two spellings of `1 - exp (2 x)`. -/
theorem factor_eq (x : ℝ) : -(2 * Real.tanh x) / (1 - Real.tanh x) = -(Real.exp (2 * x) - 1) := by
  have h1 : 1 - Real.tanh x ≠ 0 := ne_of_gt (sub_pos.mpr (Real.tanh_lt_one x))
  have h2 : Real.exp x * Real.exp (-x) = 1 := by rw [← Real.exp_add]; simp
  have h3 : Real.exp x + Real.exp (-x) ≠ 0 := (add_pos (Real.exp_pos x) (Real.exp_pos (-x))).ne'
  have h4 : Real.tanh x * (Real.exp x + Real.exp (-x)) = Real.exp x - Real.exp (-x) := by
    rw [Real.tanh_eq_sinh_div_cosh, Real.cosh_eq, Real.sinh_eq]
    field_simp
  rw [div_eq_iff h1, two_mul x, Real.exp_add]
  apply mul_right_cancel₀ h3
  linear_combination (-2 - (Real.exp x * Real.exp x - 1)) * h4 + 2 * Real.exp x * h2
end Mixers
end
-- ==== Proof.RgScan.lean ====
module

public import proofs.«01_k».proof.Proof.Gen.KernelIdeal.Skeleton
public import proofs.«01_k».proof.Proof.MixSpec
public import proofs.«01_k».proof.Proof.Scan

@[expose] public section
set_option maxRecDepth 16384
noncomputable section
namespace Mixers
/-! ## A recurrence started from a given state -/

/-- The states of `s (n + 1) = a (n + 1) * s n + b (n + 1)` from `s 0 = a 0 * s + b 0`. -/
def after (a b : ℕ → ℝ) (s : ℝ) : ℕ → ℝ
  | 0 => a 0 * s + b 0
  | n + 1 => a (n + 1) * after a b s n + b (n + 1)

theorem after_add (a b : ℕ → ℝ) (s : ℝ) (m n : ℕ) :
    after a b s (m + 1 + n) = after (fun i => a (m + 1 + i)) (fun i => b (m + 1 + i)) (after a b s m) n := by
  induction n with
  | zero => rfl
  | succ n ih =>
    show a (m + 1 + n + 1) * after a b s (m + 1 + n) + b (m + 1 + n + 1) = _
    rw [ih]
    rfl

theorem lin_eq_after (a b : ℕ → ℝ) (n : ℕ) : lin a b n = after a b 0 n := by
  induction n with
  | zero => simp [lin, after]
  | succ n ih => simp [lin, after, ih]

/-- The state before group `g` of eight steps. -/
def before (a b : ℕ → ℝ) (s : ℝ) : ℕ → ℝ
  | 0 => s
  | g + 1 => after a b s (8 * g + 7)

/-- The row `k` places before `j`, around the end. -/
def back (k : ℕ) (j : Fin 8) : Fin 8 := ⟨(j.val + 8 - k) % 8, Nat.mod_lt _ (by omega)⟩

/-- A doubling step of the factors. -/
def mulBack (k : ℕ) (a : Fin 8 → ℝ) (j : Fin 8) : ℝ := if k ≤ j.val then a j * a (back k j) else a j

/-- A doubling step of the offsets. -/
def addBack (k : ℕ) (a b : Fin 8 → ℝ) (j : Fin 8) : ℝ := if k ≤ j.val then a j * b (back k j) + b j else b j

/-- The factors of a group after its three doubling steps. -/
def factors (a : Fin 8 → ℝ) : Fin 8 → ℝ := mulBack 4 (mulBack 2 (mulBack 1 a))

/-- The offsets of a group after its three doubling steps. -/
def offsets (a b : Fin 8 → ℝ) : Fin 8 → ℝ := addBack 4 (mulBack 2 (mulBack 1 a)) (addBack 2 (mulBack 1 a) (addBack 1 a b))

theorem group (a b : ℕ → ℝ) (s : ℝ) (j : Fin 8) :
    factors (fun i => a i.val) j * s + offsets (fun i => a i.val) (fun i => b i.val) j = after a b s j.val := by
  fin_cases j <;> simp [factors, offsets, mulBack, addBack, back, after] <;> ring

/-- A row of a group, from the state before the group. -/
theorem group_after (a b : ℕ → ℝ) (s : ℝ) (g : ℕ) (j : Fin 8) :
    factors (fun i => a (8 * g + i.val)) j * before a b s g
      + offsets (fun i => a (8 * g + i.val)) (fun i => b (8 * g + i.val)) j = after a b s (8 * g + j.val) := by
  rw [group (fun i => a (8 * g + i)) (fun i => b (8 * g + i))]
  rcases g with _ | g
  · simp [before]
  · have := after_add a b s (8 * g + 7) j.val
    rw [show 8 * g + 7 + 1 + j.val = 8 * (g + 1) + j.val from by ring] at this
    rw [this]
    rfl
end Mixers

namespace Cert.KernelIdeal.Mix
open Cert.KernelIdeal Cert.KernelIdeal.Gen Idealize.ShloMosaic Idealize.ShloMosaic.TcCoe
open Idealize.ShloMosaic.Pointwise Mixers

/-! ## The scan inside groups of eight rows -/

theorem select_ge (k : Fin 8) (j : Fin 8) {x y : ℝ} {p q : EReal} (hp : p = (x : EReal)) (hq : q = (y : EReal)) :
    Scalar.select (IntOp.cmpi CmpIPredicate.sge (BitVec.ofNat 32 j.val) (BitVec.ofNat 32 k.val)) p q
      = ((if k.val ≤ j.val then x else y : ℝ) : EReal) := by
  subst hp hq
  fin_cases k <;> fin_cases j <;> rfl

section
variable {X Y : FVec Ideal S32x8x256 .f32} {a b : Fin 32 → Fin 256 → Fin 8 → ℝ}

/-- The array of groups holds a family of real numbers: group, column, row in the group. -/
def HoldsG (X : FVec Ideal S32x8x256 .f32) (a : Fin 32 → Fin 256 → Fin 8 → ℝ) : Prop :=
  ∀ g j c, X (ix3 g j c) = ((a g c j : ℝ) : EReal)

theorem factor_1 (hX : HoldsG X a) : HoldsG (select k0_pay68 (mulf X (dynamicRotate 1 1#32 none X rotates_S32x8x256_d1)) X)
    (fun g c => mulBack 1 (a g c)) := fun g j c => by
  pointwise [k0_pay68]
  exact select_ge 1 j (by rw [EReal.coe_mul]; exact congrArg₂ _ (hX g j c) (hX g (back 1 j) c)) (hX g j c)

theorem offset_1 (hX : HoldsG X a) (hY : HoldsG Y b) :
    HoldsG (select k0_pay68 (addf (mulf X (dynamicRotate 1 1#32 none Y rotates_S32x8x256_d1)) Y) Y)
    (fun g c => addBack 1 (a g c) (b g c)) := fun g j c => by
  pointwise [k0_pay68]
  exact select_ge 1 j (by
    rw [EReal.coe_add, EReal.coe_mul]
    exact congrArg₂ _ (congrArg₂ _ (hX g j c) (hY g (back 1 j) c)) (hY g j c)) (hY g j c)

theorem factor_2 (hX : HoldsG X a) : HoldsG (select k0_pay70 (mulf X (dynamicRotate 1 2#32 none X rotates_S32x8x256_d1)) X)
    (fun g c => mulBack 2 (a g c)) := fun g j c => by
  pointwise [k0_pay70]
  exact select_ge 2 j (by rw [EReal.coe_mul]; exact congrArg₂ _ (hX g j c) (hX g (back 2 j) c)) (hX g j c)

theorem offset_2 (hX : HoldsG X a) (hY : HoldsG Y b) :
    HoldsG (select k0_pay70 (addf (mulf X (dynamicRotate 1 2#32 none Y rotates_S32x8x256_d1)) Y) Y)
    (fun g c => addBack 2 (a g c) (b g c)) := fun g j c => by
  pointwise [k0_pay70]
  exact select_ge 2 j (by
    rw [EReal.coe_add, EReal.coe_mul]
    exact congrArg₂ _ (congrArg₂ _ (hX g j c) (hY g (back 2 j) c)) (hY g j c)) (hY g j c)

theorem factor_4 (hX : HoldsG X a) : HoldsG (select k0_pay73 (mulf X (dynamicRotate 1 4#32 none X rotates_S32x8x256_d1)) X)
    (fun g c => mulBack 4 (a g c)) := fun g j c => by
  pointwise [k0_pay73]
  exact select_ge 4 j (by rw [EReal.coe_mul]; exact congrArg₂ _ (hX g j c) (hX g (back 4 j) c)) (hX g j c)

theorem offset_4 (hX : HoldsG X a) (hY : HoldsG Y b) :
    HoldsG (select k0_pay73 (addf (mulf X (dynamicRotate 1 4#32 none Y rotates_S32x8x256_d1)) Y) Y)
    (fun g c => addBack 4 (a g c) (b g c)) := fun g j c => by
  pointwise [k0_pay73]
  exact select_ge 4 j (by
    rw [EReal.coe_add, EReal.coe_mul]
    exact congrArg₂ _ (congrArg₂ _ (hX g j c) (hY g (back 4 j) c)) (hY g j c)) (hY g j c)

end

/-! ## The scan over the groups -/

theorem slices_row (g : ℕ) (h : g < 32) : S32x8x256.Slices ![g, 0, 0] S1x8x256 :=
  ⟨rfl, fun a => match a with
    | 0 => (show g + 1 ≤ 32 from h)
    | 1 => (show 0 + 8 ≤ 8 from le_rfl)
    | 2 => (show 0 + 256 ≤ 256 from le_rfl)⟩

theorem slices_last (g : ℕ) (h : g < 32) : S32x8x256.Slices ![g, 7, 0] S1x1x256 :=
  ⟨rfl, fun a => match a with
    | 0 => (show g + 1 ≤ 32 from h)
    | 1 => (show 7 + 1 ≤ 8 from le_rfl)
    | 2 => (show 0 + 256 ≤ 256 from le_rfl)⟩

section
variable (A B : FVec Ideal S32x8x256 .f32) (s0 : FVec Ideal S1x256 .f32)

/-- The state after a group, from the state before it. -/
def nextState (g : ℕ) (h : g < 32) (s : FVec Ideal S1x256 .f32) : FVec Ideal S1x256 .f32 :=
  addf (mulf (shapeCast S1x256 (extractStridedSlice S1x1x256 ![g, 7, 0] A (slices_last g h)) shapeCasts_S1x1x256_S1x256) s)
    (shapeCast S1x256 (extractStridedSlice S1x1x256 ![g, 7, 0] B (slices_last g h)) shapeCasts_S1x1x256_S1x256)

/-- The state before group `g`. -/
def stateAt : (g : ℕ) → g < 33 → FVec Ideal S1x256 .f32
  | 0, _ => s0
  | g + 1, h => nextState A B g (by omega) (stateAt g (by omega))

/-- The rows of group `g`. -/
def groupRows (g : ℕ) (h : g < 32) : FVec Ideal S8x256 .f32 :=
  addf (mulf (shapeCast S8x256 (extractStridedSlice S1x8x256 ![g, 0, 0] A (slices_row g h)) shapeCasts_S1x8x256_S8x256)
      (broadcastTo S8x256 (stateAt A B s0 g (by omega)) broadcasts_S1x256_S8x256))
    (shapeCast S8x256 (extractStridedSlice S1x8x256 ![g, 0, 0] B (slices_row g h)) shapeCasts_S1x8x256_S8x256)

variable {A B s0} {a b : Fin 256 → ℕ → ℝ} {s : Fin 256 → ℝ}

theorem stateAt_apply (hA : HoldsG A (fun g c => factors (fun i => a c (8 * g.val + i.val))))
    (hB : HoldsG B (fun g c => offsets (fun i => a c (8 * g.val + i.val)) (fun i => b c (8 * g.val + i.val))))
    (hs : ∀ c, s0 (ix2 0 c) = ((s c : ℝ) : EReal)) (g : ℕ) (h : g < 33) (c : Fin 256) :
    stateAt A B s0 g h (ix2 0 c) = ((before (a c) (b c) (s c) g : ℝ) : EReal) := by
  induction g with
  | zero => exact hs c
  | succ g ih =>
    have e : stateAt A B s0 (g + 1) h (ix2 0 c) = A (ix3 ⟨g, by omega⟩ 7 c) * stateAt A B s0 g (by omega) (ix2 0 c)
        + B (ix3 ⟨g, by omega⟩ 7 c) := by
      show nextState A B g _ _ (ix2 0 c) = _
      unfold nextState
      pointwise
    rw [e, ih, hA, hB, ← EReal.coe_mul, ← EReal.coe_add]
    exact congrArg _ (group_after (a c) (b c) (s c) g 7)

theorem groupRows_apply (hA : HoldsG A (fun g c => factors (fun i => a c (8 * g.val + i.val))))
    (hB : HoldsG B (fun g c => offsets (fun i => a c (8 * g.val + i.val)) (fun i => b c (8 * g.val + i.val))))
    (hs : ∀ c, s0 (ix2 0 c) = ((s c : ℝ) : EReal)) (g : ℕ) (h : g < 32) (j : Fin 8) (c : Fin 256) :
    groupRows A B s0 g h (ix2 j c) = ((after (a c) (b c) (s c) (8 * g + j.val) : ℝ) : EReal) := by
  have e : groupRows A B s0 g h (ix2 j c) = A (ix3 ⟨g, h⟩ j c) * stateAt A B s0 g (by omega) (ix2 0 c)
      + B (ix3 ⟨g, h⟩ j c) := by
    unfold groupRows
    pointwise
  rw [e, stateAt_apply hA hB hs, hA, hB, ← EReal.coe_mul, ← EReal.coe_add]
  exact congrArg _ (group_after (a c) (b c) (s c) g j)
end
end Cert.KernelIdeal.Mix
end
-- ==== Proof.RgVec.lean ====
module

public import proofs.«01_k».proof.Proof.RgScan
public import proofs.«01_k».proof.Proof.MixSpec

@[expose] public section
set_option maxRecDepth 16384
noncomputable section
namespace Cert.KernelIdeal.Mix
open Cert.KernelIdeal Cert.KernelIdeal.Gen Idealize.ShloMosaic Idealize.ShloMosaic.TcCoe
open Idealize.ShloMosaic.Pointwise Mixers

/-! ## The factors and offsets of a block of 256 rows and 256 channels -/

section
variable (v0 : BitVec 1) (x gi : FVec Ideal S256x256 .f32) (sp : FVec Ideal S1x256 .f32) (rate : FVec Ideal S256x256 .f32)

/-- The factors after the doubling steps. -/
def scanA : FVec Ideal S32x8x256 .f32 := k0_pay75 (k0_pay71 sp rate) (k0_pay72 sp rate) k0_pay73

/-- The input of each row: the factor of the input, the input gate, the convolution's row. -/
def inputs : FVec Ideal S256x256 .f32 :=
  mulf (mulf (select (cmpi .eq (iota .tc S256x256 32 [0] iota_S256x256_d0_w32)
        (broadcast S256x256 (Scalar.select v0 0#32 4294967295#32))) (broadcast S256x256 (Scalar.ofBits .f32 0x3F800000#32))
      (sqrt (divf (mulf (broadcast S256x256 (Scalar.ofBits .f32 0xC0000000#32)) (tanh (k0_pay66 sp rate)))
        (subf (broadcast S256x256 (Scalar.ofBits .f32 0x3F800000#32)) (tanh (k0_pay66 sp rate)))))) gi) x

/-- The offsets before the doubling steps. -/
def scanB0 : FVec Ideal S32x8x256 .f32 := shapeCast S32x8x256 (inputs v0 x gi sp rate) shapeCasts_S256x256_S32x8x256

/-- The offsets after the doubling steps. -/
def scanB : FVec Ideal S32x8x256 .f32 := k0_pay74 v0 x gi sp rate

variable {v0 x gi sp rate} {la m u w : Fin 256 → ℕ → ℝ}

theorem k0_pay67_holds (hla : ∀ r c : Fin 256, k0_pay66 sp rate (ix2 r c) = ((la c r.val : ℝ) : EReal)) :
    HoldsG (k0_pay67 sp rate) (fun g c i => Real.exp (la c (8 * g.val + i.val))) := fun g j c => by
  have e : k0_pay67 sp rate (ix3 g j c) = Ideal.exp (k0_pay66 sp rate (ix2 (⟨8 * g.val + j.val, by omega⟩ : Fin 256) c)) := by
    unfold k0_pay67
    pointwise
    exact congrArg (fun n : Fin 256 => Ideal.exp (k0_pay66 sp rate (ix2 n c))) (Fin.ext (show g.val * 8 + j.val = 8 * g.val + j.val by omega))
  rw [e, hla, Ideal.exp_coe]

theorem scanA_holds (hla : ∀ r c : Fin 256, k0_pay66 sp rate (ix2 r c) = ((la c r.val : ℝ) : EReal)) :
    HoldsG (scanA sp rate) (fun g c => factors (fun i => Real.exp (la c (8 * g.val + i.val)))) :=
  factor_4 (factor_2 (factor_1 (k0_pay67_holds hla)))

theorem scanB_holds (hla : ∀ r c : Fin 256, k0_pay66 sp rate (ix2 r c) = ((la c r.val : ℝ) : EReal))
    (hb : ∀ r c : Fin 256, inputs v0 x gi sp rate (ix2 r c) = ((u c r.val : ℝ) : EReal)) :
    HoldsG (scanB v0 x gi sp rate)
      (fun g c => offsets (fun i => Real.exp (la c (8 * g.val + i.val))) (fun i => u c (8 * g.val + i.val))) := by
  have h0 : HoldsG (scanB0 v0 x gi sp rate) (fun g c i => u c (8 * g.val + i.val)) := fun g j c => by
    have e : scanB0 v0 x gi sp rate (ix3 g j c) = inputs v0 x gi sp rate (ix2 (⟨8 * g.val + j.val, by omega⟩ : Fin 256) c) := by
      unfold scanB0
      pointwise
      exact congrArg (fun n : Fin 256 => inputs v0 x gi sp rate (ix2 n c)) (Fin.ext (show g.val * 8 + j.val = 8 * g.val + j.val by omega))
    rw [e, hb]
  have h1 := k0_pay67_holds hla
  exact offset_4 (factor_2 (factor_1 h1)) (offset_2 (factor_1 h1) (offset_1 h1 h0))

theorem one_bits : Ideal.ofBits .f32 0x3F800000#32 = ((1 : ℝ) : EReal) := Ideal.ofBits_one_f32

/-- The factor of the input: one in the first row of a sequence. -/
def inputFactor (first : Bool) (l : ℝ) (r : ℕ) : ℝ :=
  if first = true ∧ r = 0 then 1 else Real.sqrt (-(Real.exp (2 * l) - 1))

theorem first_row (first : Bool) (r : Fin 256) (x y : EReal) :
    Scalar.select (IntOp.cmpi CmpIPredicate.eq (BitVec.ofNat 32 r.val)
      (Scalar.select (BitVec.ofBool first) 0#32 4294967295#32)) x y = if first = true ∧ r.val = 0 then x else y := by
  have h : ∀ f : Bool, ∀ r : Fin 256, IntOp.cmpi CmpIPredicate.eq (BitVec.ofNat 32 r.val)
      (Scalar.select (BitVec.ofBool f) 0#32 4294967295#32) = if f = true ∧ r.val = 0 then 1#1 else 0#1 := by decide +kernel
  rw [h]
  split <;> rfl

theorem inputs_apply (first : Bool) (hv : v0 = BitVec.ofBool first)
    (hla : ∀ r c : Fin 256, k0_pay66 sp rate (ix2 r c) = ((la c r.val : ℝ) : EReal)) (hle : ∀ c r, la c r ≤ 0)
    (hg : ∀ r c : Fin 256, gi (ix2 r c) = ((w c r.val : ℝ) : EReal))
    (hx : ∀ r c : Fin 256, x (ix2 r c) = ((m c r.val : ℝ) : EReal)) (r c : Fin 256) :
    inputs v0 x gi sp rate (ix2 r c) = ((inputFactor first (la c r.val) r.val * w c r.val * m c r.val : ℝ) : EReal) := by
  have e : inputs v0 x gi sp rate (ix2 r c) = (if first = true ∧ r.val = 0 then Ideal.ofBits .f32 0x3F800000#32 else
      Ideal.sqrt (Ideal.div (Ideal.ofBits .f32 0xC0000000#32 * Ideal.tanh (k0_pay66 sp rate (ix2 r c)))
        (Ideal.ofBits .f32 0x3F800000#32 - Ideal.tanh (k0_pay66 sp rate (ix2 r c))))) * gi (ix2 r c) * x (ix2 r c) := by
    rw [← first_row, ← hv]
    unfold inputs
    pointwise
  have hden : (1 - Real.tanh (la c r.val) : ℝ) ≠ 0 := by
    have := Real.tanh_lt_one (la c r.val)
    linarith
  rw [e, hg, hx, hla, Ideal.tanh_coe, ofBits_neg_two, one_bits, ← EReal.coe_mul, ← EReal.coe_sub, Ideal.div_coe hden,
    ← EReal.coe_mul, Ideal.sqrt_coe, ← mul_div_assoc, mul_one, neg_mul, factor_eq]
  unfold inputFactor
  by_cases hf : first = true ∧ r.val = 0
  · rw [if_pos hf, if_pos hf, ← EReal.coe_mul, ← EReal.coe_mul]
  · have h0 : ¬ -(Real.exp (2 * la c r.val) - 1) < 0 := by
      have := Real.exp_le_one_iff.mpr (show 2 * la c r.val ≤ 0 by linarith [hle c r.val])
      linarith
    rw [if_neg hf, if_neg hf, if_neg h0, ← EReal.coe_mul, ← EReal.coe_mul]

/-! ## The rows written -/

/-- The rows of the scan, group by group, times the gate. -/
def rgBlock (A B : FVec Ideal S32x8x256 .f32) (s0 : FVec Ideal S1x256 .f32) (g : FVec Ideal S256x256 .f32) :
    FVec Ideal S256x256 .bf16 :=
  k0_pay151 g
    (groupRows A B s0 0 (by decide)) (groupRows A B s0 1 (by decide)) (groupRows A B s0 2 (by decide)) (groupRows
    A B s0 3 (by decide)) (groupRows A B s0 4 (by decide)) (groupRows A B s0 5 (by decide)) (groupRows A B s0 6
    (by decide)) (groupRows A B s0 7 (by decide)) (groupRows A B s0 8 (by decide)) (groupRows A B s0 9 (by
    decide)) (groupRows A B s0 10 (by decide)) (groupRows A B s0 11 (by decide)) (groupRows A B s0 12 (by decide))
    (groupRows A B s0 13 (by decide)) (groupRows A B s0 14 (by decide)) (groupRows A B s0 15 (by decide))
    (groupRows A B s0 16 (by decide)) (groupRows A B s0 17 (by decide)) (groupRows A B s0 18 (by decide))
    (groupRows A B s0 19 (by decide)) (groupRows A B s0 20 (by decide)) (groupRows A B s0 21 (by decide))
    (groupRows A B s0 22 (by decide)) (groupRows A B s0 23 (by decide)) (groupRows A B s0 24 (by decide))
    (groupRows A B s0 25 (by decide)) (groupRows A B s0 26 (by decide)) (groupRows A B s0 27 (by decide))
    (groupRows A B s0 28 (by decide)) (groupRows A B s0 29 (by decide)) (groupRows A B s0 30 (by decide))
    (groupRows A B s0 31 (by decide))

theorem rgBlock_apply {A B : FVec Ideal S32x8x256 .f32} {s0 : FVec Ideal S1x256 .f32} {a b : Fin 256 → ℕ → ℝ} {s : Fin 256 → ℝ}
    (hA : HoldsG A (fun g c => factors (fun i => a c (8 * g.val + i.val))))
    (hB : HoldsG B (fun g c => offsets (fun i => a c (8 * g.val + i.val)) (fun i => b c (8 * g.val + i.val))))
    (hs : ∀ c, s0 (ix2 0 c) = ((s c : ℝ) : EReal)) (g : FVec Ideal S256x256 .f32) (r c : Fin 256) :
    rgBlock A B s0 g (ix2 r c) = ((after (a c) (b c) (s c) r.val : ℝ) : EReal) * gate (g (ix2 r c)) := by
  have e := concatenate_ofFn_apply (t := S256x256) (s₁ := S8x256) 0 (fun n : Fin 32 => groupRows A B s0 n.val n.isLt)
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0
    rfl 8 rfl (ix2 r c) ⟨r.val / 8, by omega⟩ rfl (ix2 (⟨r.val % 8, by omega⟩ : Fin 8) c) rfl (by
      intro x hx
      match x with
      | 0 => exact absurd rfl hx
      | 1 => rfl)
  rw [groupRows_apply hA hB hs, Nat.div_add_mod] at e
  exact congrArg (· * gate (g (ix2 r c))) e

/-- The state after the last row. -/
theorem lastState_apply {A B : FVec Ideal S32x8x256 .f32} {s0 : FVec Ideal S1x256 .f32} {a b : Fin 256 → ℕ → ℝ} {s : Fin 256 → ℝ}
    (hA : HoldsG A (fun g c => factors (fun i => a c (8 * g.val + i.val))))
    (hB : HoldsG B (fun g c => offsets (fun i => a c (8 * g.val + i.val)) (fun i => b c (8 * g.val + i.val))))
    (hs : ∀ c, s0 (ix2 0 c) = ((s c : ℝ) : EReal)) (c : Fin 256) :
    stateAt A B s0 32 (by decide) (ix2 0 c) = ((after (a c) (b c) (s c) 255 : ℝ) : EReal) :=
  stateAt_apply hA hB hs 32 (by decide) c
end
end Cert.KernelIdeal.Mix
end
-- ==== Proof.RgTile.lean ====
module

public import proofs.«01_k».proof.Proof.RgVec
public import Idealize.ShloMosaic.Lib.Pipeline.ValueKit

@[expose] public section
set_option maxRecDepth 16384
noncomputable section
namespace Cert.KernelIdeal.Mix
open Cert.KernelIdeal Cert.KernelIdeal.Gen Idealize.ShloMosaic Idealize.ShloMosaic.TcCoe
open Idealize.ShloMosaic.Pointwise Mixers

/-! ## One tile of the recurrent branch, 256 rows by 1024 channels -/

theorem slices_cols (o : ℕ) (h : o ≤ 768) : S256x1024.Slices ![0, o] S256x256 :=
  ⟨rfl, fun a => match a with
    | 0 => (show 0 + 256 ≤ 256 from le_rfl)
    | 1 => (show o + 256 ≤ 1024 by omega)⟩

theorem slices_head (i : ℕ) (h : i < 8) : S256x1024.Slices ![0, 128 * i] S256x128 :=
  ⟨rfl, fun a => match a with
    | 0 => (show 0 + 256 ≤ 256 from le_rfl)
    | 1 => (show 128 * i + 128 ≤ 1024 by omega)⟩

theorem slices_half (o : ℕ) (h : o ≤ 128) : S256x256.Slices ![0, o] S256x128 :=
  ⟨rfl, fun a => match a with
    | 0 => (show 0 + 256 ≤ 256 from le_rfl)
    | 1 => (show o + 128 ≤ 256 by omega)⟩

theorem inb_head (i : ℕ) (h : i < 8) : ∀ a, (![i, 0, 0] : Fin 3 → ℕ) a + S1x128x256.size a ≤ S8x128x256.size a := fun a =>
  match a with
    | 0 => (show i + 1 ≤ 8 by omega)
    | 1 => (show 0 + 128 ≤ 128 from le_rfl)
    | 2 => (show 0 + 256 ≤ 256 from le_rfl)

theorem inb_cols (o : ℕ) (h : o ≤ 768) : ∀ a, (![0, o] : Fin 2 → ℕ) a + S1x256.size a ≤ S1x1024.size a := fun a =>
  match a with
    | 0 => (show 0 + 1 ≤ 1 from le_rfl)
    | 1 => (show o + 256 ≤ 1024 by omega)

theorem inb_tap (i : ℕ) (h : i < 4) : ∀ a, (![i, 0] : Fin 2 → ℕ) a + S1x1024.size a ≤ S4x1024.size a := fun a =>
  match a with
    | 0 => (show i + 1 ≤ 4 by omega)
    | 1 => (show 0 + 1024 ≤ 1024 from le_rfl)

theorem inb_weight (o : ℕ) (h : o ≤ 6144) : ∀ a, (![0, o] : Fin 2 → ℕ) a + S2048x256.size a ≤ S2048x6400.size a := fun a =>
  match a with
    | 0 => (show 0 + 2048 ≤ 2048 from le_rfl)
    | 1 => (show o + 256 ≤ 6400 by omega)

/-- The convolution of a tile, its four shifted inputs given. -/
def convTile (x0 x1 x2 x3 : FVec Ideal S256x1024 .f32) (cw : Vec Ideal S4x1024 .f32) (cb : Vec Ideal S1x1024 .f32) :
    FVec Ideal S256x1024 .f32 :=
  k0_pay18 (View.ld cb (Rect.unit ![0, 0] S1x1024.size (by decide)))
    x0 (View.ld cw (Rect.unit ![0, 0] S1x1024.size (inb_tap 0 (by decide))))
    x1 (View.ld cw (Rect.unit ![1, 0] S1x1024.size (inb_tap 1 (by decide))))
    x2 (View.ld cw (Rect.unit ![2, 0] S1x1024.size (inb_tap 2 (by decide))))
    x3 (View.ld cw (Rect.unit ![3, 0] S1x1024.size (inb_tap 3 (by decide))))

/-- The product of one head of 128 channels with its gate weights, both gates side by side. -/
def gateHead (x : FVec Ideal S256x1024 .f32) (w : Vec Ideal S8x128x256 .bf16) (i : Fin 8) : FVec Ideal S256x256 .f32 :=
  matmul (φ₁ := .bf16) (φ₂ := .bf16) dot_S256x128_S128x256_S256x256_1_0_0_1_n_n none
    (extractStridedSlice S256x128 ![0, 128 * i.val] (truncf .bf16 x bitsLt_bf16_f32) (slices_head i.val i.isLt))
    (shapeCast S128x256 (View.ld w (Rect.unit ![i.val, 0, 0] S1x128x256.size (inb_head i.val i.isLt))) shapeCasts_S1x128x256_S128x256)
    (constant S256x256 .f32 0x00000000#32)

/-- One gate before its bias, all the heads side by side: `o = 0` the decay's gate, `o = 128` the input's. -/
def gatePre (o : ℕ) (ho : o ≤ 128) (x : FVec Ideal S256x1024 .f32) (w : Vec Ideal S8x128x256 .bf16) : FVec Ideal S256x1024 .f32 :=
  concatenate S256x1024 1 (List.ofFn fun i : Fin 8 => (⟨S256x128, extractStridedSlice S256x128 ![0, o] (gateHead x w i) (slices_half o ho)⟩ :
      (s : Shape) × (s.Idx → Ideal .f32)))
    concatenates_S256x128_S256x128_S256x128_S256x128_S256x128_S256x128_S256x128_S256x128_S256x1024_d1

/-- The decay's rate in 256 channels from `o` on. -/
def rateOf (o : ℕ) (ho : o ≤ 768) (x : FVec Ideal S256x1024 .f32) (w : Vec Ideal S8x128x256 .bf16) (ba : Vec Ideal S1x1024 .f32) :
    FVec Ideal S256x256 .f32 :=
  mulf (broadcast S256x256 (Scalar.ofBits .f32 0xC1000000#32))
    (logistic (addf (extractStridedSlice S256x256 ![0, o] (gatePre 0 (by decide) x w) (slices_cols o ho))
      (broadcastTo S256x256 (View.ld ba (Rect.unit ![0, o] S1x256.size (inb_cols o ho))) broadcasts_S1x256_S256x256)))

/-- The input's gate in 256 channels from `o` on. -/
def inputGate (o : ℕ) (ho : o ≤ 768) (x : FVec Ideal S256x1024 .f32) (w : Vec Ideal S8x128x256 .bf16) (bx : Vec Ideal S1x1024 .f32) :
    FVec Ideal S256x256 .f32 :=
  logistic (addf (extractStridedSlice S256x256 ![0, o] (gatePre 128 (by decide) x w) (slices_cols o ho))
      (broadcastTo S256x256 (View.ld bx (Rect.unit ![0, o] S1x256.size (inb_cols o ho))) broadcasts_S1x256_S256x256))

/-- The softplus of the negated parameter. -/
def plusOf (o : ℕ) (ho : o ≤ 768) (lam : Vec Ideal S1x1024 .f32) : FVec Ideal S1x256 .f32 :=
  k0_pay64 (View.ld lam (Rect.unit ![0, o] S1x256.size (inb_cols o ho)))

section
variable (o : ℕ) (ho : o ≤ 768) (v0 : BitVec 1) (x : FVec Ideal S256x1024 .f32) (w : Vec Ideal S8x128x256 .bf16)
  (ba bx lam : Vec Ideal S1x1024 .f32) (c0 : Vec Ideal S1x256 .f32)

/-- The factors of the scan in 256 channels. -/
def tileA : FVec Ideal S32x8x256 .f32 := scanA (plusOf o ho lam) (rateOf o ho x w ba)

/-- The offsets of the scan in 256 channels. -/
def tileB : FVec Ideal S32x8x256 .f32 :=
  scanB v0 (extractStridedSlice S256x256 ![0, o] x (slices_cols o ho)) (inputGate o ho x w bx) (plusOf o ho lam) (rateOf o ho x w ba)

/-- What is written in 256 channels. -/
def rgPiece (h : Vec Ideal S256x2048 .bf16) (W : Vec Ideal S2048x6400 .bf16) : FVec Ideal S256x256 .bf16 :=
  rgBlock (tileA o ho x w ba lam) (tileB o ho v0 x w ba bx lam) c0
    (k0_pay59 h (View.ld W (Rect.unit ![0, 1024 + o] S2048x256.size (inb_weight (1024 + o) (by omega)))))

/-- The state kept for the next tile in 256 channels. -/
def rgCarry : FVec Ideal S1x256 .f32 :=
  shapeCast S1x256 (stateAt (tileA o ho x w ba lam) (tileB o ho v0 x w ba bx lam) c0 32 (by decide)) shapeCasts_S1x256_S1x256
end
end Cert.KernelIdeal.Mix
end
-- ==== Proof.MemHead.lean ====
module

public import proofs.«01_k».proof.Proof.Gen.KernelIdeal.Skeleton
public import proofs.«01_k».proof.Proof.MixSpec

@[expose] public section
set_option maxRecDepth 16384
noncomputable section
namespace Cert.KernelIdeal.Mix
open Cert.KernelIdeal Cert.KernelIdeal.Gen Idealize.ShloMosaic Idealize.ShloMosaic.TcCoe
open Idealize.ShloMosaic.Pointwise Mixers

/-! ## One head of the attention over the memory slots -/

section
variable (h : FVec Ideal S256x2048 .bf16) (wq wg : FVec Ideal S2048x256 .bf16) (k v : FVec Ideal S1x256x256 .bf16)

/-- The head's stored block: scores, unnormalised attention, division, gate. -/
def memHead : FVec Ideal S256x256 .bf16 := k0_pay661 (k0_pay526 h wg)
  (k0_pay632 (k0_pay529 (k0_pay525 (k0_pay428 h wq) k) (k0_pay527 (k0_pay428 h wq) k))
    (k0_pay530 (k0_pay525 (k0_pay428 h wq) k) (k0_pay527 (k0_pay428 h wq) k)) v)

theorem memHead_1 : k0_pay662 (k0_pay553 h wg)
  (k0_pay633 (k0_pay555 (k0_pay452 (k0_pay451 h wq) (Scalar.ofBits .f32 0x3D800000#32)) k) (k0_pay556 (k0_pay452 (k0_pay451 h wq) (Scalar.ofBits .f32 0x3D800000#32)) k) v) = memHead h wq wg k v := rfl

theorem memHead_2 : k0_pay663 (k0_pay581 h wg (constant S256x256 .f32 0x00000000#32))
  (k0_pay634 (k0_pay583 (k0_pay580 (k0_pay477 h wq) k)) (k0_pay584 (k0_pay580 (k0_pay477 h wq) k)) v)
    = memHead h wq wg k v := rfl

theorem memHead_3 : k0_pay1 (k0_pay608 h wg)
  (k0_pay635 (k0_pay610 (k0_pay500 h wq) k) (k0_pay611 (k0_pay500 h wq) k) v) = memHead h wq wg k v := rfl

theorem memHead_apply (r d : Fin 256) : memHead h wq wg k v (ix2 r d) =
    attendLate (fun s => ∑ e : Fin 256, ((∑ j : Fin 2048, h (ix2 r j) * wq (ix2 j e)) * Ideal.ofBits .f32 0x3D800000#32) * k (ix3 0 e s))
      (fun s => v (ix3 0 s d)) * gate (∑ j : Fin 2048, h (ix2 r j) * wg (ix2 j d)) := by
  unfold memHead attendLate gate top
  pointwise [k0_pay661, k0_pay526, k0_pay632, k0_pay529, k0_pay528, k0_pay525, k0_pay428, k0_pay527, k0_pay530]
end
end Cert.KernelIdeal.Mix
end
-- ==== Proof.TileCols.lean ====
module

public import proofs.«01_k».proof.Proof.Gen.KernelIdeal.Skeleton
public import Idealize.ShloMosaic.Lib.Pipeline.ValueKit

@[expose] public section
set_option maxRecDepth 16384
noncomputable section
namespace Cert.KernelIdeal.Mix
open Cert.KernelIdeal Cert.KernelIdeal.Gen Idealize.ShloMosaic Idealize.ShloMosaic.TcCoe
open Idealize.ShloMosaic.Pointwise

/-! ## A block written in four pieces of 256 columns -/

/-- The four pieces side by side. -/
def cols4 {e : EltTy} (p : Fin 4 → Vec Ideal S256x256 e) : Vec Ideal S256x1024 e :=
  fun y => p ⟨(y 1).val / 256, by have : (y 1).val < 1024 := (y 1).isLt; omega⟩ (ix2 (y 0) ⟨(y 1).val % 256, by omega⟩)

theorem piece_at {e : EltTy} (p : Fin 4 → Vec Ideal S256x256 e) (k : Fin 4) (o : ℕ) (ho : o = 256 * k.val) (P : Vec Ideal S256x256 e)
    (hP : P = p k) (y : S256x1024.Idx) :
    View.TileAt (Val := Elt Ideal) (e := e) (S := S256x1024) y ![0, o] S256x256.size P (cols4 p y) := by
  intro x hx
  have h0 : (y 0).val = 0 + (x 0).val := hx 0
  have h1 : (y 1).val = o + (x 1).val := hx 1
  have hlt : (x 1).val < 256 := (x 1).isLt
  rw [hP]
  unfold cols4
  have hk : (⟨(y 1).val / 256, by have : (y 1).val < 1024 := (y 1).isLt; omega⟩ : Fin 4) = k := Fin.ext (by show (y 1).val / 256 = k.val; omega)
  rw [hk]
  congr 1
  funext a
  match a with
  | 0 => exact Fin.ext (by show (x 0).val = (y 0).val; omega)
  | 1 => exact Fin.ext (by show (x 1).val = (y 1).val % 256; omega)

theorem canon4 {e : EltTy} (p : Fin 4 → Vec Ideal S256x256 e) {P0 P1 P2 P3 : Vec Ideal S256x256 e} {i0 i1 i2 i3}
    (h0 : P0 = p 0) (h1 : P1 = p 1) (h2 : P2 = p 2) (h3 : P3 = p 3)
    (ht : View.Piece.tiled (Val := Elt Ideal) (e := e) (s := S256x1024) [⟨Rect.unit ![0, 768] ![256, 256] i3, P3⟩, ⟨Rect.unit ![0, 512] ![256, 256] i2, P2⟩,
      ⟨Rect.unit ![0, 256] ![256, 256] i1, P1⟩, ⟨Rect.unit ![0, 0] ![256, 256] i0, P0⟩] ![256, 256] = true) :
    View.canon (Val := Elt Ideal) (e := e) (s := S256x1024) [⟨Rect.unit ![0, 768] ![256, 256] i3, P3⟩, ⟨Rect.unit ![0, 512] ![256, 256] i2, P2⟩,
      ⟨Rect.unit ![0, 256] ![256, 256] i1, P1⟩, ⟨Rect.unit ![0, 0] ![256, 256] i0, P0⟩] = cols4 p := by
  funext y
  refine View.canon_eq_of_allAt _ y _ (View.cover_of_tiled_head _ _ _ ht y) ?_
  refine View.allAt_cons_unit _ _ _ _ _ (piece_at p 3 768 rfl _ h3 y) ?_
  refine View.allAt_cons_unit _ _ _ _ _ (piece_at p 2 512 rfl _ h2 y) ?_
  refine View.allAt_cons_unit _ _ _ _ _ (piece_at p 1 256 rfl _ h1 y) ?_
  refine View.allAt_cons_unit _ _ _ _ _ (piece_at p 0 0 rfl _ h0 y) ?_
  exact View.allAt_nil _ _
end Cert.KernelIdeal.Mix
end
-- ==== Proof.TileModel.lean ====
module

public import proofs.«01_k».proof.Proof.RgTile
public import proofs.«01_k».proof.Proof.MemHead
public import proofs.«01_k».proof.Proof.TileCols
public import proofs.«01_k».proof.Proof.Gen.KernelIdeal.Frame
public import Idealize.ShloMosaic.Lib.Pipeline.ValueKit

@[expose] public section
set_option maxRecDepth 16384
set_option maxHeartbeats 4000000
noncomputable section
namespace Cert.KernelIdeal.Mix
open Cert.KernelIdeal Cert.KernelIdeal.Gen Idealize.ShloMosaic Idealize.ShloMosaic.TcCoe Idealize.SL.Sem
open Idealize.ShloMosaic.Pipeline (Dat)
open Idealize.ShloMosaic.Pointwise Mixers

/-! ## What one grid point writes, in each of the three kinds of grid point -/

/-- The contents of a buffer holding `X`, read whole. -/
abbrev held {sp : Space} {S : Shape} {e : EltTy} (M : Memref sig .tc sp S e) (h : M.IsWhole) (X : S.Idx → Elt Ideal e) : S.Idx → Elt Ideal e :=
  View.read (Elt Ideal) M.view (h.unread X)

theorem held_eq {sp : Space} {S : Shape} {e : EltTy} (M : Memref sig .tc sp S e) (h : M.IsWhole) (X : S.Idx → Elt Ideal e) :
    held M h X = X := h.read_unread X

abbrev rowM : Memref sig .tc .vmem S256x2048 .bf16 := Memref.whole cc0_scratch0
abbrev padM : Memref sig .tc .vmem S264x1024 .f32 := Memref.whole cc0_scratch1
abbrev stateM : Memref sig .tc .vmem S1x1024 .f32 := Memref.whole cc0_scratch2

abbrev allRows : Rect S256x2048 := Rect.unit ![0, 0] S256x2048.size (by decide)
abbrev tapRect (o : ℕ) (ho : o ≤ 8) : Rect S264x1024 := Rect.unit ![o, 0] S256x1024.size (fun a => match a with
  | ⟨0, _⟩ => (by show o + 256 ≤ 264; omega)
  | ⟨1, _⟩ => (by decide : 0 + 1024 ≤ 1024))
abbrev colRect (o : ℕ) (ho : o ≤ 768) : Rect S1x1024 := Rect.unit ![0, o] S1x256.size (inb_cols o ho)

/-- The projection onto the recurrent channels. -/
abbrev chan (h : Vec Ideal S256x2048 .bf16) (W : Vec Ideal S2048x6400 .bf16) : FVec Ideal S256x1024 .f32 :=
  k0_pay17 (k0_pay8 h (View.ld W (Rect.unit ![0, 0] S2048x1024.size (by decide))))

/-! ### Pads and states -/

/-- The padded projection at the start of a sequence: eight rows of zeros before it. -/
abbrev padFresh (h : Vec Ideal S256x2048 .bf16) (W : Vec Ideal S2048x6400 .bf16) : List (View.Piece (Elt Ideal) S264x1024 .f32) :=
  [⟨tapRect 8 (by decide), chan h W⟩, ⟨Rect.unit ![0, 0] S8x1024.size (by decide), k0_pay3 (F := Ideal)⟩]

abbrev convFresh (h : Vec Ideal S256x2048 .bf16) (W : Vec Ideal S2048x6400 .bf16) (cw : Vec Ideal S4x1024 .f32) (cb : Vec Ideal S1x1024 .f32) :
    FVec Ideal S256x1024 .f32 :=
  convTile (padM.view.readCov (Val := Elt Ideal) (padFresh h W) (tapRect 8 (by decide)).toLoadRect)
    (padM.view.readCov (Val := Elt Ideal) (padFresh h W) (tapRect 7 (by decide)).toLoadRect)
    (padM.view.readCov (Val := Elt Ideal) (padFresh h W) (tapRect 6 (by decide)).toLoadRect)
    (padM.view.readCov (Val := Elt Ideal) (padFresh h W) (tapRect 5 (by decide)).toLoadRect) cw cb

abbrev padNext (P : Vec Ideal S264x1024 .f32) (h : Vec Ideal S256x2048 .bf16) (W : Vec Ideal S2048x6400 .bf16) : Vec Ideal S264x1024 .f32 :=
  View.read (Elt Ideal) padM.view (padM.view.writes (Elt Ideal) ((Memref.isWhole_whole cc0_scratch1).unread P)
    [⟨tapRect 8 (by decide), chan h W⟩])

abbrev convNext (P : Vec Ideal S264x1024 .f32) (h : Vec Ideal S256x2048 .bf16) (W : Vec Ideal S2048x6400 .bf16) (cw : Vec Ideal S4x1024 .f32)
    (cb : Vec Ideal S1x1024 .f32) : FVec Ideal S256x1024 .f32 :=
  convTile (padM.view.readCov (Val := Elt Ideal) [⟨tapRect 8 (by decide), chan h W⟩] (tapRect 8 (by decide)).toLoadRect)
    (View.ld (padNext P h W) (tapRect 7 (by decide))) (View.ld (padNext P h W) (tapRect 6 (by decide)))
    (View.ld (padNext P h W) (tapRect 5 (by decide))) cw cb

/-- The state's buffer at the start of a sequence. -/
abbrev fresh0 : List (View.Piece (Elt Ideal) S1x1024 .f32) := [⟨Rect.unit ![0, 0] S1x1024.size (by decide), k0_pay4 (F := Ideal)⟩]

/-- A state of zeros. -/
abbrev noState : Vec Ideal S1x256 .f32 := fun _ => Ideal.ofBits .f32 0x00000000#32

theorem fresh0_ld (o : ℕ) (ho : o ≤ 768) : stateM.view.readCov (Val := Elt Ideal) fresh0 (colRect o ho).toLoadRect = noState := by
  rw [View.readCov_eq_canon', View.canon_unit_zero (by decide)]
  rfl

theorem skip_ld (o p : ℕ) (ho : o ≤ 768) (hp : p ≤ 768) (h : o + 256 ≤ p) (P : Vec Ideal S1x256 .f32)
    (L : List (View.Piece (Elt Ideal) S1x1024 .f32)) :
    stateM.view.readCov (⟨colRect o ho, P⟩ :: L) (colRect p hp).toLoadRect = stateM.view.readCov L (colRect p hp).toLoadRect := by
  rw [View.readCov_eq_canon', View.readCov_eq_canon']
  funext j
  refine View.canon_cons_of_not_mem _ _ ?_
  rw [Rect.mem_set_unit]
  intro hm
  have h1 : ((colRect p hp).idx j 1).val < o + 256 := (hm 1).2
  have h2 : p + 1 * (j 1).val < o + 256 := h1
  omega

theorem piece_state {P : FVec Ideal S256x256 .bf16} {o : ℕ} {ho : o ≤ 768} {v0 : BitVec 1} {x : FVec Ideal S256x1024 .f32}
    {w : Vec Ideal S8x128x256 .bf16} {ba bx lam : Vec Ideal S1x1024 .f32} {h : Vec Ideal S256x2048 .bf16} {W : Vec Ideal S2048x6400 .bf16}
    {c0 c1 : Vec Ideal S1x256 .f32} (hc : c0 = c1) (hP : P = rgPiece o ho v0 x w ba bx lam c0 h W) :
    P = rgPiece o ho v0 x w ba bx lam c1 h W := hc ▸ hP

/-- Four blocks of 256 columns side by side, of a single row. -/
def rowCols4 {e : EltTy} (p : Fin 4 → Vec Ideal S1x256 e) : Vec Ideal S1x1024 e :=
  fun y => p ⟨(y 1).val / 256, by have := (y 1).isLt; exact Nat.div_lt_of_lt_mul this⟩ (ix2 0 ⟨(y 1).val % 256, Nat.mod_lt _ (by decide)⟩)

theorem row_piece_at {e : EltTy} (p : Fin 4 → Vec Ideal S1x256 e) (k : Fin 4) (o : ℕ) (ho : o = 256 * k.val) (P : Vec Ideal S1x256 e)
    (hP : P = p k) (y : S1x1024.Idx) : View.TileAt y ![0, o] S1x256.size P (rowCols4 p y) := by
  intro x hx
  have h1 : (y 1).val = o + (x 1).val := hx 1
  have hlt : (x 1).val < 256 := (x 1).isLt
  have h0 : (x 0).val < 1 := (x 0).isLt
  rw [hP]
  unfold rowCols4
  have hk : (⟨(y 1).val / 256, by have := (y 1).isLt; exact Nat.div_lt_of_lt_mul this⟩ : Fin 4) = k := by
    apply Fin.ext; show (y 1).val / 256 = k.val; omega
  rw [hk]
  congr 1
  funext a
  match a with
  | ⟨0, _⟩ => exact Fin.ext (show (x 0).val = 0 by omega)
  | ⟨1, _⟩ => exact Fin.ext (show (x 1).val = (y 1).val % 256 by omega)

section
variable (m : (ℓ : Loc nD τ sig) → Buf (Elt Ideal) ℓ) (c : Dev nD)

abbrev inW (t : Fin cfg0.N) : Vec Ideal S2048x6400 .bf16 := held (ms0_4 t) (hs0_4 t) (iblk m c 4 t)

end
end Cert.KernelIdeal.Mix
end
-- ==== Proof.TileRest.lean ====
module

public import proofs.«01_k».proof.Proof.TileModel

@[expose] public section
set_option maxRecDepth 16384
set_option maxHeartbeats 200000
noncomputable section
namespace Cert.KernelIdeal.Mix
open Cert.KernelIdeal Cert.KernelIdeal.Gen Idealize.ShloMosaic Idealize.ShloMosaic.TcCoe Idealize.SL.Sem
open Idealize.ShloMosaic.Pipeline (Dat)
open Idealize.ShloMosaic.Pointwise Mixers

/-! ## The rows and the padded projection that one grid point leaves -/

theorem canon_chan (P : Vec Ideal S256x1024 .f32) (L : List (View.Piece (Elt Ideal) S264x1024 .f32)) (y : S264x1024.Idx) (h : 8 ≤ (y 0).val) :
    View.canon (⟨tapRect 8 (by decide), P⟩ :: L) y
      = P (ix2 ⟨(y 0).val - 8, by have : (y 0).val < 264 := (y 0).isLt; omega⟩ (y 1)) := by
  have e : y = (tapRect 8 (by decide)).emb (ix2 ⟨(y 0).val - 8, by have : (y 0).val < 264 := (y 0).isLt; omega⟩ (y 1)) := by
    funext a
    match a with
    | ⟨0, _⟩ => exact Fin.ext (show (y 0).val = 8 + 1 * ((y 0).val - 8) by omega)
    | ⟨1, _⟩ => exact Fin.ext (show (y 1).val = 0 + 1 * (y 1).val by omega)
  conv_lhs => rw [e]
  exact View.canon_cons_emb _ _ _ _

abbrev headRect : Rect S264x1024 := Rect.unit ![0, 0] S8x1024.size (by decide)
abbrev lastRect : Rect S264x1024 := Rect.unit ![256, 0] S8x1024.size (by decide)

theorem pay19_apply (x : FVec Ideal S8x1024 .f32) (i : Fin 8) (n : Fin 1024) : k0_pay19 x (ix2 i n) = x (ix2 i n) := by
  unfold k0_pay19
  pointwise

theorem read_last (P : Vec Ideal S256x1024 .f32) (L : List (View.Piece (Elt Ideal) S264x1024 .f32)) (i : Fin 8) (n : Fin 1024) :
    padM.view.readCov (Val := Elt Ideal) (⟨tapRect 8 (by decide), P⟩ :: L) lastRect.toLoadRect (ix2 i n) = P (ix2 ⟨248 + i.val, Nat.add_lt_add_left i.isLt 248⟩ n) := by
  rw [View.readCov_eq_canon']
  refine (canon_chan P L (lastRect.toLoadRect.idx (ix2 i n)) (show 8 ≤ 256 + 1 * i.val by omega)).trans ?_
  congr 1
  funext a
  match a with
  | ⟨0, _⟩ => exact Fin.ext (show 256 + 1 * i.val - 8 = 248 + i.val by omega)
  | ⟨1, _⟩ => exact Fin.ext (show 0 + 1 * n.val = n.val by omega)

/-- The first eight rows left in the padded projection are its last eight. -/
theorem canon_tail (P : Vec Ideal S256x1024 .f32) (L L' : List (View.Piece (Elt Ideal) S264x1024 .f32)) (i : Fin 8) (n : Fin 1024)
    (y : S264x1024.Idx) (h0 : (y 0).val = i.val) (h1 : (y 1).val = n.val) :
    View.canon (⟨headRect, k0_pay19 (padM.view.readCov (Val := Elt Ideal) (⟨tapRect 8 (by decide), P⟩ :: L) lastRect.toLoadRect)⟩ :: L') y
      = P (ix2 ⟨248 + i.val, Nat.add_lt_add_left i.isLt 248⟩ n) := by
  have e : y = headRect.emb (ix2 i n) := by
    funext a
    match a with
    | ⟨0, _⟩ => exact Fin.ext (show (y 0).val = 0 + 1 * i.val by omega)
    | ⟨1, _⟩ => exact Fin.ext (show (y 1).val = 0 + 1 * n.val by omega)
  exact (congrArg _ e).trans <| (View.canon_cons_emb headRect _ L' (ix2 i n)).trans ((pay19_apply _ i n).trans (read_last P L i n))

section
variable (m : (ℓ : Loc nD τ sig) → Buf (Elt Ideal) ℓ) (c : Dev nD)

theorem row_A (t : Fin cfg0.N) (h0 : t.val % 8 = 0) (h1 : t.val % 32 = 0) : (outsAt0 m c t.val t.isLt).1 =
    rowM.view.readCov [⟨allRows, k0_pay7 (View.ld (held (ms0_3 t) (hs0_3 t) (iblk m c 3 t)) allRows)⟩] allRows.toLoadRect := by
  rw [outsAt0_A m c t h0 h1]
  frame_open
  rw [View.read_writes_junk_eq_canon, View.canon_unit_zero (by decide)]
  rfl

theorem row_B (t : Fin cfg0.N) (h0 : ¬t.val % 8 = 0) (h1 : ¬t.val % 32 = 0) : (outsAt0 m c t.val t.isLt).1 =
    View.ld (held rowM (Memref.isWhole_whole _) (outsAt0 m c (t.val - 1) (by omega)).2.2.2.2.2.2.2.1) allRows := by
  rw [outsAt0_B m c t h0 h1]
  frame_open
  rw [View.read_writes_junk_eq_canon, View.canon_unit_zero (by decide)]
  rfl

theorem row_C (t : Fin cfg0.N) (h0 : t.val % 8 = 0) (h1 : ¬t.val % 32 = 0) : (outsAt0 m c t.val t.isLt).1 =
    View.ld (held rowM (Memref.isWhole_whole _) (outsAt0 m c (t.val - 1) (by omega)).2.2.2.2.2.2.2.1) allRows := by
  rw [outsAt0_C m c t h0 h1]
  frame_open
  rw [View.read_writes_junk_eq_canon, View.canon_unit_zero (by decide)]
  rfl

/-- The rows kept for the next grid point: the normalised rows. -/
theorem keep_rows (t : Fin cfg0.N) : (outsAt0 m c t.val t.isLt).2.2.2.2.2.2.2.1 =
    k0_pay2 (k0_pay16 (View.ld (held (ms0_1 t) (hs0_1 t) (iblk m c 1 t)) allRows)
      (View.ld (held (ms0_2 t) (hs0_2 t) (iblk m c 2 t)) (Rect.unit ![0, 0] S1x2048.size (by decide)))) := by
  by_cases h0 : t.val % 8 = 0
  · by_cases h1 : t.val % 32 = 0
    · rw [outsAt0_A m c t h0 h1]
      frame_open
      rw [View.read_writes_junk_eq_canon]
      exact View.canon_cons_unit_zero (by decide) _ _ _
    · rw [outsAt0_C m c t h0 h1]
      frame_open
      rw [View.read_writes_junk_eq_canon]
      exact View.canon_cons_unit_zero (by decide) _ _ _
  · have h1 : ¬t.val % 32 = 0 := by omega
    rw [outsAt0_B m c t h0 h1]
    frame_open
    rw [View.read_writes_junk_eq_canon]
    exact View.canon_cons_unit_zero (by decide) _ _ _

theorem pad_A (t : Fin cfg0.N) (h0 : t.val % 8 = 0) (h1 : t.val % 32 = 0) (h : Vec Ideal S256x2048 .bf16)
    (hh : h = rowM.view.readCov [⟨allRows, k0_pay7 (View.ld (held (ms0_3 t) (hs0_3 t) (iblk m c 3 t)) allRows)⟩] allRows.toLoadRect) :
    (outsAt0 m c t.val t.isLt).2.2.2.2.2.2.2.2.1 = View.canon (⟨headRect, k0_pay19 (padM.view.readCov (Val := Elt Ideal) (padFresh h (inW m c t)) lastRect.toLoadRect)⟩ :: (padFresh h (inW m c t))) := by
  subst hh
  rw [outsAt0_A m c t h0 h1]
  frame_open
  rw [View.read_writes_junk_eq_canon]
  rfl

theorem pad_B (t : Fin cfg0.N) (h0 : ¬t.val % 8 = 0) (h1 : ¬t.val % 32 = 0) (h : Vec Ideal S256x2048 .bf16)
    (hh : h = View.ld (held rowM (Memref.isWhole_whole _) (outsAt0 m c (t.val - 1) (by omega)).2.2.2.2.2.2.2.1) allRows) :
    (outsAt0 m c t.val t.isLt).2.2.2.2.2.2.2.2.1 = View.canon (⟨headRect, k0_pay19 (padM.view.readCov (Val := Elt Ideal) [⟨tapRect 8 (by decide), chan h (inW m c t)⟩] lastRect.toLoadRect)⟩ :: [⟨tapRect 8 (by decide), chan h (inW m c t)⟩]) := by
  subst hh
  rw [outsAt0_B m c t h0 h1]
  frame_open
  rw [View.read_writes_junk_eq_canon]
  rfl

theorem pad_C (t : Fin cfg0.N) (h0 : t.val % 8 = 0) (h1 : ¬t.val % 32 = 0) (h : Vec Ideal S256x2048 .bf16)
    (hh : h = View.ld (held rowM (Memref.isWhole_whole _) (outsAt0 m c (t.val - 1) (by omega)).2.2.2.2.2.2.2.1) allRows) :
    (outsAt0 m c t.val t.isLt).2.2.2.2.2.2.2.2.1 = View.canon (⟨headRect, k0_pay19 (padM.view.readCov (Val := Elt Ideal) (padFresh h (inW m c t)) lastRect.toLoadRect)⟩ :: (padFresh h (inW m c t))) := by
  subst hh
  rw [outsAt0_C m c t h0 h1]
  frame_open
  rw [View.read_writes_junk_eq_canon]
  rfl

/-- The first eight rows kept of the padded projection. -/
theorem keep_tail (t : Fin cfg0.N) (i : Fin 8) (n : Fin 1024) (y : S264x1024.Idx) (hy0 : (y 0).val = i.val)
    (hy1 : (y 1).val = n.val) : (outsAt0 m c t.val t.isLt).2.2.2.2.2.2.2.2.1 y =
    chan (outsAt0 m c t.val t.isLt).1 (inW m c t) (ix2 ⟨248 + i.val, Nat.add_lt_add_left i.isLt 248⟩ n) := by
  by_cases h0 : t.val % 8 = 0
  · by_cases h1 : t.val % 32 = 0
    · rw [pad_A m c t h0 h1 _ (row_A m c t h0 h1)]
      exact canon_tail _ _ _ i n y hy0 hy1
    · rw [pad_C m c t h0 h1 _ (row_C m c t h0 h1)]
      exact canon_tail _ _ _ i n y hy0 hy1
  · rw [pad_B m c t h0 (by omega) _ (row_B m c t h0 (by omega))]
    exact canon_tail _ _ _ i n y hy0 hy1
end
end Cert.KernelIdeal.Mix
end
-- ==== Proof.TileStep.lean ====
module

public import proofs.«01_k».proof.Proof.TileRest
public import Idealize.ShloMosaic.Lib.WritesUnit

@[expose] public section
set_option maxRecDepth 16384
set_option maxHeartbeats 400000
noncomputable section
namespace Cert.KernelIdeal.Mix
open Cert.KernelIdeal Cert.KernelIdeal.Gen Idealize.ShloMosaic Idealize.ShloMosaic.TcCoe Idealize.SL.Sem
open Idealize.ShloMosaic.Pipeline (Dat)
open Idealize.ShloMosaic.Pointwise Mixers

/-! ## The four taps of the convolution at one grid point -/

/-- The projection delayed by `j` rows, the rows before the tile taken from the end of `Q`. -/
def tap (P Q : FVec Ideal S256x1024 .f32) (j : ℕ) : FVec Ideal S256x1024 .f32 := fun y =>
  if j ≤ (y 0).val then P (ix2 ⟨(y 0).val - j, Nat.lt_of_le_of_lt (Nat.sub_le _ _) (y 0).isLt⟩ (y 1))
  else Q (ix2 ⟨(256 + (y 0).val - j) % 256, Nat.mod_lt _ (by decide)⟩ (y 1))

/-- No rows before the sequence. -/
def noRows : FVec Ideal S256x1024 .f32 := fun _ => Ideal.ofBits .f32 0x00000000#32

theorem tap_fresh (h : Vec Ideal S256x2048 .bf16) (W : Vec Ideal S2048x6400 .bf16) (j o : ℕ) (ho : o ≤ 8) (hj : o + j = 8) :
    padM.view.readCov (Val := Elt Ideal) (padFresh h W) (tapRect o ho).toLoadRect = tap (chan h W) noRows j := by
  rw [View.readCov_eq_canon']
  funext y
  have hy : (y 0).val < 256 := (y 0).isLt
  unfold tap
  by_cases hc : j ≤ (y 0).val
  · rw [if_pos hc]
    refine (canon_chan (chan h W) _ ((tapRect o ho).toLoadRect.idx y) (show 8 ≤ o + 1 * (y 0).val by omega)).trans ?_
    congr 1
    funext a
    match a with
    | ⟨0, _⟩ => exact Fin.ext (show o + 1 * (y 0).val - 8 = (y 0).val - j by omega)
    | ⟨1, _⟩ => exact Fin.ext (show 0 + 1 * (y 1).val = (y 1).val by omega)
  · rw [if_neg hc]
    refine (View.canon_cons_of_not_mem _ _ ?_).trans ?_
    · rw [Rect.mem_set_unit]
      intro hm
      have h1 : 8 ≤ o + 1 * (y 0).val := (hm 0).1
      omega
    · have e : (tapRect o ho).toLoadRect.idx y = headRect.emb (ix2 ⟨o + (y 0).val, by omega⟩ (y 1)) := by
        funext a
        match a with
        | ⟨0, _⟩ => exact Fin.ext (show o + 1 * (y 0).val = 0 + 1 * (o + (y 0).val) by omega)
        | ⟨1, _⟩ => exact Fin.ext (show 0 + 1 * (y 1).val = 0 + 1 * (y 1).val by omega)
      refine (congrArg _ e).trans ((View.canon_cons_emb headRect _ [] (ix2 ⟨o + (y 0).val, by omega⟩ (y 1))).trans ?_)
      show k0_pay3 (F := Ideal) (ix2 ⟨o + (y 0).val, by omega⟩ (y 1)) = Ideal.ofBits .f32 0x00000000#32
      unfold k0_pay3
      pointwise

theorem tap_now (h : Vec Ideal S256x2048 .bf16) (W : Vec Ideal S2048x6400 .bf16) (Q : FVec Ideal S256x1024 .f32) :
    padM.view.readCov (Val := Elt Ideal) [⟨tapRect 8 (by decide), chan h W⟩] (tapRect 8 (by decide)).toLoadRect = tap (chan h W) Q 0 := by
  rw [View.readCov_eq_canon']
  funext y
  unfold tap
  rw [if_pos (Nat.zero_le _)]
  refine (canon_chan (chan h W) _ ((tapRect 8 (by decide)).toLoadRect.idx y) (show 8 ≤ 8 + 1 * (y 0).val by omega)).trans ?_
  congr 1
  funext a
  match a with
  | ⟨0, _⟩ => exact Fin.ext (show 8 + 1 * (y 0).val - 8 = (y 0).val - 0 by omega)
  | ⟨1, _⟩ => exact Fin.ext (show 0 + 1 * (y 1).val = (y 1).val by omega)

theorem tap_next (Pad : Vec Ideal S264x1024 .f32) (h : Vec Ideal S256x2048 .bf16) (W : Vec Ideal S2048x6400 .bf16) (Q : FVec Ideal S256x1024 .f32)
    (hQ : ∀ (i : Fin 8) (n : Fin 1024) (y : S264x1024.Idx), (y 0).val = i.val → (y 1).val = n.val →
      Pad y = Q (ix2 ⟨248 + i.val, Nat.add_lt_add_left i.isLt 248⟩ n))
    (j o : ℕ) (ho : o ≤ 8) (hj : o + j = 8) :
    View.ld (padNext Pad h W) (tapRect o ho) = tap (chan h W) Q j := by
  funext y
  have hy : (y 0).val < 256 := (y 0).isLt
  unfold tap
  show padNext Pad h W ((tapRect o ho).idx y) = _
  by_cases hc : j ≤ (y 0).val
  · rw [if_pos hc]
    exact View.read_writes_cons_rows_of_mem _ _ _ _ _ ((tapRect o ho).idx y) (ix2 ⟨(y 0).val - j, by omega⟩ (y 1)) (o := 8) rfl
      (show o + 1 * (y 0).val = 8 + ((y 0).val - j) by omega) (show 0 + 1 * (y 1).val = (y 1).val by omega)
  · rw [if_neg hc]
    refine (View.read_writes_cons_rows_of_not_mem _ _ _ _ _ ((tapRect o ho).idx y) (o := 8) (W := 256) rfl rfl
      (Or.inl (show o + 1 * (y 0).val < 8 by omega))).trans ?_
    refine (congrFun (held_eq padM (Memref.isWhole_whole _) Pad) _).trans ?_
    refine (hQ ⟨o + (y 0).val, by omega⟩ (y 1) _ (show o + 1 * (y 0).val = o + (y 0).val by omega) (show 0 + 1 * (y 1).val = (y 1).val by omega)).trans ?_
    congr 1
    funext a
    match a with
    | ⟨0, _⟩ => exact Fin.ext (show 248 + (o + (y 0).val) = (256 + (y 0).val - j) % 256 by omega)
    | ⟨1, _⟩ => rfl

theorem flag_A : ∀ t : Fin cfg0.N, kernelRun0_A.sl.v0 (grid0.coords t) = BitVec.ofBool (decide (t.val % 8 = 0)) := by decide +kernel
theorem flag_B : ∀ t : Fin cfg0.N, kernelRun0_B.sl.v0 (grid0.coords t) = BitVec.ofBool (decide (t.val % 8 = 0)) := by decide +kernel
theorem flag_C : ∀ t : Fin cfg0.N, kernelRun0_C.sl.v0 (grid0.coords t) = BitVec.ofBool (decide (t.val % 8 = 0)) := by decide +kernel
end Cert.KernelIdeal.Mix
end
-- ==== Proof.TileCarry.lean ====
module

public import proofs.«01_k».proof.Proof.TileRest

@[expose] public section
set_option maxRecDepth 16384
set_option maxHeartbeats 400000
noncomputable section
namespace Cert.KernelIdeal.Mix
open Cert.KernelIdeal Cert.KernelIdeal.Gen Idealize.ShloMosaic Idealize.ShloMosaic.TcCoe Idealize.SL.Sem
open Idealize.ShloMosaic.Pipeline (Dat)
open Idealize.ShloMosaic.Pointwise Mixers

/-! ## The states kept of the recurrence -/

theorem row_step (p : Fin 4 → Vec Ideal S1x256 .f32) (y : S1x1024.Idx) (k : Fin 4) (o : ℕ) (ho : o ≤ 768) (hk : o = 256 * k.val)
    (P : Vec Ideal S1x256 .f32) (hP : P = p k) (L : List (View.Piece (Elt Ideal) S1x1024 .f32))
    (hL : ¬(o ≤ (y 1).val ∧ (y 1).val < o + 256) → View.canon L y = rowCols4 p y) :
    View.canon (⟨colRect o ho, P⟩ :: L) y = rowCols4 p y := by
  by_cases hm : o ≤ (y 1).val ∧ (y 1).val < o + 256
  · have e : y = (colRect o ho).emb (ix2 (y 0) ⟨(y 1).val - o, by omega⟩) := by
      funext a
      match a with
      | ⟨0, _⟩ => exact Fin.ext (show (y 0).val = 0 + 1 * (y 0).val by omega)
      | ⟨1, _⟩ => exact Fin.ext (show (y 1).val = o + 1 * ((y 1).val - o) by omega)
    refine ((congrArg _ e).trans (View.canon_cons_emb (colRect o ho) P L (ix2 (y 0) ⟨(y 1).val - o, by omega⟩))).trans ?_
    refine row_piece_at p k o hk P hP y _ fun a => ?_
    match a with
    | ⟨0, _⟩ => exact (show (y 0).val = 0 + (y 0).val by omega)
    | ⟨1, _⟩ => exact (show (y 1).val = o + ((y 1).val - o) by omega)
  · refine (View.canon_cons_of_not_mem _ _ ?_).trans (hL hm)
    rw [Rect.mem_set_unit]
    intro hc
    exact hm (hc 1)

theorem rowCanon4 (p : Fin 4 → Vec Ideal S1x256 .f32) {P0 P1 P2 P3 : Vec Ideal S1x256 .f32} (L : List (View.Piece (Elt Ideal) S1x1024 .f32))
    (h0 : P0 = p 0) (h1 : P1 = p 1) (h2 : P2 = p 2) (h3 : P3 = p 3) :
    View.canon (⟨colRect 768 (by decide), P3⟩ :: ⟨colRect 512 (by decide), P2⟩ :: ⟨colRect 256 (by decide), P1⟩ :: ⟨colRect 0 (by decide), P0⟩ :: L)
      = rowCols4 p := by
  funext y
  have hy : (y 1).val < 1024 := (y 1).isLt
  refine row_step p y 3 768 _ rfl P3 h3 _ fun n3 => ?_
  refine row_step p y 2 512 _ rfl P2 h2 _ fun n2 => ?_
  refine row_step p y 1 256 _ rfl P1 h1 _ fun n1 => ?_
  exact row_step p y 0 0 _ rfl P0 h0 _ fun n0 => absurd hy (by omega)

theorem carry_state {P : Vec Ideal S1x256 .f32} {o : ℕ} {ho : o ≤ 768} {v0 : BitVec 1} {x : FVec Ideal S256x1024 .f32}
    {w : Vec Ideal S8x128x256 .bf16} {ba bx lam : Vec Ideal S1x1024 .f32}
    {c0 c1 : Vec Ideal S1x256 .f32} (hc : c0 = c1) (hP : P = rgCarry o ho v0 x w ba bx lam c0) :
    P = rgCarry o ho v0 x w ba bx lam c1 := hc ▸ hP

section
variable (m : (ℓ : Loc nD τ sig) → Buf (Elt Ideal) ℓ) (c : Dev nD)

theorem carry_B (t : Fin cfg0.N) (h0 : ¬t.val % 8 = 0) (h1 : ¬t.val % 32 = 0) (h : Vec Ideal S256x2048 .bf16)
    (hh : h = View.ld (held rowM (Memref.isWhole_whole _) (outsAt0 m c (t.val - 1) (by omega)).2.2.2.2.2.2.2.1) allRows) :
    (outsAt0 m c t.val t.isLt).2.2.2.2.2.2.2.2.2.1 = rowCols4 fun k => rgCarry (256 * k.val) (by omega) (kernelRun0_B.sl.v0 (grid0.coords t))
      (convNext (outsAt0 m c (t.val - 1) (by omega)).2.2.2.2.2.2.2.2.1 h (inW m c t) (held (ms0_5 t) (hs0_5 t) (iblk m c 5 t)) (held (ms0_6 t) (hs0_6 t) (iblk m c 6 t)))
      (held (ms0_7 t) (hs0_7 t) (iblk m c 7 t)) (held (ms0_8 t) (hs0_8 t) (iblk m c 8 t)) (held (ms0_9 t) (hs0_9 t) (iblk m c 9 t))
      (held (ms0_10 t) (hs0_10 t) (iblk m c 10 t))
      (View.ld (held stateM (Memref.isWhole_whole _) (outsAt0 m c (t.val - 1) (by omega)).2.2.2.2.2.2.2.2.2.1) (colRect (256 * k.val) (by omega))) := by
  subst hh
  rw [outsAt0_B m c t h0 h1]
  frame_open
  rw [View.read_writes_junk_eq_canon]
  exact rowCanon4 _ _ rfl rfl rfl rfl

theorem carry_C (t : Fin cfg0.N) (h0 : t.val % 8 = 0) (h1 : ¬t.val % 32 = 0) (h : Vec Ideal S256x2048 .bf16) (x : FVec Ideal S256x1024 .f32)
    (hh : h = View.ld (held rowM (Memref.isWhole_whole _) (outsAt0 m c (t.val - 1) (by omega)).2.2.2.2.2.2.2.1) allRows)
    (hx : x = convFresh h (inW m c t) (held (ms0_5 t) (hs0_5 t) (iblk m c 5 t)) (held (ms0_6 t) (hs0_6 t) (iblk m c 6 t))) :
    (outsAt0 m c t.val t.isLt).2.2.2.2.2.2.2.2.2.1 = rowCols4 fun k => rgCarry (256 * k.val) (by omega) (kernelRun0_C.sl.v0 (grid0.coords t)) x
      (held (ms0_7 t) (hs0_7 t) (iblk m c 7 t)) (held (ms0_8 t) (hs0_8 t) (iblk m c 8 t)) (held (ms0_9 t) (hs0_9 t) (iblk m c 9 t))
      (held (ms0_10 t) (hs0_10 t) (iblk m c 10 t)) noState := by
  subst hx
  subst hh
  rw [outsAt0_C m c t h0 h1]
  frame_open
  rw [View.read_writes_junk_eq_canon]
  refine rowCanon4 _ _ ?_ ?_ ?_ ?_
  · exact carry_state (fresh0_ld 0 (by decide)) rfl
  · exact carry_state ((skip_ld 0 256 (by decide) (by decide) (by decide) _ _).trans (fresh0_ld 256 (by decide))) rfl
  · exact carry_state ((skip_ld 256 512 (by decide) (by decide) (by decide) _ _).trans
      ((skip_ld 0 512 (by decide) (by decide) (by decide) _ _).trans (fresh0_ld 512 (by decide)))) rfl
  · exact carry_state ((skip_ld 512 768 (by decide) (by decide) (by decide) _ _).trans
      ((skip_ld 256 768 (by decide) (by decide) (by decide) _ _).trans
        ((skip_ld 0 768 (by decide) (by decide) (by decide) _ _).trans (fresh0_ld 768 (by decide))))) rfl
theorem carry_A (t : Fin cfg0.N) (h0 : t.val % 8 = 0) (h1 : t.val % 32 = 0) (h : Vec Ideal S256x2048 .bf16) (x : FVec Ideal S256x1024 .f32)
    (hh : h = rowM.view.readCov [⟨allRows, k0_pay7 (View.ld (held (ms0_3 t) (hs0_3 t) (iblk m c 3 t)) allRows)⟩] allRows.toLoadRect)
    (hx : x = convFresh h (inW m c t) (held (ms0_5 t) (hs0_5 t) (iblk m c 5 t)) (held (ms0_6 t) (hs0_6 t) (iblk m c 6 t))) :
    (outsAt0 m c t.val t.isLt).2.2.2.2.2.2.2.2.2.1 = rowCols4 fun k => rgCarry (256 * k.val) (by omega) (kernelRun0_A.sl.v0 (grid0.coords t)) x
      (held (ms0_7 t) (hs0_7 t) (iblk m c 7 t)) (held (ms0_8 t) (hs0_8 t) (iblk m c 8 t)) (held (ms0_9 t) (hs0_9 t) (iblk m c 9 t))
      (held (ms0_10 t) (hs0_10 t) (iblk m c 10 t)) noState := by
  subst hx
  subst hh
  rw [outsAt0_A m c t h0 h1]
  frame_open
  rw [View.read_writes_junk_eq_canon]
  refine rowCanon4 _ _ ?_ ?_ ?_ ?_
  · exact carry_state (fresh0_ld 0 (by decide)) rfl
  · exact carry_state ((skip_ld 0 256 (by decide) (by decide) (by decide) _ _).trans (fresh0_ld 256 (by decide))) rfl
  · exact carry_state ((skip_ld 256 512 (by decide) (by decide) (by decide) _ _).trans
      ((skip_ld 0 512 (by decide) (by decide) (by decide) _ _).trans (fresh0_ld 512 (by decide)))) rfl
  · exact carry_state ((skip_ld 512 768 (by decide) (by decide) (by decide) _ _).trans
      ((skip_ld 256 768 (by decide) (by decide) (by decide) _ _).trans
        ((skip_ld 0 768 (by decide) (by decide) (by decide) _ _).trans (fresh0_ld 768 (by decide))))) rfl
end
end Cert.KernelIdeal.Mix
end
-- ==== Proof.TileKeep.lean ====
module

public import proofs.«01_k».proof.Proof.TileRest

@[expose] public section
set_option maxRecDepth 16384
set_option maxHeartbeats 800000
noncomputable section
namespace Cert.KernelIdeal.Mix
open Cert.KernelIdeal Cert.KernelIdeal.Gen Idealize.ShloMosaic Idealize.ShloMosaic.TcCoe Idealize.SL.Sem
open Idealize.ShloMosaic.Pipeline (Dat)
open Idealize.ShloMosaic.Pointwise Mixers

/-! ## The attention over the memory slots, and the states kept -/

section
variable (m : (ℓ : Loc nD τ sig) → Buf (Elt Ideal) ℓ) (c : Dev nD)

abbrev memPiece (h : Vec Ideal S256x2048 .bf16) (W : Vec Ideal S2048x6400 .bf16) (K : Vec Ideal S1x1024x256 .bf16) (V : Vec Ideal S1x256x1024 .bf16)
    (k : Fin 4) : Vec Ideal S256x256 .bf16 :=
  memHead h (View.ld W (Rect.unit ![0, 4352 + 256 * k.val] S2048x256.size (inb_weight _ (by omega))))
    (View.ld W (Rect.unit ![0, 5376 + 256 * k.val] S2048x256.size (inb_weight _ (by omega))))
    (View.ld K (Rect.unit ![0, 256 * k.val, 0] S1x256x256.size (fun a => match a with
      | ⟨0, _⟩ => (by decide : 0 + 1 ≤ 1)
      | ⟨1, _⟩ => (by show 256 * k.val + 256 ≤ 1024; omega)
      | ⟨2, _⟩ => (by decide : 0 + 256 ≤ 256))))
    (View.ld V (Rect.unit ![0, 0, 256 * k.val] S1x256x256.size (fun a => match a with
      | ⟨0, _⟩ => (by decide : 0 + 1 ≤ 1)
      | ⟨1, _⟩ => (by decide : 0 + 256 ≤ 256)
      | ⟨2, _⟩ => (by show 256 * k.val + 256 ≤ 1024; omega))))

theorem mem_A (t : Fin cfg0.N) (h0 : t.val % 8 = 0) (h1 : t.val % 32 = 0) (h : Vec Ideal S256x2048 .bf16)
    (hh : h = rowM.view.readCov [⟨allRows, k0_pay7 (View.ld (held (ms0_3 t) (hs0_3 t) (iblk m c 3 t)) allRows)⟩] allRows.toLoadRect) :
    (outsAt0 m c t.val t.isLt).2.2.2.1 = cols4 (memPiece h (inW m c t) (held (ms0_12 t) (hs0_12 t) (iblk m c 12 t)) (held (ms0_13 t) (hs0_13 t) (iblk m c 13 t))) := by
  subst hh
  rw [outsAt0_A m c t h0 h1]
  frame_open
  rw [View.read_writes_junk_eq_canon]
  exact canon4 _ rfl rfl rfl rfl rfl

theorem mem_B (t : Fin cfg0.N) (h0 : ¬t.val % 8 = 0) (h1 : ¬t.val % 32 = 0) (h : Vec Ideal S256x2048 .bf16)
    (hh : h = View.ld (held rowM (Memref.isWhole_whole _) (outsAt0 m c (t.val - 1) (by omega)).2.2.2.2.2.2.2.1) allRows) :
    (outsAt0 m c t.val t.isLt).2.2.2.1 = cols4 (memPiece h (inW m c t) (held (ms0_12 t) (hs0_12 t) (iblk m c 12 t)) (held (ms0_13 t) (hs0_13 t) (iblk m c 13 t))) := by
  subst hh
  rw [outsAt0_B m c t h0 h1]
  frame_open
  rw [View.read_writes_junk_eq_canon]
  exact canon4 _ rfl rfl rfl rfl rfl

theorem mem_C (t : Fin cfg0.N) (h0 : t.val % 8 = 0) (h1 : ¬t.val % 32 = 0) (h : Vec Ideal S256x2048 .bf16)
    (hh : h = View.ld (held rowM (Memref.isWhole_whole _) (outsAt0 m c (t.val - 1) (by omega)).2.2.2.2.2.2.2.1) allRows) :
    (outsAt0 m c t.val t.isLt).2.2.2.1 = cols4 (memPiece h (inW m c t) (held (ms0_12 t) (hs0_12 t) (iblk m c 12 t)) (held (ms0_13 t) (hs0_13 t) (iblk m c 13 t))) := by
  subst hh
  rw [outsAt0_C m c t h0 h1]
  frame_open
  rw [View.read_writes_junk_eq_canon]
  exact canon4 _ rfl rfl rfl rfl rfl

/-- What is written of the attention over the memory slots. -/
theorem mem_out (t : Fin cfg0.N) : (outsAt0 m c t.val t.isLt).2.2.2.1 = cols4 (memPiece (outsAt0 m c t.val t.isLt).1 (inW m c t)
    (held (ms0_12 t) (hs0_12 t) (iblk m c 12 t)) (held (ms0_13 t) (hs0_13 t) (iblk m c 13 t))) := by
  by_cases h0 : t.val % 8 = 0
  · by_cases h1 : t.val % 32 = 0
    · exact mem_A m c t h0 h1 _ (row_A m c t h0 h1)
    · exact mem_C m c t h0 h1 _ (row_C m c t h0 h1)
  · exact mem_B m c t h0 (by omega) _ (row_B m c t h0 (by omega))
end
end Cert.KernelIdeal.Mix
end
-- ==== Proof.TileOutA.lean ====
module

public import proofs.«01_k».proof.Proof.TileModel

@[expose] public section
set_option maxRecDepth 16384
set_option maxHeartbeats 4000000
noncomputable section
namespace Cert.KernelIdeal.Mix
open Cert.KernelIdeal Cert.KernelIdeal.Gen Idealize.ShloMosaic Idealize.ShloMosaic.TcCoe Idealize.SL.Sem
open Idealize.ShloMosaic.Pipeline (Dat)
open Idealize.ShloMosaic.Pointwise Mixers

section
variable (m : (ℓ : Loc nD τ sig) → Buf (Elt Ideal) ℓ) (c : Dev nD)

theorem rg_A (t : Fin cfg0.N) (h0 : t.val % 8 = 0) (h1 : t.val % 32 = 0) (h : Vec Ideal S256x2048 .bf16) (x : FVec Ideal S256x1024 .f32)
    (hh : h = rowM.view.readCov (Val := Elt Ideal) [⟨allRows, k0_pay7 (View.ld (held (ms0_3 t) (hs0_3 t) (iblk m c 3 t)) allRows)⟩] allRows.toLoadRect)
    (hx : x = convFresh h (inW m c t) (held (ms0_5 t) (hs0_5 t) (iblk m c 5 t)) (held (ms0_6 t) (hs0_6 t) (iblk m c 6 t))) :
    (outsAt0 m c t.val t.isLt).2.1 = cols4 fun k => rgPiece (256 * k.val) (by omega) (kernelRun0_A.sl.v0 (grid0.coords t)) x
      (held (ms0_7 t) (hs0_7 t) (iblk m c 7 t)) (held (ms0_8 t) (hs0_8 t) (iblk m c 8 t)) (held (ms0_9 t) (hs0_9 t) (iblk m c 9 t))
      (held (ms0_10 t) (hs0_10 t) (iblk m c 10 t))
      noState
      h (inW m c t) := by
  subst hx
  subst hh
  rw [outsAt0_A m c t h0 h1]
  frame_open
  rw [View.read_writes_junk_eq_canon]
  refine canon4 _ ?_ ?_ ?_ ?_ rfl
  · exact piece_state (fresh0_ld 0 (by decide)) rfl
  · exact piece_state ((skip_ld 0 256 (by decide) (by decide) (by decide) _ _).trans (fresh0_ld 256 (by decide))) rfl
  · exact piece_state ((skip_ld 256 512 (by decide) (by decide) (by decide) _ _).trans
      ((skip_ld 0 512 (by decide) (by decide) (by decide) _ _).trans (fresh0_ld 512 (by decide)))) rfl
  · exact piece_state ((skip_ld 512 768 (by decide) (by decide) (by decide) _ _).trans
      ((skip_ld 256 768 (by decide) (by decide) (by decide) _ _).trans
        ((skip_ld 0 768 (by decide) (by decide) (by decide) _ _).trans (fresh0_ld 768 (by decide))))) rfl
end
end Cert.KernelIdeal.Mix
end
-- ==== Proof.TileOutB.lean ====
module

public import proofs.«01_k».proof.Proof.TileModel

@[expose] public section
set_option maxRecDepth 16384
set_option maxHeartbeats 4000000
noncomputable section
namespace Cert.KernelIdeal.Mix
open Cert.KernelIdeal Cert.KernelIdeal.Gen Idealize.ShloMosaic Idealize.ShloMosaic.TcCoe Idealize.SL.Sem
open Idealize.ShloMosaic.Pipeline (Dat)
open Idealize.ShloMosaic.Pointwise Mixers

section
variable (m : (ℓ : Loc nD τ sig) → Buf (Elt Ideal) ℓ) (c : Dev nD)

theorem rg_B (t : Fin cfg0.N) (h0 : ¬t.val % 8 = 0) (h1 : ¬t.val % 32 = 0) (h : Vec Ideal S256x2048 .bf16)
    (hh : h = View.ld (held rowM (Memref.isWhole_whole _) (outsAt0 m c (t.val - 1) (by omega)).2.2.2.2.2.2.2.1) allRows) :
    (outsAt0 m c t.val t.isLt).2.1 = cols4 fun k => rgPiece (256 * k.val) (by omega) (kernelRun0_B.sl.v0 (grid0.coords t))
      (convNext (outsAt0 m c (t.val - 1) (by omega)).2.2.2.2.2.2.2.2.1 h (inW m c t) (held (ms0_5 t) (hs0_5 t) (iblk m c 5 t)) (held (ms0_6 t) (hs0_6 t) (iblk m c 6 t)))
      (held (ms0_7 t) (hs0_7 t) (iblk m c 7 t)) (held (ms0_8 t) (hs0_8 t) (iblk m c 8 t)) (held (ms0_9 t) (hs0_9 t) (iblk m c 9 t))
      (held (ms0_10 t) (hs0_10 t) (iblk m c 10 t))
      (View.ld (held stateM (Memref.isWhole_whole _) (outsAt0 m c (t.val - 1) (by omega)).2.2.2.2.2.2.2.2.2.1) (colRect (256 * k.val) (by omega)))
      h (inW m c t) := by
  subst hh
  rw [outsAt0_B m c t h0 h1]
  frame_open
  rw [View.read_writes_junk_eq_canon]
  exact canon4 _ rfl rfl rfl rfl rfl

end
end Cert.KernelIdeal.Mix
end
-- ==== Proof.TileOutC.lean ====
module

public import proofs.«01_k».proof.Proof.TileModel

@[expose] public section
set_option maxRecDepth 16384
set_option maxHeartbeats 800000
noncomputable section
namespace Cert.KernelIdeal.Mix
open Cert.KernelIdeal Cert.KernelIdeal.Gen Idealize.ShloMosaic Idealize.ShloMosaic.TcCoe Idealize.SL.Sem
open Idealize.ShloMosaic.Pipeline (Dat)
open Idealize.ShloMosaic.Pointwise Mixers

section
variable (m : (ℓ : Loc nD τ sig) → Buf (Elt Ideal) ℓ) (c : Dev nD)

theorem rg_C (t : Fin cfg0.N) (h0 : t.val % 8 = 0) (h1 : ¬t.val % 32 = 0) (h : Vec Ideal S256x2048 .bf16) (x : FVec Ideal S256x1024 .f32)
    (hh : h = View.ld (held rowM (Memref.isWhole_whole _) (outsAt0 m c (t.val - 1) (by omega)).2.2.2.2.2.2.2.1) allRows)
    (hx : x = convFresh h (inW m c t) (held (ms0_5 t) (hs0_5 t) (iblk m c 5 t)) (held (ms0_6 t) (hs0_6 t) (iblk m c 6 t))) :
    (outsAt0 m c t.val t.isLt).2.1 = cols4 fun k => rgPiece (256 * k.val) (by omega) (kernelRun0_C.sl.v0 (grid0.coords t)) x
      (held (ms0_7 t) (hs0_7 t) (iblk m c 7 t)) (held (ms0_8 t) (hs0_8 t) (iblk m c 8 t)) (held (ms0_9 t) (hs0_9 t) (iblk m c 9 t))
      (held (ms0_10 t) (hs0_10 t) (iblk m c 10 t))
      noState
      h (inW m c t) := by
  subst hx
  subst hh
  rw [outsAt0_C m c t h0 h1]
  frame_open
  rw [View.read_writes_junk_eq_canon]
  refine canon4 _ ?_ ?_ ?_ ?_ rfl
  · exact piece_state (fresh0_ld 0 (by decide)) rfl
  · exact piece_state ((skip_ld 0 256 (by decide) (by decide) (by decide) _ _).trans (fresh0_ld 256 (by decide))) rfl
  · exact piece_state ((skip_ld 256 512 (by decide) (by decide) (by decide) _ _).trans
      ((skip_ld 0 512 (by decide) (by decide) (by decide) _ _).trans (fresh0_ld 512 (by decide)))) rfl
  · exact piece_state ((skip_ld 512 768 (by decide) (by decide) (by decide) _ _).trans
      ((skip_ld 256 768 (by decide) (by decide) (by decide) _ _).trans
        ((skip_ld 0 768 (by decide) (by decide) (by decide) _ _).trans (fresh0_ld 768 (by decide))))) rfl
end
end Cert.KernelIdeal.Mix
end
-- ==== Proof.TilePoint.lean ====
module

public import proofs.«01_k».proof.Proof.TileStep
public import proofs.«01_k».proof.Proof.TileCarry
public import proofs.«01_k».proof.Proof.TileKeep
public import proofs.«01_k».proof.Proof.TileOutA
public import proofs.«01_k».proof.Proof.TileOutB
public import proofs.«01_k».proof.Proof.TileOutC

@[expose] public section
set_option maxRecDepth 16384
set_option maxHeartbeats 400000
noncomputable section
namespace Cert.KernelIdeal.Mix
open Cert.KernelIdeal Cert.KernelIdeal.Gen Idealize.ShloMosaic Idealize.ShloMosaic.TcCoe Idealize.SL.Sem
open Idealize.ShloMosaic.Pipeline (Dat)
open Idealize.ShloMosaic.Pointwise Mixers

/-! ## One grid point, whatever its kind -/

section
variable (m : (ℓ : Loc nD τ sig) → Buf (Elt Ideal) ℓ) (c : Dev nD)

/-- The rows a grid point works on. -/
abbrev rows (t : Fin cfg0.N) : Vec Ideal S256x2048 .bf16 := (outsAt0 m c t.val t.isLt).1

theorem prev_lt (t : Fin cfg0.N) : t.val - 1 < cfg0.N := Nat.lt_of_le_of_lt (Nat.sub_le _ _) t.isLt

/-- The grid point before. -/
abbrev prev (t : Fin cfg0.N) : Fin cfg0.N := ⟨t.val - 1, prev_lt t⟩

theorem inW_eq (t : Fin cfg0.N) : inW m c t = iblk m c 4 t := held_eq _ _ _

/-- The recurrent channels of a grid point. -/
def chanAt (t : Fin cfg0.N) : FVec Ideal S256x1024 .f32 := chan (rows m c t) (iblk m c 4 t)

/-- Those of the tile before in the same sequence. -/
def chanBefore (t : Fin cfg0.N) : FVec Ideal S256x1024 .f32 := if t.val % 8 = 0 then noRows else chanAt m c (prev t)

/-- The convolution at a grid point. -/
def convAt (t : Fin cfg0.N) : FVec Ideal S256x1024 .f32 :=
  convTile (tap (chanAt m c t) (chanBefore m c t) 0) (tap (chanAt m c t) (chanBefore m c t) 1) (tap (chanAt m c t) (chanBefore m c t) 2)
    (tap (chanAt m c t) (chanBefore m c t) 3) (iblk m c 5 t) (iblk m c 6 t)

/-- The states kept by a grid point. -/
abbrev keptState (t : Fin cfg0.N) : Vec Ideal S1x1024 .f32 := (outsAt0 m c t.val t.isLt).2.2.2.2.2.2.2.2.2.1

/-- The state a grid point starts from. -/
def stateIn (t : Fin cfg0.N) (k : Fin 4) : Vec Ideal S1x256 .f32 :=
  if t.val % 8 = 0 then noState else View.ld (keptState m c (prev t)) (colRect (256 * k.val) (by omega))

theorem rows_first (t : Fin cfg0.N) (h1 : t.val % 32 = 0) : rows m c t = iblk m c 3 t := by
  refine (row_A m c t (by omega) h1).trans ?_
  rw [View.readCov_unit_zero _ (by decide), held_eq, View.ld_unit_zero (by decide)]
  funext y
  obtain ⟨i, n, rfl⟩ : ∃ i n, y = ix2 i n := ⟨y 0, y 1, eq_ix2 y⟩
  unfold k0_pay7
  pointwise

theorem rows_next (t : Fin cfg0.N) (h1 : ¬t.val % 32 = 0) :
    rows m c t = k0_pay2 (k0_pay16 (iblk m c 1 (prev t)) (iblk m c 2 (prev t))) := by
  have hk := keep_rows m c (prev t)
  rw [held_eq, held_eq, View.ld_unit_zero (by decide), View.ld_unit_zero (by decide)] at hk
  by_cases h0 : t.val % 8 = 0
  · refine (row_C m c t h0 h1).trans ?_
    rw [held_eq, View.ld_unit_zero (by decide)]
    exact hk
  · refine (row_B m c t h0 h1).trans ?_
    rw [held_eq, View.ld_unit_zero (by decide)]
    exact hk

theorem conv_fresh (t : Fin cfg0.N) (h0 : t.val % 8 = 0) :
    convFresh (rows m c t) (inW m c t) (held (ms0_5 t) (hs0_5 t) (iblk m c 5 t)) (held (ms0_6 t) (hs0_6 t) (iblk m c 6 t)) = convAt m c t := by
  unfold convFresh convAt chanBefore chanAt
  rw [if_pos h0, tap_fresh _ _ 0 8 (by decide) rfl, tap_fresh _ _ 1 7 (by decide) rfl, tap_fresh _ _ 2 6 (by decide) rfl,
    tap_fresh _ _ 3 5 (by decide) rfl, held_eq, held_eq, inW_eq]

theorem conv_next (t : Fin cfg0.N) (h0 : ¬t.val % 8 = 0) :
    convNext (outsAt0 m c (t.val - 1) (prev_lt t)).2.2.2.2.2.2.2.2.1 (rows m c t) (inW m c t)
      (held (ms0_5 t) (hs0_5 t) (iblk m c 5 t)) (held (ms0_6 t) (hs0_6 t) (iblk m c 6 t)) = convAt m c t := by
  have hQ := fun i n y h0 h1 => keep_tail m c (prev t) i n y h0 h1
  rw [inW_eq] at hQ
  unfold convNext convAt chanBefore
  rw [if_neg h0, tap_now _ _ (chanAt m c (prev t)), tap_next _ _ _ (chanAt m c (prev t)) hQ 1 7 (by decide) rfl,
    tap_next _ _ _ (chanAt m c (prev t)) hQ 2 6 (by decide) rfl, tap_next _ _ _ (chanAt m c (prev t)) hQ 3 5 (by decide) rfl, held_eq, held_eq, inW_eq]
  rfl

/-- What is written of the recurrence. -/
theorem rg_out (t : Fin cfg0.N) : (outsAt0 m c t.val t.isLt).2.1 = cols4 fun k => rgPiece (256 * k.val) (by omega)
    (BitVec.ofBool (decide (t.val % 8 = 0))) (convAt m c t) (iblk m c 7 t) (iblk m c 8 t) (iblk m c 9 t) (iblk m c 10 t) (stateIn m c t k)
    (rows m c t) (iblk m c 4 t) := by
  by_cases h0 : t.val % 8 = 0
  · have hs : stateIn m c t = fun _ => noState := funext fun k => if_pos h0
    rw [hs]
    by_cases h1 : t.val % 32 = 0
    · refine (rg_A m c t h0 h1 _ _ (row_A m c t h0 h1) (conv_fresh m c t h0).symm).trans ?_
      rw [flag_A, held_eq, held_eq, held_eq, held_eq, inW_eq]
    · refine (rg_C m c t h0 h1 _ _ (row_C m c t h0 h1) (conv_fresh m c t h0).symm).trans ?_
      rw [flag_C, held_eq, held_eq, held_eq, held_eq, inW_eq]
  · have h1 : ¬t.val % 32 = 0 := by omega
    have hs : stateIn m c t = fun k => View.ld (keptState m c (prev t)) (colRect (256 * k.val) (by omega)) := funext fun k => if_neg h0
    rw [hs]
    refine (rg_B m c t h0 h1 _ (row_B m c t h0 h1)).trans ?_
    rw [conv_next m c t h0, flag_B, held_eq, held_eq, held_eq, held_eq, held_eq, inW_eq]

/-- The states kept. -/
theorem state_out (t : Fin cfg0.N) : keptState m c t = rowCols4 fun k => rgCarry (256 * k.val) (by omega)
    (BitVec.ofBool (decide (t.val % 8 = 0))) (convAt m c t) (iblk m c 7 t) (iblk m c 8 t) (iblk m c 9 t) (iblk m c 10 t) (stateIn m c t k) := by
  by_cases h0 : t.val % 8 = 0
  · have hs : stateIn m c t = fun _ => noState := funext fun k => if_pos h0
    rw [hs]
    by_cases h1 : t.val % 32 = 0
    · refine (carry_A m c t h0 h1 _ _ (row_A m c t h0 h1) (conv_fresh m c t h0).symm).trans ?_
      rw [flag_A, held_eq, held_eq, held_eq, held_eq]
    · refine (carry_C m c t h0 h1 _ _ (row_C m c t h0 h1) (conv_fresh m c t h0).symm).trans ?_
      rw [flag_C, held_eq, held_eq, held_eq, held_eq]
  · have h1 : ¬t.val % 32 = 0 := by omega
    have hs : stateIn m c t = fun k => View.ld (keptState m c (prev t)) (colRect (256 * k.val) (by omega)) := funext fun k => if_neg h0
    rw [hs]
    refine (carry_B m c t h0 h1 _ (row_B m c t h0 h1)).trans ?_
    rw [conv_next m c t h0, flag_B, held_eq, held_eq, held_eq, held_eq, held_eq]

/-- What is written of the attention over the memory slots. -/
theorem slots_out (t : Fin cfg0.N) : (outsAt0 m c t.val t.isLt).2.2.2.1 = cols4 (memPiece (rows m c t) (iblk m c 4 t) (iblk m c 12 t) (iblk m c 13 t)) := by
  rw [mem_out, held_eq, held_eq, inW_eq]
end
end Cert.KernelIdeal.Mix
end
-- ==== Proof.Blocks.lean ====
module

public import proofs.«01_k».proof.Proof.TilePoint

@[expose] public section
set_option maxRecDepth 16384
set_option maxHeartbeats 400000
noncomputable section
namespace Cert.KernelIdeal.Mix
open Cert.KernelIdeal Cert.KernelIdeal.Gen Idealize.ShloMosaic Idealize.ShloMosaic.TcCoe Idealize.SL.Sem
open Idealize.ShloMosaic.Pipeline (Dat)
open Idealize.ShloMosaic.Pointwise Mixers

/-! ## The blocks a grid point reads, as parts of the whole arrays -/

theorem idxs : ∀ t : Fin cfg0.N,
    win0_1.index t = ![min (t.val + 1) 31, 0] ∧ win0_2.index t = ![0, 0] ∧ win0_3.index t = ![0, 0] ∧ win0_4.index t = ![0, 0]
    ∧ win0_5.index t = ![0, 0] ∧ win0_6.index t = ![0, 0] ∧ win0_7.index t = ![0, 0, 0] ∧ win0_8.index t = ![0, 0]
    ∧ win0_9.index t = ![0, 0] ∧ win0_10.index t = ![0, 0] ∧ win0_11.index t = ![0, 0, 0] ∧ win0_12.index t = ![t.val / 8, 0, 0]
    ∧ win0_13.index t = ![t.val / 8, 0, 0] ∧ t.val < 32 :=
  (by decide +kernel : ∀ t : Fin grid0.N, _)

theorem lt32 (t : Fin cfg0.N) : t.val < 32 := (idxs t).2.2.2.2.2.2.2.2.2.2.2.2.2

section
variable (m : (ℓ : Loc nD τ sig) → Buf (Elt Ideal) ℓ) (c : Dev nD)

/-- The arrays the call is given. -/
abbrev aX : Vec Ideal S8192x2048 .f32 := m ((c : Thread nD τ).loc main_arg0)
abbrev aG : Vec Ideal S1x2048 .f32 := m ((c : Thread nD τ).loc main_arg1)
abbrev aH : Vec Ideal S256x2048 .bf16 := m ((c : Thread nD τ).loc main_arg2)
abbrev aW : Vec Ideal S2048x6400 .bf16 := m ((c : Thread nD τ).loc main_arg3)
abbrev aCw : Vec Ideal S4x1024 .f32 := m ((c : Thread nD τ).loc main_arg4)
abbrev aCb : Vec Ideal S1x1024 .f32 := m ((c : Thread nD τ).loc main_arg5)
abbrev aAx : Vec Ideal S8x128x256 .bf16 := m ((c : Thread nD τ).loc main_arg6)
abbrev aBa : Vec Ideal S1x1024 .f32 := m ((c : Thread nD τ).loc main_arg7)
abbrev aBx : Vec Ideal S1x1024 .f32 := m ((c : Thread nD τ).loc main_arg8)
abbrev aLam : Vec Ideal S1x1024 .f32 := m ((c : Thread nD τ).loc main_arg9)
abbrev aKt : Vec Ideal S4x1024x256 .bf16 := m ((c : Thread nD τ).loc main_arg12)
abbrev aV : Vec Ideal S4x256x1024 .bf16 := m ((c : Thread nD τ).loc main_arg13)

theorem blk1 (t : Fin cfg0.N) (i : Fin 256) (k : Fin 2048) (ht : t.val + 1 < 32) :
    (iblk m c 1 t : Vec Ideal S256x2048 .f32) (ix2 i k) = aX m c (ix2 ⟨256 * (t.val + 1) + i.val, by omega⟩ k) := by
  have h1 : win0_1.index t = ![t.val + 1, 0] := by rw [(idxs t).1, Nat.min_eq_left (by omega)]
  blk_ext [iblk, V, h1]

theorem blk2 (t : Fin cfg0.N) : (iblk m c 2 t : Vec Ideal S1x2048 .f32) = aG m c := by
  have h1 := (idxs t).2.1
  funext y
  obtain ⟨i, n, rfl⟩ : ∃ i n, y = ix2 i n := ⟨y 0, y 1, eq_ix2 y⟩
  blk_ext [iblk, V, h1]

theorem blk3 (t : Fin cfg0.N) : (iblk m c 3 t : Vec Ideal S256x2048 .bf16) = aH m c := by
  have h1 := (idxs t).2.2.1
  funext y
  obtain ⟨i, n, rfl⟩ : ∃ i n, y = ix2 i n := ⟨y 0, y 1, eq_ix2 y⟩
  blk_ext [iblk, V, h1]

theorem blk4 (t : Fin cfg0.N) : (iblk m c 4 t : Vec Ideal S2048x6400 .bf16) = aW m c := by
  have h1 := (idxs t).2.2.2.1
  funext y
  obtain ⟨i, n, rfl⟩ : ∃ i n, y = ix2 i n := ⟨y 0, y 1, eq_ix2 y⟩
  blk_ext [iblk, V, h1]

theorem blk5 (t : Fin cfg0.N) : (iblk m c 5 t : Vec Ideal S4x1024 .f32) = aCw m c := by
  have h1 := (idxs t).2.2.2.2.1
  funext y
  obtain ⟨i, n, rfl⟩ : ∃ i n, y = ix2 i n := ⟨y 0, y 1, eq_ix2 y⟩
  blk_ext [iblk, V, h1]

theorem blk6 (t : Fin cfg0.N) : (iblk m c 6 t : Vec Ideal S1x1024 .f32) = aCb m c := by
  have h1 := (idxs t).2.2.2.2.2.1
  funext y
  obtain ⟨i, n, rfl⟩ : ∃ i n, y = ix2 i n := ⟨y 0, y 1, eq_ix2 y⟩
  blk_ext [iblk, V, h1]

theorem blk7 (t : Fin cfg0.N) : (iblk m c 7 t : Vec Ideal S8x128x256 .bf16) = aAx m c := by
  have h1 := (idxs t).2.2.2.2.2.2.1
  funext y
  obtain ⟨i, n, k, rfl⟩ : ∃ i n k, y = ix3 i n k := ⟨y 0, y 1, y 2, eq_ix3 y⟩
  blk_ext [iblk, V, h1]

theorem blk8 (t : Fin cfg0.N) : (iblk m c 8 t : Vec Ideal S1x1024 .f32) = aBa m c := by
  have h1 := (idxs t).2.2.2.2.2.2.2.1
  funext y
  obtain ⟨i, n, rfl⟩ : ∃ i n, y = ix2 i n := ⟨y 0, y 1, eq_ix2 y⟩
  blk_ext [iblk, V, h1]

theorem blk9 (t : Fin cfg0.N) : (iblk m c 9 t : Vec Ideal S1x1024 .f32) = aBx m c := by
  have h1 := (idxs t).2.2.2.2.2.2.2.2.1
  funext y
  obtain ⟨i, n, rfl⟩ : ∃ i n, y = ix2 i n := ⟨y 0, y 1, eq_ix2 y⟩
  blk_ext [iblk, V, h1]

theorem blk10 (t : Fin cfg0.N) : (iblk m c 10 t : Vec Ideal S1x1024 .f32) = aLam m c := by
  have h1 := (idxs t).2.2.2.2.2.2.2.2.2.1
  funext y
  obtain ⟨i, n, rfl⟩ : ∃ i n, y = ix2 i n := ⟨y 0, y 1, eq_ix2 y⟩
  blk_ext [iblk, V, h1]

theorem blk12 (t : Fin cfg0.N) (n : Fin 1024) (s : Fin 256) :
    (iblk m c 12 t : Vec Ideal S1x1024x256 .bf16) (ix3 0 n s) = aKt m c (ix3 ⟨t.val / 8, by have := lt32 t; omega⟩ n s) := by
  have h1 := (idxs t).2.2.2.2.2.2.2.2.2.2.2.1
  blk_ext [iblk, V, h1]

theorem blk13 (t : Fin cfg0.N) (s : Fin 256) (n : Fin 1024) :
    (iblk m c 13 t : Vec Ideal S1x256x1024 .bf16) (ix3 0 s n) = aV m c (ix3 ⟨t.val / 8, by have := lt32 t; omega⟩ s n) := by
  have h1 := (idxs t).2.2.2.2.2.2.2.2.2.2.2.2.1
  blk_ext [iblk, V, h1]
end
end Cert.KernelIdeal.Mix
end
-- ==== Proof.LayerSpec.lean ====
module

public import proofs.«01_k».proof.Proof.RgVec
public import proofs.«01_k».proof.Proof.MixSpec

@[expose] public section
set_option maxRecDepth 16384
noncomputable section
namespace Mixers
open Idealize.ShloMosaic Cert.KernelIdeal.Mix

/-! ## The layer written plainly, row by row -/

/-- The arrays of the layer, entry by entry. -/
structure Args where
  x : Fin 8192 → Fin 2048 → EReal
  g : Fin 2048 → EReal
  h0 : Fin 256 → Fin 2048 → EReal
  w : Fin 2048 → Fin 6400 → EReal
  cw : Fin 4 → Fin 1024 → EReal
  cb : Fin 1024 → EReal
  ax : Fin 8 → Fin 128 → Fin 256 → EReal
  ba : Fin 1024 → EReal
  bx : Fin 1024 → EReal
  lam : Fin 1024 → EReal
  kt : Fin 4 → Fin 1024 → Fin 256 → EReal
  v : Fin 4 → Fin 256 → Fin 1024 → EReal

/-- The softplus of a negated parameter. -/
def plus (l : EReal) : EReal :=
  max (0 - l) 0 + Ideal.log1p (Ideal.exp (0 - FloatOps.absf (F := Ideal) (φ := .f32) (0 - l)))

namespace Args
variable (a : Args)

/-- A row of the normalised input; the first 256 rows are given. -/
def row (R : Fin 8192) (k : Fin 2048) : EReal :=
  if h : R.val < 256 then a.h0 ⟨R.val, h⟩ k
  else a.x R k * Ideal.rsqrt (Ideal.div (∑ j, a.x R j * a.x R j) (Ideal.ofBits .f32 0x45000000#32)
    + Ideal.ofBits .f32 0x358637BD#32) * a.g k

/-- A row times the weights. -/
def proj (R : Fin 8192) (n : Fin 6400) : EReal := ∑ k, a.row R k * a.w k n

/-- The recurrent channels `j` rows before, inside the sequence. -/
def past (j : ℕ) (R : Fin 8192) (n : Fin 1024) : EReal :=
  if j ≤ R.val % 2048 then a.proj ⟨R.val - j, by omega⟩ ⟨n.val, by omega⟩ else Ideal.ofBits .f32 0x00000000#32

/-- The convolution over four rows. -/
def conv (R : Fin 8192) (n : Fin 1024) : EReal :=
  a.cb n + ((((0 + a.past 0 R n * a.cw 0 n) + a.past 1 R n * a.cw 1 n) + a.past 2 R n * a.cw 2 n) + a.past 3 R n * a.cw 3 n)

/-- A gate before its bias, by heads of 128 channels: `o = 0` the decay's, `o = 128` the input's. -/
def pre (o : ℕ) (ho : o ≤ 128) (R : Fin 8192) (n : Fin 1024) : EReal :=
  ∑ i : Fin 128, a.conv R ⟨128 * (n.val / 128) + i.val, by omega⟩ * a.ax ⟨n.val / 128, by omega⟩ i ⟨o + n.val % 128, by omega⟩

/-- The logarithm of the decay. -/
def logA (R : Fin 8192) (n : Fin 1024) : EReal :=
  Ideal.ofBits .f32 0xC1000000#32 * Ideal.logistic (a.pre 0 (by decide) R n + a.ba n) * plus (a.lam n)

/-- The gate of the input. -/
def gateX (R : Fin 8192) (n : Fin 1024) : EReal := Ideal.logistic (a.pre 128 (by decide) R n + a.bx n)

/-- A row by its number. -/
def rowAt (r : ℕ) : Fin 8192 := ⟨r % 8192, Nat.mod_lt _ (by decide)⟩

theorem rowAt_val (R : Fin 8192) : rowAt R.val = R := Fin.ext (Nat.mod_eq_of_lt R.isLt)

/-- The decay's logarithm, the gate and the convolution as real numbers. -/
def la (n : Fin 1024) (r : ℕ) : ℝ := (a.logA (rowAt r) n).toReal
def gx (n : Fin 1024) (r : ℕ) : ℝ := (a.gateX (rowAt r) n).toReal
def cv (n : Fin 1024) (r : ℕ) : ℝ := (a.conv (rowAt r) n).toReal

/-- The factor and the offset of the recurrence at row `r`. -/
def factor (n : Fin 1024) (r : ℕ) : ℝ := Real.exp (a.la n r)
def offset (n : Fin 1024) (r : ℕ) : ℝ := inputFactor true (a.la n r) (r % 2048) * a.gx n r * a.cv n r

/-- The state of the recurrence at row `R`. -/
def state (n : Fin 1024) (R : ℕ) : ℝ :=
  after (fun s => a.factor n (2048 * (R / 2048) + s)) (fun s => a.offset n (2048 * (R / 2048) + s)) 0 (R % 2048)

/-- What the recurrent branch gives. -/
def rg (R : Fin 8192) (n : Fin 1024) : EReal :=
  (a.state n R.val : EReal) * gate (a.proj R ⟨1024 + n.val, by omega⟩)

/-- What the memory branch gives: attention over 256 slots by heads of 256 channels. -/
def mem (R : Fin 8192) (n : Fin 1024) : EReal :=
  attend (fun s : Fin 256 => (∑ e : Fin 256, a.proj R ⟨4352 + (256 * (n.val / 256) + e.val), by omega⟩
      * a.kt ⟨R.val / 2048, by omega⟩ ⟨256 * (n.val / 256) + e.val, by omega⟩ s) * Ideal.ofBits .f32 0x3D800000#32)
    (fun s => a.v ⟨R.val / 2048, by omega⟩ s n) * gate (a.proj R ⟨5376 + n.val, by omega⟩)

/-- All the entries are real numbers. -/
structure AllReal : Prop where
  x : ∀ R k, IsReal (a.x R k)
  g : ∀ k, IsReal (a.g k)
  h0 : ∀ R k, IsReal (a.h0 R k)
  w : ∀ k n, IsReal (a.w k n)
  cw : ∀ j n, IsReal (a.cw j n)
  cb : ∀ n, IsReal (a.cb n)
  ax : ∀ h i j, IsReal (a.ax h i j)
  ba : ∀ n, IsReal (a.ba n)
  bx : ∀ n, IsReal (a.bx n)
  lam : ∀ n, IsReal (a.lam n)
  kt : ∀ b n s, IsReal (a.kt b n s)
  v : ∀ b s n, IsReal (a.v b s n)

variable {a}
variable (ha : a.AllReal)
include ha

theorem isReal_row (R k) : IsReal (a.row R k) := by
  unfold row
  split
  · exact ha.h0 _ _
  · refine ((ha.x R k).mul ?_).mul (ha.g k)
    have hs : ∃ s : ℝ, 0 ≤ s ∧ (∑ j, a.x R j * a.x R j) = (s : EReal) := by
      choose f hf using ha.x R
      refine ⟨∑ j, f j * f j, Finset.sum_nonneg fun j _ => mul_self_nonneg _, ?_⟩
      rw [coe_sum]
      exact Finset.sum_congr rfl fun j _ => by rw [hf j, EReal.coe_mul]
    obtain ⟨s, hs0, hs⟩ := hs
    obtain ⟨e, he, he'⟩ := ofBits_eps
    rw [hs, he', ofBits_width, Ideal.div_coe (by norm_num), ← EReal.coe_mul, ← EReal.coe_add]
    have hp : 0 < s * (1 / 2048 : ℝ) + e := by positivity
    rw [Ideal.rsqrt_coe, if_neg (not_lt.mpr hp.le), if_neg hp.ne']
    exact isReal_coe _

theorem isReal_proj (R n) : IsReal (a.proj R n) := isReal_sum fun k => (isReal_row ha R k).mul (ha.w k n)

theorem isReal_past (j R n) : IsReal (a.past j R n) := by
  unfold past
  split
  · exact isReal_proj ha _ _
  · simpa using isReal_zero

theorem isReal_conv (R n) : IsReal (a.conv R n) :=
  (ha.cb n).add ((((isReal_zero.add ((isReal_past ha 0 R n).mul (ha.cw 0 n))).add ((isReal_past ha 1 R n).mul (ha.cw 1 n))).add
    ((isReal_past ha 2 R n).mul (ha.cw 2 n))).add ((isReal_past ha 3 R n).mul (ha.cw 3 n)))

theorem isReal_pre (o ho R n) : IsReal (a.pre o ho R n) := isReal_sum fun _ => (isReal_conv ha _ _).mul (ha.ax _ _ _)

omit ha in
/-- The softplus is a real number and isn't negative. -/
theorem plus_real {l : EReal} (hl : IsReal l) : ∃ r : ℝ, 0 ≤ r ∧ plus l = (r : EReal) := by
  obtain ⟨l, rfl⟩ := hl
  have h1 : (0 : EReal) - (l : EReal) = ((-l : ℝ) : EReal) := by rw [zero_sub, EReal.coe_neg]
  have h2 : FloatOps.absf (F := Ideal) (φ := .f32) (((-l : ℝ) : EReal)) = ((|-l| : ℝ) : EReal) := rfl
  have h3 : (0 : EReal) - ((|-l| : ℝ) : EReal) = ((-|-l| : ℝ) : EReal) := by rw [zero_sub, EReal.coe_neg]
  refine ⟨max (-l) 0 + Real.log (1 + Real.exp (-|-l|)), add_nonneg (le_max_right _ _) (Real.log_nonneg (by
    have := Real.exp_pos (-|-l|); linarith)), ?_⟩
  unfold plus
  rw [h1, h2, h3, Ideal.exp_coe, Ideal.log1p, ← EReal.coe_one, ← EReal.coe_add, Ideal.log_coe, ← EReal.coe_zero, if_neg, EReal.coe_add]
  · exact congrArg (· + _) (EReal.coe_strictMono.monotone.map_max).symm
  have := Real.exp_pos (-|-l|)
  linarith

theorem logA_real (R n) : ∃ r : ℝ, r ≤ 0 ∧ a.logA R n = (r : EReal) := by
  obtain ⟨p, hp⟩ := (isReal_pre ha 0 (by decide) R n).add (ha.ba n)
  obtain ⟨q, hq0, hq⟩ := plus_real (ha.lam n)
  unfold logA
  rw [hp, hq, Ideal.logistic_coe, ofBits_neg_eight, ← EReal.coe_mul, ← EReal.coe_mul]
  refine ⟨_, ?_, rfl⟩
  have h : 0 ≤ (1 + Real.exp (-p))⁻¹ := by positivity
  nlinarith [mul_nonneg h hq0]

theorem isReal_gateX (R n) : IsReal (a.gateX R n) := isReal_logistic ((isReal_pre ha _ _ R n).add (ha.bx n))

theorem logA_eq (R n) : a.logA R n = (a.la n R.val : EReal) := by
  obtain ⟨r, -, h⟩ := logA_real ha R n
  unfold la; rw [rowAt_val, h, EReal.toReal_coe]

theorem la_le (n r) : a.la n r ≤ 0 := by
  obtain ⟨s, h0, h⟩ := logA_real ha (rowAt r) n
  unfold la; rw [h, EReal.toReal_coe]; exact h0

theorem gateX_eq (R n) : a.gateX R n = (a.gx n R.val : EReal) := by
  obtain ⟨r, h⟩ := isReal_gateX ha R n
  unfold gx; rw [rowAt_val, h, EReal.toReal_coe]

theorem conv_eq (R n) : a.conv R n = (a.cv n R.val : EReal) := by
  obtain ⟨r, h⟩ := isReal_conv ha R n
  unfold cv; rw [rowAt_val, h, EReal.toReal_coe]
end Args
end Mixers
end
-- ==== Proof.TileApply.lean ====
module

public import proofs.«01_k».proof.Proof.Blocks
public import proofs.«01_k».proof.Proof.TilePoint
public import proofs.«01_k».proof.Proof.LayerSpec
public import Idealize.ShloMosaic.Lib.KernelVsHost

@[expose] public section
set_option maxRecDepth 16384
noncomputable section
namespace Cert.KernelIdeal.Mix
open Cert.KernelIdeal Cert.KernelIdeal.Gen Idealize.ShloMosaic Idealize.ShloMosaic.TcCoe
open Idealize.ShloMosaic.Pointwise Mixers

/-! ## The vectors of a tile, entry by entry -/

theorem ld_row {e : EltTy} {A B N : ℕ} (X : Vec Ideal ⟨2, ![A, B]⟩ e) (i o : ℕ)
    (h : ∀ a, (![i, o] : Fin 2 → ℕ) a + (⟨2, ![1, N]⟩ : Shape).size a ≤ (⟨2, ![A, B]⟩ : Shape).size a) (n : Fin N) (hi : i < A) (hn : o + n.val < B) :
    View.ld X (Rect.unit ![i, o] (⟨2, ![1, N]⟩ : Shape).size h) (ix2 0 n) = X (ix2 ⟨i, hi⟩ ⟨o + n.val, hn⟩) := by
  show X _ = X _
  congr 1
  funext a
  match a with
  | 0 => exact Fin.ext (show i + 1 * 0 = i by omega)
  | 1 => exact Fin.ext (show o + 1 * n.val = o + n.val by omega)

theorem norm_apply (x : Vec Ideal S256x2048 .f32) (g : Vec Ideal S1x2048 .f32) (i : Fin 256) (k : Fin 2048) :
    k0_pay2 (k0_pay16 x g) (ix2 i k) = x (ix2 i k) * Ideal.rsqrt (Ideal.div (∑ j, x (ix2 i j) * x (ix2 i j)) (Ideal.ofBits .f32 0x45000000#32)
      + Ideal.ofBits .f32 0x358637BD#32) * g (ix2 0 k) := by
  unfold k0_pay2 k0_pay16
  pointwise

theorem chan_apply (h : Vec Ideal S256x2048 .bf16) (W : Vec Ideal S2048x6400 .bf16) (i : Fin 256) (n : Fin 1024) :
    chan h W (ix2 i n) = ∑ k : Fin 2048, h (ix2 i k) * W (ix2 k ⟨n.val, by omega⟩) := by
  unfold chan k0_pay17 k0_pay8
  pointwise

theorem convTile_apply (x0 x1 x2 x3 : FVec Ideal S256x1024 .f32) (cw : Vec Ideal S4x1024 .f32) (cb : Vec Ideal S1x1024 .f32) (i : Fin 256) (n : Fin 1024) :
    convTile x0 x1 x2 x3 cw cb (ix2 i n) = cb (ix2 0 n) + ((((0 + x0 (ix2 i n) * cw (ix2 0 n)) + x1 (ix2 i n) * cw (ix2 1 n))
      + x2 (ix2 i n) * cw (ix2 2 n)) + x3 (ix2 i n) * cw (ix2 3 n)) := by
  unfold convTile k0_pay18
  pointwise

theorem head_product (P : FVec Ideal S256x128 .bf16) (Q : FVec Ideal S1x128x256 .bf16) (i q : Fin 256) :
    matmul (φ₁ := .bf16) (φ₂ := .bf16) dot_S256x128_S128x256_S256x256_1_0_0_1_n_n none P (shapeCast S128x256 Q shapeCasts_S1x128x256_S128x256)
      (constant S256x256 .f32 0x00000000#32) (ix2 i q) = ∑ e : Fin 128, P (ix2 i e) * Q (ix3 0 e q) := by
  pointwise

theorem head_weights (w : Vec Ideal S8x128x256 .bf16) (g : Fin 8) (e : Fin 128) (q : Fin 256) :
    View.ld w (Rect.unit ![g.val, 0, 0] S1x128x256.size (inb_head g.val g.isLt)) (ix3 0 e q) = w (ix3 g e q) := by
  show w _ = w _
  congr 1
  funext a
  match a with
  | 0 => exact Fin.ext (show g.val + 1 * 0 = g.val by omega)
  | 1 => exact Fin.ext (show 0 + 1 * e.val = e.val by omega)
  | 2 => exact Fin.ext (show 0 + 1 * q.val = q.val by omega)

theorem gateHead_apply (x : FVec Ideal S256x1024 .f32) (w : Vec Ideal S8x128x256 .bf16) (g : Fin 8) (i q : Fin 256) :
    gateHead x w g (ix2 i q) = ∑ e : Fin 128, x (ix2 i ⟨128 * g.val + e.val, by omega⟩) * w (ix3 g e q) := by
  unfold gateHead
  rw [head_product]
  refine Finset.sum_congr rfl fun e _ => congrArg₂ (· * ·) ?_ (head_weights w g e q)
  show x _ = x _
  congr 1
  funext a
  match a with
  | 0 => exact Fin.ext (show 0 + i.val = i.val by omega)
  | 1 => rfl

theorem gatePre_apply (o : ℕ) (ho : o ≤ 128) (x : FVec Ideal S256x1024 .f32) (w : Vec Ideal S8x128x256 .bf16) (i : Fin 256) (n : Fin 1024) :
    gatePre o ho x w (ix2 i n) = ∑ e : Fin 128, x (ix2 i ⟨128 * (n.val / 128) + e.val, by omega⟩)
      * w (ix3 ⟨n.val / 128, by omega⟩ e ⟨o + n.val % 128, by omega⟩) := by
  have e := Idealize.ShloMosaic.concatenate_ofFn_apply (t := S256x1024) (s₁ := S256x128) 1
    (fun i : Fin 8 => extractStridedSlice S256x128 ![0, o] (gateHead x w i) (slices_half o ho))
    concatenates_S256x128_S256x128_S256x128_S256x128_S256x128_S256x128_S256x128_S256x128_S256x1024_d1
    rfl 128 rfl (ix2 i n) ⟨n.val / 128, by omega⟩ rfl (ix2 i (⟨n.val % 128, by omega⟩ : Fin 128)) rfl (by
      intro x hx
      match x with
      | 0 => rfl
      | 1 => exact absurd rfl hx)
  refine e.trans ?_
  refine Eq.trans ?_ (gateHead_apply x w ⟨n.val / 128, by omega⟩ i ⟨o + n.val % 128, by omega⟩)
  pointwise

section
variable (o : ℕ) (ho : o ≤ 768) (x : FVec Ideal S256x1024 .f32) (w : Vec Ideal S8x128x256 .bf16) (b lam : Vec Ideal S1x1024 .f32) (r c : Fin 256)

theorem slice_apply : extractStridedSlice S256x256 ![0, o] x (slices_cols o ho) (ix2 r c) = x (ix2 r ⟨o + c.val, by omega⟩) := by
  pointwise

theorem rate_apply : k0_pay66 (plusOf o ho lam) (rateOf o ho x w b) (ix2 r c)
    = Ideal.ofBits .f32 0xC1000000#32 * Ideal.logistic (gatePre 0 (by decide) x w (ix2 r ⟨o + c.val, by omega⟩) + b (ix2 0 ⟨o + c.val, by omega⟩))
      * plus (lam (ix2 0 ⟨o + c.val, by omega⟩)) := by
  unfold k0_pay66 plusOf k0_pay64 rateOf plus
  pointwise

theorem inputGate_apply : inputGate o ho x w b (ix2 r c)
    = Ideal.logistic (gatePre 128 (by decide) x w (ix2 r ⟨o + c.val, by omega⟩) + b (ix2 0 ⟨o + c.val, by omega⟩)) := by
  unfold inputGate
  pointwise

theorem gateCols_apply (h : Vec Ideal S256x2048 .bf16) (W : Vec Ideal S2048x6400 .bf16) :
    k0_pay59 h (View.ld W (Rect.unit ![0, 1024 + o] S2048x256.size (inb_weight (1024 + o) (by omega)))) (ix2 r c)
      = ∑ k : Fin 2048, h (ix2 r k) * W (ix2 k ⟨1024 + (o + c.val), by omega⟩) := by
  unfold k0_pay59
  pointwise
  simp only [Nat.add_assoc]
end

theorem memPiece_apply (h : Vec Ideal S256x2048 .bf16) (W : Vec Ideal S2048x6400 .bf16) (K : Vec Ideal S1x1024x256 .bf16) (V : Vec Ideal S1x256x1024 .bf16)
    (k : Fin 4) (r d : Fin 256) : memPiece h W K V k (ix2 r d) =
    attendLate (fun s : Fin 256 => ∑ e : Fin 256, ((∑ j : Fin 2048, h (ix2 r j) * W (ix2 j ⟨4352 + (256 * k.val + e.val), by omega⟩))
        * Ideal.ofBits .f32 0x3D800000#32) * K (ix3 0 ⟨256 * k.val + e.val, by omega⟩ s))
      (fun s => V (ix3 0 s ⟨256 * k.val + d.val, by omega⟩)) * gate (∑ j : Fin 2048, h (ix2 r j) * W (ix2 j ⟨5376 + (256 * k.val + d.val), by omega⟩)) := by
  unfold memPiece
  rw [memHead_apply]
  pointwise
  simp only [Nat.add_assoc]
end Cert.KernelIdeal.Mix
end
-- ==== Proof.AttendLate.lean ====
module

public import proofs.«01_k».proof.Proof.MixSpec
public import proofs.«01_k».proof.Proof.RealLift

@[expose] public section
noncomputable section
namespace Mixers
open Idealize.ShloMosaic

theorem isReal_top {n : ℕ} {l : Fin (n + 1) → EReal} (hl : ∀ k, IsReal (l k)) : IsReal (top l) := by
  unfold top
  rw [ofBits_neg_inf]
  exact isReal_fold_max_pos hl

theorem attend_eq {n : ℕ} {l v : Fin (n + 1) → EReal} (hl : ∀ s, IsReal (l s)) (hv : ∀ s, IsReal (v s)) : attendLate l v = attend l v := by
  have ht := isReal_top hl
  have hp : ∀ s, IsReal (Ideal.exp (l s - top l)) := fun s => isReal_exp ((hl s).sub ht).ne_top
  have hpos : 0 < ∑ s, Ideal.exp (l s - top l) :=
    lt_of_lt_of_le (exp_pos ((hl 0).sub ht).ne_bot) (Finset.single_le_sum (f := fun s => Ideal.exp (l s - top l)) (fun s _ => exp_nonneg _) (Finset.mem_univ 0))
  unfold attendLate attend
  rw [Ideal.ofBits_one_f32]
  exact normalise hp hv (isReal_sum hp) hpos.ne'

/-- Attention with the queries scaled and the division at the end, or with the scores scaled and the probabilities first. -/
theorem attend_late {n d : ℕ} {q : Fin d → EReal} {k : Fin d → Fin (n + 1) → EReal} {c : EReal} {v : Fin (n + 1) → EReal}
    (hq : ∀ e, IsReal (q e)) (hk : ∀ e s, IsReal (k e s)) (hc : IsReal c) (hv : ∀ s, IsReal (v s)) :
    attendLate (fun s => ∑ e, q e * c * k e s) v = attend (fun s => (∑ e, q e * k e s) * c) v := by
  have hs : (fun s => ∑ e, q e * c * k e s) = fun s => (∑ e, q e * k e s) * c :=
    funext fun s => sum_scaled hq (fun e => hk e s) hc
  rw [hs]
  exact attend_eq (fun s => (isReal_sum fun e => (hq e).mul (hk e s)).mul hc) hv
end Mixers
end
-- ==== Proof.PointRow.lean ====
module

public import proofs.«01_k».proof.Proof.TileApply
public import proofs.«01_k».proof.Proof.AttendLate

@[expose] public section
set_option maxRecDepth 16384
noncomputable section
namespace Cert.KernelIdeal.Mix
open Cert.KernelIdeal Cert.KernelIdeal.Gen Idealize.ShloMosaic Idealize.ShloMosaic.TcCoe Idealize.SL.Sem
open Idealize.ShloMosaic.Pipeline (Dat)
open Idealize.ShloMosaic.Pointwise Mixers

/-! ## What a grid point computes, as rows of the layer -/

section
variable (m : (ℓ : Loc nD τ sig) → Buf (Elt Ideal) ℓ) (c : Dev nD)

/-- The arrays entry by entry. -/
def args : Args where
  x R k := aX m c (ix2 R k)
  g k := aG m c (ix2 0 k)
  h0 R k := aH m c (ix2 R k)
  w k n := aW m c (ix2 k n)
  cw j n := aCw m c (ix2 j n)
  cb n := aCb m c (ix2 0 n)
  ax h i j := aAx m c (ix3 h i j)
  ba n := aBa m c (ix2 0 n)
  bx n := aBx m c (ix2 0 n)
  lam n := aLam m c (ix2 0 n)
  kt b n s := aKt m c (ix3 b n s)
  v b s n := aV m c (ix3 b s n)

/-- The row of the arrays that row `i` of grid point `t` is. -/
abbrev rowOf (t : Fin cfg0.N) (i : Fin 256) : Fin 8192 := ⟨256 * t.val + i.val, by have := lt32 t; omega⟩

theorem row_val (t : Fin cfg0.N) (i : Fin 256) (k : Fin 2048) : rows m c t (ix2 i k) = (args m c).row (rowOf t i) k := by
  have ht := lt32 t
  unfold Args.row
  by_cases h1 : t.val % 32 = 0
  · rw [dif_pos (show 256 * t.val + i.val < 256 by omega), rows_first m c t h1, blk3]
    show aH m c _ = aH m c _
    exact congrArg (fun r => aH m c (ix2 r k)) (Fin.ext (show i.val = 256 * t.val + i.val by omega))
  · rw [dif_neg (show ¬ 256 * t.val + i.val < 256 by omega), rows_next m c t h1, norm_apply, blk2]
    have hp : (prev t).val + 1 < 32 := (show t.val - 1 + 1 < 32 by omega)
    have hr : (⟨256 * ((prev t).val + 1) + i.val, by omega⟩ : Fin 8192) = rowOf t i :=
      Fin.ext (show 256 * (t.val - 1 + 1) + i.val = 256 * t.val + i.val by omega)
    have hx : ∀ j : Fin 2048, (iblk m c 1 (prev t) : Vec Ideal S256x2048 .f32) (ix2 i j) = aX m c (ix2 (rowOf t i) j) := fun j =>
      (blk1 m c (prev t) i j hp).trans (congrArg (fun r => aX m c (ix2 r j)) hr)
    simp only [hx]
    rfl

theorem chan_val (t : Fin cfg0.N) (i : Fin 256) (n : Fin 1024) : chanAt m c t (ix2 i n) = (args m c).proj (rowOf t i) ⟨n.val, by omega⟩ := by
  unfold chanAt Args.proj
  rw [chan_apply, blk4]
  exact Finset.sum_congr rfl fun k _ => congrArg (· * _) (row_val m c t i k)

theorem tap_val (t : Fin cfg0.N) (j : ℕ) (hj : j ≤ 3) (i : Fin 256) (n : Fin 1024) :
    tap (chanAt m c t) (chanBefore m c t) j (ix2 i n) = (args m c).past j (rowOf t i) n := by
  have ht := lt32 t
  unfold tap Args.past
  show (if j ≤ i.val then _ else _) = if j ≤ (256 * t.val + i.val) % 2048 then _ else _
  by_cases h : j ≤ i.val
  · rw [if_pos h, if_pos (by omega)]
    refine (chan_val m c t ⟨i.val - j, by omega⟩ n).trans (congrArg (fun R => (args m c).proj R _) (Fin.ext ?_))
    show 256 * t.val + (i.val - j) = 256 * t.val + i.val - j
    omega
  · rw [if_neg h]
    unfold chanBefore
    by_cases h0 : t.val % 8 = 0
    · rw [if_pos h0, if_neg (by omega)]
      rfl
    · rw [if_neg h0, if_pos (by omega)]
      refine (chan_val m c (prev t) ⟨(256 + i.val - j) % 256, by omega⟩ n).trans (congrArg (fun R => (args m c).proj R _) (Fin.ext ?_))
      show 256 * (t.val - 1) + (256 + i.val - j) % 256 = 256 * t.val + i.val - j
      omega

theorem conv_val (t : Fin cfg0.N) (i : Fin 256) (n : Fin 1024) : convAt m c t (ix2 i n) = (args m c).conv (rowOf t i) n := by
  unfold convAt Args.conv
  rw [convTile_apply, tap_val m c t 0 (by decide), tap_val m c t 1 (by decide), tap_val m c t 2 (by decide), tap_val m c t 3 (by decide), blk5, blk6]
  rfl

theorem pre_val (o : ℕ) (ho : o ≤ 128) (t : Fin cfg0.N) (i : Fin 256) (n : Fin 1024) :
    gatePre o ho (convAt m c t) (iblk m c 7 t) (ix2 i n) = (args m c).pre o ho (rowOf t i) n := by
  unfold Args.pre
  rw [gatePre_apply, blk7]
  exact Finset.sum_congr rfl fun e _ => congrArg (· * _) (conv_val m c t i _)

/-- The values of the memory branch. -/
theorem mem_val (ha : (args m c).AllReal) (t : Fin cfg0.N) (i : Fin 256) (n : Fin 1024) :
    (outsAt0 m c t.val t.isLt).2.2.2.1 (ix2 i n) = (args m c).mem (rowOf t i) n := by
  have ht := lt32 t
  rw [slots_out]
  show memPiece (rows m c t) (iblk m c 4 t) (iblk m c 12 t) (iblk m c 13 t) ⟨n.val / 256, by omega⟩ (ix2 i ⟨n.val % 256, by omega⟩) = _
  rw [memPiece_apply]
  have hn : 256 * (n.val / 256) + n.val % 256 = n.val := Nat.div_add_mod _ _
  simp only [hn, blk12, blk13, blk4]
  have hp : ∀ q : Fin 6400, (∑ j : Fin 2048, rows m c t (ix2 i j) * aW m c (ix2 j q)) = (args m c).proj (rowOf t i) q := fun q =>
    Finset.sum_congr rfl fun k _ => congrArg (· * _) (row_val m c t i k)
  simp only [hp]
  have hb : (⟨t.val / 8, by omega⟩ : Fin 4) = ⟨(256 * t.val + i.val) / 2048, by omega⟩ := Fin.ext (show t.val / 8 = (256 * t.val + i.val) / 2048 by omega)
  rw [hb]
  unfold Args.mem
  refine congrArg (· * _) ?_
  exact attend_late (fun e => Args.isReal_proj ha _ _) (fun e s => ha.kt _ _ _) isReal_sixteenth (fun s => ha.v _ _ _)
end
end Cert.KernelIdeal.Mix
end
-- ==== Proof.RgPoint.lean ====
module

public import proofs.«01_k».proof.Proof.PointRow

@[expose] public section
set_option maxRecDepth 16384
noncomputable section
namespace Cert.KernelIdeal.Mix
open Cert.KernelIdeal Cert.KernelIdeal.Gen Idealize.ShloMosaic Idealize.ShloMosaic.TcCoe Idealize.SL.Sem
open Idealize.ShloMosaic.Pipeline (Dat)
open Idealize.ShloMosaic.Pointwise Mixers

/-! ## The recurrence over the grid points of a sequence -/

/-- The state a tile starts from. -/
def startOf (a : Args) (n : Fin 1024) (t : ℕ) : ℝ := if t % 8 = 0 then 0 else a.state n (256 * t - 1)

theorem state_step (a : Args) (n : Fin 1024) (t r : ℕ) (hr : r < 256) :
    after (fun i => a.factor n (256 * t + i)) (fun i => a.offset n (256 * t + i)) (startOf a n t) r = a.state n (256 * t + r) := by
  unfold startOf Args.state
  by_cases h0 : t % 8 = 0
  · rw [if_pos h0, show (256 * t + r) % 2048 = r by omega, show 2048 * ((256 * t + r) / 2048) = 256 * t by omega]
  · rw [if_neg h0, show (256 * t + r) % 2048 = (256 * (t % 8) - 1) + 1 + r by omega, after_add,
      show 2048 * ((256 * t + r) / 2048) = 2048 * (t / 8) by omega, show 2048 * ((256 * t - 1) / 2048) = 2048 * (t / 8) by omega,
      show (256 * t - 1) % 2048 = 256 * (t % 8) - 1 by omega]
    have e : ∀ i, 2048 * (t / 8) + (256 * (t % 8) - 1 + 1 + i) = 256 * t + i := fun i => by omega
    simp only [e]

theorem factor_first (t r : ℕ) (hr : r < 256) (l : ℝ) :
    inputFactor (decide (t % 8 = 0)) l r = inputFactor true l ((256 * t + r) % 2048) := by
  unfold inputFactor
  by_cases h : t % 8 = 0 ∧ r = 0
  · rw [if_pos ⟨decide_eq_true h.1, h.2⟩, if_pos ⟨rfl, by omega⟩]
  · rw [if_neg (fun h' => h ⟨of_decide_eq_true h'.1, h'.2⟩), if_neg (fun h' => h (by have := h'.2; omega))]

section
variable (m : (ℓ : Loc nD τ sig) → Buf (Elt Ideal) ℓ) (c : Dev nD) (ha : (args m c).AllReal)
include ha

/-- The channel of column `d` of piece `k`. -/
abbrev chanOf (k : Fin 4) (d : Fin 256) : Fin 1024 := ⟨256 * k.val + d.val, by omega⟩

theorem log_val (t : Fin cfg0.N) (k : Fin 4) (r d : Fin 256) :
    k0_pay66 (plusOf (256 * k.val) (by omega) (iblk m c 10 t)) (rateOf (256 * k.val) (by omega) (convAt m c t) (iblk m c 7 t) (iblk m c 8 t)) (ix2 r d)
      = (((args m c).la (chanOf k d) (256 * t.val + r.val) : ℝ) : EReal) := by
  rw [rate_apply, pre_val, blk8, blk10]
  exact Args.logA_eq ha (rowOf t r) (chanOf k d)

theorem gate_val (t : Fin cfg0.N) (k : Fin 4) (r d : Fin 256) :
    inputGate (256 * k.val) (by omega) (convAt m c t) (iblk m c 7 t) (iblk m c 9 t) (ix2 r d)
      = (((args m c).gx (chanOf k d) (256 * t.val + r.val) : ℝ) : EReal) := by
  rw [inputGate_apply, pre_val, blk9]
  exact Args.gateX_eq ha (rowOf t r) (chanOf k d)

theorem conv_slice (t : Fin cfg0.N) (k : Fin 4) (r d : Fin 256) :
    extractStridedSlice S256x256 ![0, 256 * k.val] (convAt m c t) (slices_cols (256 * k.val) (by omega)) (ix2 r d)
      = (((args m c).cv (chanOf k d) (256 * t.val + r.val) : ℝ) : EReal) := by
  rw [slice_apply (256 * k.val) (by omega), conv_val]
  exact Args.conv_eq ha (rowOf t r) (chanOf k d)

theorem tileA_val (t : Fin cfg0.N) (k : Fin 4) :
    HoldsG (tileA (256 * k.val) (by omega) (convAt m c t) (iblk m c 7 t) (iblk m c 8 t) (iblk m c 10 t))
      (fun g d => factors (fun i => (args m c).factor (chanOf k d) (256 * t.val + (8 * g.val + i.val)))) :=
  scanA_holds (la := fun d i => (args m c).la (chanOf k d) (256 * t.val + i)) (log_val m c ha t k)

theorem tileB_val (t : Fin cfg0.N) (k : Fin 4) :
    HoldsG (tileB (256 * k.val) (by omega) (BitVec.ofBool (decide (t.val % 8 = 0))) (convAt m c t) (iblk m c 7 t) (iblk m c 8 t) (iblk m c 9 t) (iblk m c 10 t))
      (fun g d => offsets (fun i => (args m c).factor (chanOf k d) (256 * t.val + (8 * g.val + i.val)))
        (fun i => (args m c).offset (chanOf k d) (256 * t.val + (8 * g.val + i.val)))) :=
  scanB_holds (la := fun d i => (args m c).la (chanOf k d) (256 * t.val + i)) (u := fun d i => (args m c).offset (chanOf k d) (256 * t.val + i))
    (log_val m c ha t k) fun r d => by
      rw [inputs_apply (la := fun d i => (args m c).la (chanOf k d) (256 * t.val + i)) (w := fun d i => (args m c).gx (chanOf k d) (256 * t.val + i))
        (m := fun d i => (args m c).cv (chanOf k d) (256 * t.val + i)) (decide (t.val % 8 = 0)) rfl (log_val m c ha t k)
        (fun d i => Args.la_le ha _ _) (gate_val m c ha t k) (conv_slice m c ha t k), factor_first _ _ r.isLt]
      rfl

section
variable (t : Fin cfg0.N) (hs : ∀ (k : Fin 4) (d : Fin 256), stateIn m c t k (ix2 0 d) = ((startOf (args m c) (chanOf k d) t.val : ℝ) : EReal))
include hs

theorem carry_val (k : Fin 4) (d : Fin 256) :
    rgCarry (256 * k.val) (by omega) (BitVec.ofBool (decide (t.val % 8 = 0))) (convAt m c t) (iblk m c 7 t) (iblk m c 8 t) (iblk m c 9 t) (iblk m c 10 t)
      (stateIn m c t k) (ix2 0 d) = (((args m c).state (chanOf k d) (256 * t.val + 255) : ℝ) : EReal) := by
  unfold rgCarry
  rw [shapeCast_self]
  exact (lastState_apply (a := fun d i => (args m c).factor (chanOf k d) (256 * t.val + i))
    (b := fun d i => (args m c).offset (chanOf k d) (256 * t.val + i)) (s := fun d => startOf (args m c) (chanOf k d) t.val) (tileA_val m c ha t k) (tileB_val m c ha t k) (hs k) d).trans (congrArg _ (state_step _ _ _ _ (by decide)))

theorem piece_val (k : Fin 4) (i d : Fin 256) (h : Vec Ideal S256x2048 .bf16) (W : Vec Ideal S2048x6400 .bf16) :
    rgPiece (256 * k.val) (by omega) (BitVec.ofBool (decide (t.val % 8 = 0))) (convAt m c t) (iblk m c 7 t) (iblk m c 8 t) (iblk m c 9 t) (iblk m c 10 t)
      (stateIn m c t k) h W (ix2 i d) = (((args m c).state (chanOf k d) (256 * t.val + i.val) : ℝ) : EReal)
        * gate (∑ j : Fin 2048, h (ix2 i j) * W (ix2 j ⟨1024 + (256 * k.val + d.val), by omega⟩)) := by
  unfold rgPiece
  refine (rgBlock_apply (a := fun d i => (args m c).factor (chanOf k d) (256 * t.val + i))
    (b := fun d i => (args m c).offset (chanOf k d) (256 * t.val + i)) (s := fun d => startOf (args m c) (chanOf k d) t.val) (tileA_val m c ha t k) (tileB_val m c ha t k) (hs k) _ i d).trans ?_
  rw [gateCols_apply (256 * k.val) (by omega)]
  exact congrArg (fun x : ℝ => (x : EReal) * _) (state_step _ _ _ _ i.isLt)

theorem kept_step (n : Fin 1024) : keptState m c t (ix2 0 n) = (((args m c).state n (256 * t.val + 255) : ℝ) : EReal) := by
  rw [state_out]
  have hn : chanOf ⟨n.val / 256, by omega⟩ ⟨n.val % 256, by omega⟩ = n := Fin.ext (Nat.div_add_mod _ _)
  have h := carry_val m c ha t hs ⟨n.val / 256, by omega⟩ ⟨n.val % 256, by omega⟩
  rw [hn] at h
  exact h
end

theorem start_val : ∀ (i : ℕ) (t : Fin cfg0.N), t.val = i → ∀ (k : Fin 4) (d : Fin 256),
    stateIn m c t k (ix2 0 d) = ((startOf (args m c) (chanOf k d) t.val : ℝ) : EReal) := by
  intro i
  induction i with
  | zero =>
    intro t ht k d
    unfold stateIn startOf
    rw [if_pos (by omega), if_pos (by omega)]
    exact Ideal.ofBits_zero_f32
  | succ i ih =>
    intro t ht k d
    unfold stateIn startOf
    by_cases h0 : t.val % 8 = 0
    · rw [if_pos h0, if_pos h0]
      exact Ideal.ofBits_zero_f32
    · rw [if_neg h0, if_neg h0]
      have hk := kept_step m c ha (prev t) (ih (prev t) (show t.val - 1 = i by omega)) (chanOf k d)
      have e : View.ld (keptState m c (prev t)) (colRect (256 * k.val) (by omega)) (ix2 0 d) = keptState m c (prev t) (ix2 0 (chanOf k d)) :=
        ld_row _ 0 (256 * k.val) _ d (by decide) (by omega)
      rw [e, hk]
      have e2 : 256 * (prev t).val + 255 = 256 * t.val - 1 := (show 256 * (t.val - 1) + 255 = 256 * t.val - 1 by omega)
      rw [e2]

/-- The values of the recurrent branch. -/
theorem rg_val (t : Fin cfg0.N) (i : Fin 256) (n : Fin 1024) :
    (outsAt0 m c t.val t.isLt).2.1 (ix2 i n) = (args m c).rg (rowOf t i) n := by
  have ht := lt32 t
  rw [rg_out]
  have hn : chanOf ⟨n.val / 256, by omega⟩ ⟨n.val % 256, by omega⟩ = n := Fin.ext (Nat.div_add_mod _ _)
  have h := piece_val m c ha t (start_val m c ha t.val t rfl) ⟨n.val / 256, by omega⟩ i ⟨n.val % 256, by omega⟩ (rows m c t) (iblk m c 4 t)
  rw [hn] at h
  refine h.trans ?_
  have hq : 256 * (n.val / 256) + n.val % 256 = n.val := Nat.div_add_mod _ _
  rw [blk4]
  simp only [hq, row_val]
  rfl
end
end Cert.KernelIdeal.Mix
end
-- ==== Proof.BranchOut.lean ====
module

public import proofs.«01_k».proof.Proof.RgPoint

@[expose] public section
set_option maxRecDepth 16384
noncomputable section
namespace Cert.KernelIdeal.Mix
open Cert.KernelIdeal Cert.KernelIdeal.Gen Idealize.ShloMosaic Idealize.ShloMosaic.TcCoe Idealize.SL.Sem
open Idealize.ShloMosaic.Pipeline (Dat)
open Idealize.ShloMosaic.Pointwise Mixers

/-! ## The result arrays after the run -/

theorem outIdxs : ∀ t : Fin cfg0.N, win0_19.index t = ![t.val, 0] ∧ win0_20.index t = ![t.val, 0] ∧ win0_22.index t = ![t.val, 0]
    ∧ win0_23.index t = ![t.val, 0] ∧ win0_24.index t = ![0, t.val, 0] ∧ win0_25.index t = ![t.val, 0] ∧ win0_15.index t = ![t.val, 0]
    ∧ win0_16.index t = ![t.val, 0] ∧ win0_17.index t = ![t.val, 0] ∧ win0_18.index t = ![t.val, 0] ∧ win0_14.index t = ![64 * t.val, 6400] :=
  (by decide +kernel : ∀ t : Fin grid0.N, _)

theorem pair_eta {a b : Nat} (y : (⟨2, ![a, b]⟩ : Shape).Idx) : y = ix2 (y 0 : Fin a) (y 1 : Fin b) := by
  funext k
  match k with
  | ⟨0, _⟩ => rfl
  | ⟨1, _⟩ => rfl

variable (m : (ℓ : Loc nD τ sig) → Buf (Elt Ideal) ℓ) (c : Dev nD)

/-- The normalised rows. -/
theorem final_rows : (dats m 0 c).arrAt 19 cfg0.N = fun i : S8192x2048.Idx => (args m c).row (i 0) (i 1) := by
  refine (dats m 0 c).arrAt_eq_of_covers 19 _ (by decide +kernel) fun t hf y => ?_
  have h1 := (outIdxs t).1
  blk_simp
  rw [after0_19]
  have e0 : (((win0_19.blk t).view.emb y) 0 : Nat) = 256 * t.val + (y 0 : Nat) := by blk_simp [h1]; omega
  have e1 : (((win0_19.blk t).view.emb y) 1 : Nat) = (y 1 : Nat) := by blk_simp [h1]
  refine (congrArg (outsAt0 m c t.val t.isLt).1 (pair_eta y)).trans ((row_val m c t (y 0) (y 1)).trans ?_)
  exact congrArg₂ (args m c).row (Fin.ext e0.symm) (Fin.ext e1.symm)

/-- The recurrent branch. -/
theorem final_rg (ha : (args m c).AllReal) : (dats m 0 c).arrAt 20 cfg0.N = fun i : S8192x1024.Idx => (args m c).rg (i 0) (i 1) := by
  refine (dats m 0 c).arrAt_eq_of_covers 20 _ (by decide +kernel) fun t hf y => ?_
  have h1 := (outIdxs t).2.1
  blk_simp
  rw [after0_20]
  have e0 : (((win0_20.blk t).view.emb y) 0 : Nat) = 256 * t.val + (y 0 : Nat) := by blk_simp [h1]; omega
  have e1 : (((win0_20.blk t).view.emb y) 1 : Nat) = (y 1 : Nat) := by blk_simp [h1]
  refine (congrArg (outsAt0 m c t.val t.isLt).2.1 (pair_eta y)).trans ((rg_val m c ha t (y 0) (y 1)).trans ?_)
  exact congrArg₂ (args m c).rg (Fin.ext e0.symm) (Fin.ext e1.symm)

/-- The memory branch. -/
theorem final_mem (ha : (args m c).AllReal) : (dats m 0 c).arrAt 22 cfg0.N = fun i : S8192x1024.Idx => (args m c).mem (i 0) (i 1) := by
  refine (dats m 0 c).arrAt_eq_of_covers 22 _ (by decide +kernel) fun t hf y => ?_
  have h1 := (outIdxs t).2.2.1
  blk_simp
  rw [after0_22]
  have e0 : (((win0_22.blk t).view.emb y) 0 : Nat) = 256 * t.val + (y 0 : Nat) := by blk_simp [h1]; omega
  have e1 : (((win0_22.blk t).view.emb y) 1 : Nat) = (y 1 : Nat) := by blk_simp [h1]
  refine (congrArg (outsAt0 m c t.val t.isLt).2.2.2.1 (pair_eta y)).trans ((mem_val m c ha t (y 0) (y 1)).trans ?_)
  exact congrArg₂ (args m c).mem (Fin.ext e0.symm) (Fin.ext e1.symm)
end Cert.KernelIdeal.Mix
end
-- ==== Proof.WeightOut.lean ====
module

public import proofs.«01_k».proof.Proof.TileRest
public import proofs.«01_k».proof.Proof.BranchOut

@[expose] public section
set_option maxRecDepth 16384
noncomputable section
namespace Cert.KernelIdeal.Mix
open Cert.KernelIdeal Cert.KernelIdeal.Gen Idealize.ShloMosaic Idealize.ShloMosaic.TcCoe Idealize.SL.Sem
open Idealize.ShloMosaic.Pipeline (Dat)
open Idealize.ShloMosaic.Pointwise Mixers

/-! ## The weights a grid point rounds -/

variable (m : (ℓ : Loc nD τ sig) → Buf (Elt Ideal) ℓ) (c : Dev nD)

theorem gate_out (t : Fin cfg0.N) (y : S64x6144.Idx) : (outsAt0 m c t.val t.isLt).2.2.2.2.1 y = (iblk m c 14 t : Vec Ideal S64x6144 .f32) y := by
  have e : (outsAt0 m c t.val t.isLt).2.2.2.2.1 = truncf (F := Ideal) .bf16 (View.ld (held (ms0_14 t) (hs0_14 t) (iblk m c 14 t))
      (Rect.unit ![0, 0] S64x6144.size (by decide))) bitsLt_bf16_f32 := by
    by_cases h0 : t.val % 8 = 0
    · by_cases h1 : t.val % 32 = 0
      · rw [outsAt0_A m c t h0 h1]
        frame_open
        rw [View.read_writes_junk_eq_canon]
        exact View.canon_cons_unit_zero (by decide) _ _ _
      · rw [outsAt0_C m c t h0 h1]
        frame_open
        rw [View.read_writes_junk_eq_canon]
        exact View.canon_cons_unit_zero (by decide) _ _ _
    · have h1 : ¬t.val % 32 = 0 := by omega
      rw [outsAt0_B m c t h0 h1]
      frame_open
      rw [View.read_writes_junk_eq_canon]
      exact View.canon_cons_unit_zero (by decide) _ _ _
  rw [e, held_eq, View.ld_unit_zero (by decide)]
  rfl

theorem out_out (t : Fin cfg0.N) (y : S64x2048.Idx) : (outsAt0 m c t.val t.isLt).2.2.2.2.2.2.1 y = (iblk m c 18 t : Vec Ideal S64x2048 .f32) y := by
  have e : (outsAt0 m c t.val t.isLt).2.2.2.2.2.2.1 = truncf (F := Ideal) .bf16 (View.ld (held (ms0_18 t) (hs0_18 t) (iblk m c 18 t))
      (Rect.unit ![0, 0] S64x2048.size (by decide))) bitsLt_bf16_f32 := by
    by_cases h0 : t.val % 8 = 0
    · by_cases h1 : t.val % 32 = 0
      · rw [outsAt0_A m c t h0 h1]
        frame_open
        rw [View.read_writes_junk_eq_canon]
        exact View.canon_cons_unit_zero (by decide) _ _ _
      · rw [outsAt0_C m c t h0 h1]
        frame_open
        rw [View.read_writes_junk_eq_canon]
        exact View.canon_cons_unit_zero (by decide) _ _ _
    · have h1 : ¬t.val % 32 = 0 := by omega
      rw [outsAt0_B m c t h0 h1]
      frame_open
      rw [View.read_writes_junk_eq_canon]
      exact View.canon_cons_unit_zero (by decide) _ _ _
  rw [e, held_eq, View.ld_unit_zero (by decide)]
  rfl

/-- One of the three weights of the branches. -/
def branchPiece (b : Fin 3) (t : Fin cfg0.N) : Vec Ideal S1x32x2048 .bf16 :=
  match b with
  | 0 => shapeCast S1x32x2048 (truncf (F := Ideal) .bf16 (View.ld (held (ms0_15 t) (hs0_15 t) (iblk m c 15 t)) (Rect.unit ![0, 0] S32x2048.size (by decide))) bitsLt_bf16_f32) shapeCasts_S32x2048_S1x32x2048
  | 1 => shapeCast S1x32x2048 (truncf (F := Ideal) .bf16 (View.ld (held (ms0_16 t) (hs0_16 t) (iblk m c 16 t)) (Rect.unit ![0, 0] S32x2048.size (by decide))) bitsLt_bf16_f32) shapeCasts_S32x2048_S1x32x2048
  | 2 => shapeCast S1x32x2048 (truncf (F := Ideal) .bf16 (View.ld (held (ms0_17 t) (hs0_17 t) (iblk m c 17 t)) (Rect.unit ![0, 0] S32x2048.size (by decide))) bitsLt_bf16_f32) shapeCasts_S32x2048_S1x32x2048

theorem branch_out (t : Fin cfg0.N) : (outsAt0 m c t.val t.isLt).2.2.2.2.2.1 = View.canon (Val := Elt Ideal) (s := S3x32x2048) (e := .bf16)
    [⟨Rect.unit ![2, 0, 0] S1x32x2048.size (by decide), branchPiece m c 2 t⟩, ⟨Rect.unit ![1, 0, 0] S1x32x2048.size (by decide), branchPiece m c 1 t⟩,
      ⟨Rect.unit ![0, 0, 0] S1x32x2048.size (by decide), branchPiece m c 0 t⟩] := by
  by_cases h0 : t.val % 8 = 0
  · by_cases h1 : t.val % 32 = 0
    · rw [outsAt0_A m c t h0 h1]
      frame_open
      rw [View.read_writes_junk_eq_canon]
      rfl
    · rw [outsAt0_C m c t h0 h1]
      frame_open
      rw [View.read_writes_junk_eq_canon]
      rfl
  · have h1 : ¬t.val % 32 = 0 := by omega
    rw [outsAt0_B m c t h0 h1]
    frame_open
    rw [View.read_writes_junk_eq_canon]
    rfl

/-- The rows of the branches' weights a point is shown. -/
def branchBlock (t : Fin cfg0.N) (b : Fin 3) : Vec Ideal S32x2048 .f32 :=
  match b with
  | 0 => iblk m c 15 t
  | 1 => iblk m c 16 t
  | 2 => iblk m c 17 t

theorem lifted_apply (X : Vec Ideal S32x2048 .f32) (r : Fin 32) (k : Fin 2048) :
    shapeCast S1x32x2048 (truncf (F := Ideal) .bf16 X bitsLt_bf16_f32) shapeCasts_S32x2048_S1x32x2048 (ix3 0 r k) = X (ix2 r k) := by
  pointwise

theorem branchPiece_apply (b : Fin 3) (t : Fin cfg0.N) (r : Fin 32) (k : Fin 2048) :
    branchPiece m c b t (ix3 0 r k) = branchBlock m c t b (ix2 r k) := by
  match b with
  | 0 => unfold branchPiece branchBlock; dsimp only; rw [held_eq, View.ld_unit_zero (by decide), lifted_apply]
  | 1 => unfold branchPiece branchBlock; dsimp only; rw [held_eq, View.ld_unit_zero (by decide), lifted_apply]
  | 2 => unfold branchPiece branchBlock; dsimp only; rw [held_eq, View.ld_unit_zero (by decide), lifted_apply]

theorem branch_tile (b q : Fin 3) (t : Fin cfg0.N) (r : Fin 32) (k : Fin 2048) :
    View.TileAt (Val := Elt Ideal) (S := S3x32x2048) (e := .bf16) (ix3 q r k) ![b.val, 0, 0] S1x32x2048.size (branchPiece m c b t)
      (branchBlock m c t q (ix2 r k)) := by
  intro x hx
  have h0 : q.val = b.val + (x 0).val := hx 0
  have h1 : r.val = 0 + (x 1).val := hx 1
  have h2 : k.val = 0 + (x 2).val := hx 2
  have hx0 : (x 0).val < 1 := (x 0).isLt
  obtain rfl : q = b := Fin.ext (by omega)
  have e : (x : S1x32x2048.Idx) = ix3 0 r k := by
    funext a
    match a with
    | ⟨0, _⟩ => exact Fin.ext (by show (x 0).val = 0; omega)
    | ⟨1, _⟩ => exact Fin.ext (by show (x 1).val = r.val; omega)
    | ⟨2, _⟩ => exact Fin.ext (by show (x 2).val = k.val; omega)
  rw [← branchPiece_apply]
  exact congrArg (branchPiece m c q t) e

theorem branch_val (t : Fin cfg0.N) (b : Fin 3) (r : Fin 32) (k : Fin 2048) :
    (outsAt0 m c t.val t.isLt).2.2.2.2.2.1 (ix3 b r k) = branchBlock m c t b (ix2 r k) := by
  rw [branch_out]
  refine View.canon_eq_of_allAt _ _ _ (View.cover_of_tiled_head _ _ _ rfl _) ?_
  refine View.allAt_cons_unit _ _ _ _ _ (branch_tile m c 2 b t r k) ?_
  refine View.allAt_cons_unit _ _ _ _ _ (branch_tile m c 1 b t r k) ?_
  refine View.allAt_cons_unit _ _ _ _ _ (branch_tile m c 0 b t r k) ?_
  exact View.allAt_nil _ _

/-- The arrays of the branches' weights. -/
def branchArray (b : Fin 3) : Vec Ideal S1024x2048 .f32 :=
  match b with
  | 0 => m ((c : Thread nD τ).loc main_arg15)
  | 1 => m ((c : Thread nD τ).loc main_arg16)
  | 2 => m ((c : Thread nD τ).loc main_arg17)

theorem branchBlock_apply (t : Fin cfg0.N) (b : Fin 3) (r : Fin 32) (k : Fin 2048) (R : Fin 1024) (hR : R.val = 32 * t.val + r.val) :
    branchBlock m c t b (ix2 r k) = branchArray m c b (ix2 R k) := by
  have h15 := (outIdxs t).2.2.2.2.2.2.1
  have h16 := (outIdxs t).2.2.2.2.2.2.2.1
  have h17 := (outIdxs t).2.2.2.2.2.2.2.2.1
  match b with
  | 0 => unfold branchBlock branchArray; dsimp only; blk_ext [iblk, V, h15]
  | 1 => unfold branchBlock branchArray; dsimp only; blk_ext [iblk, V, h16]
  | 2 => unfold branchBlock branchArray; dsimp only; blk_ext [iblk, V, h17]

/-- The gates' weights, rounded. -/
theorem final_gate : (dats m 0 c).arrAt 23 cfg0.N = fun i : S2048x6144.Idx =>
    (m ((c : Thread nD τ).loc main_arg14) : Vec Ideal S2048x12544 .f32) (ix2 (i 0 : Fin 2048) ⟨6400 + (i 1).val, Nat.add_lt_add_left (i 1).isLt 6400⟩) := by
  refine (dats m 0 c).arrAt_eq_of_covers 23 _ (by decide +kernel) fun t hf y => ?_
  have h1 := (outIdxs t).2.2.2.1
  have h2 := (outIdxs t).2.2.2.2.2.2.2.2.2.2
  blk_simp
  rw [after0_23, gate_out]
  have e0 : (((win0_23.blk t).view.emb y) 0 : Nat) = 64 * t.val + (y 0 : Nat) := by blk_simp [h1]; omega
  have e1 : (((win0_23.blk t).view.emb y) 1 : Nat) = (y 1 : Nat) := by blk_simp [h1]
  have g0 : ((win0_14.rect t).emb y 0 : Nat) = 64 * t.val + (y 0 : Nat) := by
    rw [Pipeline.Window.rect_emb_val_off]
    exact congrArg (· + (y 0 : Nat)) (congrFun h2 0)
  have g1 : ((win0_14.rect t).emb y 1 : Nat) = 6400 + (y 1 : Nat) := by
    rw [Pipeline.Window.rect_emb_val_off]
    exact congrArg (· + (y 1 : Nat)) (congrFun h2 1)
  blk_ext [iblk, V, h1, h2]
  · exact g0.trans (by omega)
  · exact g1

/-- The branches' weights, rounded. -/
theorem final_branch : (dats m 0 c).arrAt 24 cfg0.N = fun i : S3x1024x2048.Idx => branchArray m c (i 0) (ix2 (i 1 : Fin 1024) (i 2 : Fin 2048)) := by
  refine (dats m 0 c).arrAt_eq_of_covers 24 _ (by decide +kernel) fun t hf y => ?_
  have h1 := (outIdxs t).2.2.2.2.1
  blk_simp
  rw [after0_24]
  have e0 : (((win0_24.blk t).view.emb y) 0 : Nat) = (y 0 : Nat) := by blk_simp [h1]
  have e1 : (((win0_24.blk t).view.emb y) 1 : Nat) = 32 * t.val + (y 1 : Nat) := by blk_simp [h1]; omega
  have e2 : (((win0_24.blk t).view.emb y) 2 : Nat) = (y 2 : Nat) := by blk_simp [h1]
  have hy : (y : S3x32x2048.Idx) = ix3 (y 0 : Fin 3) (y 1 : Fin 32) (y 2 : Fin 2048) := by
    funext k
    match k with
    | ⟨0, _⟩ => rfl
    | ⟨1, _⟩ => rfl
    | ⟨2, _⟩ => rfl
  refine (congrArg (outsAt0 m c t.val t.isLt).2.2.2.2.2.1 hy).trans ((branch_val m c t (y 0) (y 1) (y 2)).trans
    ((branchBlock_apply m c t (y 0) (y 1) (y 2) (((win0_24.blk t).view.emb y) 1) e1).trans ?_))
  exact congrArg₂ (fun b k => branchArray m c b (ix2 (((win0_24.blk t).view.emb y) 1 : Fin 1024) k)) (Fin.ext e0.symm) (Fin.ext e2.symm)

/-- The output's weights, rounded. -/
theorem final_out : (dats m 0 c).arrAt 25 cfg0.N = fun i : S2048x2048.Idx => (m ((c : Thread nD τ).loc main_arg18) : Vec Ideal S2048x2048 .f32) i := by
  refine (dats m 0 c).arrAt_eq_of_covers 25 _ (by decide +kernel) fun t hf y => ?_
  have h1 := (outIdxs t).2.2.2.2.2.1
  have h2 := (outIdxs t).2.2.2.2.2.2.2.2.2.1
  blk_simp
  rw [after0_25, out_out]
  blk_ext [iblk, V, h1, h2]
end Cert.KernelIdeal.Mix
end
-- ==== Proof.RefRows.lean ====
module

public import proofs.«01_k».proof.Proof.LayerSpec
public import proofs.«01_k».proof.Proof.Gen.ReferenceIdeal.Read
public import Idealize.ShloMosaic.Lib.KernelVsHost

@[expose] public section
set_option maxRecDepth 16384
noncomputable section
namespace Cert.ReferenceIdeal.Mix
open Cert.ReferenceIdeal Cert.ReferenceIdeal.Gen Cert.ReferenceIdeal.Read Idealize.ShloMosaic Idealize.ShloMosaic.TcCoe
open Idealize.ShloMosaic.Pointwise Mixers

/-! ## The reference's values, entry by entry -/

theorem comm128 (k : ℕ) : k * 128 = 128 * k := Nat.mul_comm k 128
theorem comm256 (k : ℕ) : k * 256 = 256 * k := Nat.mul_comm k 256
theorem comm2048 (k : ℕ) : k * 2048 = 2048 * k := Nat.mul_comm k 2048

section
variable (x0 : (⟨S8192x2048, .f32⟩ : BufTy).Contents (Elt Ideal)) (x1 : (⟨S1x2048, .f32⟩ : BufTy).Contents (Elt Ideal))
  (x2 : (⟨S256x2048, .bf16⟩ : BufTy).Contents (Elt Ideal)) (x3 : (⟨S2048x6400, .bf16⟩ : BufTy).Contents (Elt Ideal))
  (x4 : (⟨S4x1024, .f32⟩ : BufTy).Contents (Elt Ideal)) (x5 : (⟨S1x1024, .f32⟩ : BufTy).Contents (Elt Ideal))
  (x6 : (⟨S8x128x256, .bf16⟩ : BufTy).Contents (Elt Ideal)) (x7 x8 x9 : (⟨S1x1024, .f32⟩ : BufTy).Contents (Elt Ideal))
  (x12 : (⟨S4x1024x256, .bf16⟩ : BufTy).Contents (Elt Ideal)) (x13 : (⟨S4x256x1024, .bf16⟩ : BufTy).Contents (Elt Ideal))

/-- The arrays entry by entry. -/
def args : Args where
  x R k := x0 (ix2 R k)
  g k := x1 (ix2 0 k)
  h0 R k := x2 (ix2 R k)
  w k n := x3 (ix2 k n)
  cw j n := x4 (ix2 j n)
  cb n := x5 (ix2 0 n)
  ax h i j := x6 (ix3 h i j)
  ba n := x7 (ix2 0 n)
  bx n := x8 (ix2 0 n)
  lam n := x9 (ix2 0 n)
  kt b n s := x12 (ix3 b n s)
  v b s n := x13 (ix3 b s n)

theorem v11_apply (R : Fin 8192) (k : Fin 2048) : val_main_v11 (F := Ideal) x0 x1 (ix2 R k) =
   x0 (ix2 R k) * Ideal.rsqrt (Ideal.div (∑ j, x0 (ix2 R j) * x0 (ix2 R j)) (Ideal.ofBits .f32 0x45000000#32)
    + Ideal.ofBits .f32 0x358637BD#32) * x1 (ix2 0 k) := by
  pointwise [val_main_v0, val_main_cst, val_main_v1, val_main_v2, val_main_cst_0, val_main_v3, val_main_v4, val_main_cst_1, val_main_v5, val_main_v6, val_main_v7, val_main_v8, val_main_v9, val_main_v10, val_main_v11]

theorem v13_apply (R : Fin 7936) (k : Fin 2048) :
    val_main_v13 (F := Ideal) x0 x1 (ix2 R k) = val_main_v11 (F := Ideal) x0 x1 (ix2 ⟨256 + R.val, by omega⟩ k) := by
  pointwise [val_main_v12, val_main_v13]

theorem v14_apply (R : Fin 8192) (k : Fin 2048) :
    val_main_v14 (F := Ideal) x0 x1 x2 (ix2 R k) = (args x0 x1 x2 x3 x4 x5 x6 x7 x8 x9 x12 x13).row R k := by
  unfold val_main_v14 Args.row args
  by_cases h : R.val < 256
  · rw [dif_pos h, concatenate_pair_apply_left (t := S8192x2048) (s₁ := S256x2048) (s₂ := S7936x2048) 0 _ _ _ (ix2 R k) rfl (ix2 ⟨R.val, h⟩ k)
      (fun b => by match b with | 0 => rfl | 1 => rfl)]
  · rw [dif_neg h, concatenate_pair_apply_right (t := S8192x2048) (s₁ := S256x2048) (s₂ := S7936x2048) 0 _ _ _ (ix2 R k) rfl rfl
      (ix2 ⟨R.val - 256, by omega⟩ k) (fun b hb => by match b with | 0 => exact absurd rfl hb | 1 => rfl)
      (show R.val - 256 + 256 = R.val by omega), v13_apply]
    have e : (⟨256 + (R.val - 256), by omega⟩ : Fin 8192) = R := Fin.ext (show 256 + (R.val - 256) = R.val by omega)
    rw [e, v11_apply]

theorem v17_apply (R : Fin 8192) (n : Fin 6400) :
    val_main_v17 (F := Ideal) x0 x1 x2 x3 (ix2 R n) = (args x0 x1 x2 x3 x4 x5 x6 x7 x8 x9 x12 x13).proj R n := by
  unfold Args.proj
  simp only [← v14_apply]
  pointwise [val_main_v15, val_main_v16, val_main_v17]
  rfl

theorem v19_apply (b : Fin 4) (s : Fin 2048) (n : Fin 1024) : val_main_v19 (F := Ideal) x0 x1 x2 x3 (ix3 b s n)
    = (args x0 x1 x2 x3 x4 x5 x6 x7 x8 x9 x12 x13).proj ⟨2048 * b.val + s.val, by omega⟩ ⟨n.val, by omega⟩ := by
  rw [← v17_apply]
  pointwise [val_main_v18, val_main_v19]
  simp only [comm2048]

theorem v20_apply (b : Fin 4) (s : Fin 2048) (n : Fin 1024) : val_main_v20 (F := Ideal) x0 x1 x2 x3 (ix3 b s n)
    = (args x0 x1 x2 x3 x4 x5 x6 x7 x8 x9 x12 x13).proj ⟨2048 * b.val + s.val, by omega⟩ ⟨1024 + n.val, by omega⟩ := by
  rw [← v17_apply]
  pointwise [val_main_v18, val_main_v20]
  simp only [comm2048]

theorem v25_apply (b : Fin 4) (s : Fin 2048) (n : Fin 1024) : val_main_v25 (F := Ideal) x0 x1 x2 x3 (ix3 b s n)
    = (args x0 x1 x2 x3 x4 x5 x6 x7 x8 x9 x12 x13).proj ⟨2048 * b.val + s.val, by omega⟩ ⟨4352 + n.val, by omega⟩ := by
  rw [← v17_apply]
  pointwise [val_main_v18, val_main_v25]
  simp only [comm2048]

theorem v26_apply (b : Fin 4) (s : Fin 2048) (n : Fin 1024) : val_main_v26 (F := Ideal) x0 x1 x2 x3 (ix3 b s n)
    = (args x0 x1 x2 x3 x4 x5 x6 x7 x8 x9 x12 x13).proj ⟨2048 * b.val + s.val, by omega⟩ ⟨5376 + n.val, by omega⟩ := by
  rw [← v17_apply]
  pointwise [val_main_v18, val_main_v26]
  simp only [comm2048]

theorem v34_apply (b : Fin 4) (s : Fin 2048) (n : Fin 1024) (j : ℕ) (hj : j ≤ 3) :
    val_main_v34 (F := Ideal) x0 x1 x2 x3 (ix3 b ⟨3 - j + s.val, by omega⟩ n)
      = (args x0 x1 x2 x3 x4 x5 x6 x7 x8 x9 x12 x13).past j ⟨2048 * b.val + s.val, by omega⟩ n := by
  unfold val_main_v34 Args.past
  have hs : (2048 * b.val + s.val) % 2048 = s.val := by omega
  show _ = if j ≤ (2048 * b.val + s.val) % 2048 then _ else _
  rw [hs]
  by_cases h : j ≤ s.val
  · rw [if_pos h, pad_apply_of_inside ![0, 3, 0] ![0, 0, 0] ![0, 0, 0] _ _ _ _ _ (ix3 b ⟨s.val - j, by omega⟩ n)
      (fun a => by
        match a with
        | 0 => show b.val = 0 + b.val * 1; omega
        | 1 => show 3 - j + s.val = 3 + (s.val - j) * 1; omega
        | 2 => show n.val = 0 + n.val * 1; omega), v19_apply x0 x1 x2 x3 x4 x5 x6 x7 x8 x9 x12 x13]
    exact congrArg (fun R => (args x0 x1 x2 x3 x4 x5 x6 x7 x8 x9 x12 x13).proj R _)
      (Fin.ext (show 2048 * b.val + (s.val - j) = 2048 * b.val + s.val - j by omega))
  · rw [if_neg h, pad_apply_of_not_inside (s := S4x2048x1024) (t := S4x2051x1024) ![0, 3, 0] ![0, 0, 0] ![0, 0, 0] _ _ pads_S4x2048x1024_S4x2051x1024_000_300_000 _
      (ix3 b (⟨3 - j + s.val, by omega⟩ : Fin 2051) n) 1
        (by
          show ¬ (3 ≤ 3 - j + s.val ∧ (3 - j + s.val - 3) % 1 = 0 ∧ (3 - j + s.val - 3) / 1 < 2048)
          omega)]
    pointwise [val_main_call0_v0, val_main_c]
    show (((0#32 : BitVec 32).toInt : ℝ) : EReal) = 0
    simp

theorem v66_apply (b : Fin 4) (s : Fin 2048) (n : Fin 1024) : val_main_v66 (F := Ideal) x0 x1 x2 x3 x4 x5 (ix3 b s n)
    = (args x0 x1 x2 x3 x4 x5 x6 x7 x8 x9 x12 x13).conv ⟨2048 * b.val + s.val, by omega⟩ n := by
  unfold Args.conv
  rw [← v34_apply x0 x1 x2 x3 x4 x5 x6 x7 x8 x9 x12 x13 b s n 0 (by decide), ← v34_apply x0 x1 x2 x3 x4 x5 x6 x7 x8 x9 x12 x13 b s n 1 (by decide),
    ← v34_apply x0 x1 x2 x3 x4 x5 x6 x7 x8 x9 x12 x13 b s n 2 (by decide), ← v34_apply x0 x1 x2 x3 x4 x5 x6 x7 x8 x9 x12 x13 b s n 3 (by decide)]
  pointwise [val_main_v28, val_main_v35, val_main_v36, val_main_v37, val_main_v38, val_main_v39, val_main_v40, val_main_cst_2, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66]
  simp [args]

theorem v70_apply (b : Fin 4) (s : Fin 2048) (n : Fin 1024) : val_main_v70 (F := Ideal) x0 x1 x2 x3 x4 x5 x6 (ix3 b s n)
    = (args x0 x1 x2 x3 x4 x5 x6 x7 x8 x9 x12 x13).pre 0 (by decide) ⟨2048 * b.val + s.val, by omega⟩ n := by
  unfold Args.pre
  simp only [← v66_apply]
  pointwise [val_main_v27, val_main_v29, val_main_v67, val_main_v68, val_main_v69, val_main_v70]
  simp only [comm128, args, Nat.zero_add]
  exact Finset.sum_congr rfl fun _ _ => mul_comm _ _

theorem v82_apply (b : Fin 4) (s : Fin 2048) (n : Fin 1024) : val_main_v82 (F := Ideal) x0 x1 x2 x3 x4 x5 x6 (ix3 b s n)
    = (args x0 x1 x2 x3 x4 x5 x6 x7 x8 x9 x12 x13).pre 128 (by decide) ⟨2048 * b.val + s.val, by omega⟩ n := by
  unfold Args.pre
  simp only [← v66_apply]
  pointwise [val_main_v27, val_main_v31, val_main_v67, val_main_v80, val_main_v81, val_main_v82]
  simp only [comm128, args]
  exact Finset.sum_congr rfl fun _ _ => mul_comm _ _

theorem plus_apply (n : Fin 1024) : val_main_v95 (F := Ideal) x9 (ix1 n) = plus (x9 (ix2 0 n)) := by
  pointwise [val_main_v33, val_main_v94, val_main_call1_cst, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_v95]
  unfold plus
  rw [if_neg (by simp), zero_sub, zero_sub]

theorem v98_apply (b : Fin 4) (s : Fin 2048) (n : Fin 1024) : val_main_v98 (F := Ideal) x0 x1 x2 x3 x4 x5 x6 x7 x9 (ix3 b s n)
    = (args x0 x1 x2 x3 x4 x5 x6 x7 x8 x9 x12 x13).logA ⟨2048 * b.val + s.val, by omega⟩ n := by
  unfold Args.logA
  rw [← v70_apply]
  pointwise [val_main_v30, val_main_v71, val_main_v72, val_main_v73, val_main_v74, val_main_v75, val_main_cst_3, val_main_v76, val_main_v77, val_main_cst_4, val_main_v78, val_main_v79, val_main_cst_7, val_main_v92, val_main_v93, val_main_v96, val_main_v97, val_main_v98]
  rw [plus_apply]
  rfl

theorem v91_apply (b : Fin 4) (s : Fin 2048) (n : Fin 1024) : val_main_v91 (F := Ideal) x0 x1 x2 x3 x4 x5 x6 x8 (ix3 b s n)
    = (args x0 x1 x2 x3 x4 x5 x6 x7 x8 x9 x12 x13).gateX ⟨2048 * b.val + s.val, by omega⟩ n := by
  unfold Args.gateX
  rw [← v82_apply]
  pointwise [val_main_v32, val_main_v83, val_main_v84, val_main_v85, val_main_v86, val_main_v87, val_main_cst_5, val_main_v88, val_main_v89, val_main_cst_6, val_main_v90, val_main_v91]
  rfl
end
end Cert.ReferenceIdeal.Mix
end
-- ==== Proof.RefMem.lean ====
module

public import proofs.«01_k».proof.Proof.RefRows

@[expose] public section
set_option maxRecDepth 16384
noncomputable section
namespace Cert.ReferenceIdeal.Mix
open Cert.ReferenceIdeal Cert.ReferenceIdeal.Gen Cert.ReferenceIdeal.Read Idealize.ShloMosaic Idealize.ShloMosaic.TcCoe
open Idealize.ShloMosaic.Pointwise Mixers

/-! ## The reference's attention over the memory slots -/

theorem scores_apply (Q : FVec Ideal S4x2048x1024 .f32) (K : FVec Ideal S4x1024x256 .bf16) (b h : Fin 4) (t : Fin 2048) (s : Fin 256) :
    Host.dotGeneral (F := Ideal) dot_S4x2048x4x256_S4x256x4x256_S4x4x2048x256_3_3_1_1_02_02 none
      (shapeCast S4x2048x4x256 Q shapeCasts_S4x2048x1024_S4x2048x4x256)
      (shapeCast S4x256x4x256 (transpose S4x256x1024 [0, 2, 1] (extf .f32 K bitsLt_bf16_f32) transposes_S4x1024x256_S4x256x1024_0_2_1)
        shapeCasts_S4x256x1024_S4x256x4x256) (ix4 b h t s)
      = ∑ e : Fin 256, Q (ix3 b t ⟨h.val * 256 + e.val, by omega⟩) * K (ix3 b ⟨h.val * 256 + e.val, by omega⟩ s) := by
  pointwise

theorem scaled_apply (X : FVec Ideal S4x4x2048x256 .f32) (b h : Fin 4) (t : Fin 2048) (s : Fin 256) :
    mulf X (broadcastInDim S4x4x2048x256 ![] bcast_S_S4x4x2048x256 (constant S_ .f32 0x3D800000#32)) (ix4 b h t s)
      = X (ix4 b h t s) * Ideal.ofBits .f32 0x3D800000#32 := by
  pointwise

theorem gated_apply (Z : FVec Ideal S4x2048x1024 .f32) (b : Fin 4) (t : Fin 2048) (n : Fin 1024) :
    mulf Z (Host.divf (F := Ideal) (φ := .f32) (broadcastInDim S4x2048x1024 ![] bcast_S_S4x2048x1024 (constant S_ .f32 0x3F800000#32))
      (addf (broadcastInDim S4x2048x1024 ![] bcast_S_S4x2048x1024 (constant S_ .f32 0x3F800000#32)) (Host.exp (Host.negf Z)))) (ix3 b t n)
      = gate (Z (ix3 b t n)) := by
  unfold gate Ideal.logistic
  pointwise

theorem joined_apply (X Y : FVec Ideal S4x2048x1024 .f32) (R : Fin 8192) (n : Fin 1024) :
    truncf (F := Ideal) .bf16 (shapeCast S8192x1024 (mulf X Y) shapeCasts_S4x2048x1024_S8192x1024) bitsLt_bf16_f32 (ix2 R n)
      = X (ix3 ⟨R.val / 2048, by omega⟩ ⟨R.val % 2048, by omega⟩ n) * Y (ix3 ⟨R.val / 2048, by omega⟩ ⟨R.val % 2048, by omega⟩ n) := by
  pointwise

theorem shifted_apply (L : FVec Ideal S4x4x2048x256 .f32) (M : FVec Ideal S4x4x2048 .f32) (b h : Fin 4) (t : Fin 2048) (s : Fin 256) :
    Host.exp (F := Ideal) (φ := .f32) (subf L (broadcastInDim S4x4x2048x256 ![0, 1, 2, 3] bcast_S4x4x2048x1_S4x4x2048x256_0_1_2_3
      (broadcastInDim S4x4x2048x1 ![0, 1, 2] bcast_S4x4x2048_S4x4x2048x1_0_1_2 M))) (ix4 b h t s)
      = Ideal.exp (L (ix4 b h t s) - M (ix3 b h t)) := by
  pointwise

theorem weighted_apply (V : FVec Ideal S4x256x1024 .bf16) (P : FVec Ideal S4x4x2048x256 .f32) (b : Fin 4) (t : Fin 2048) (n : Fin 1024) :
    shapeCast S4x2048x1024 (transpose S4x2048x4x256 [0, 3, 1, 2] (Host.dotGeneral (F := Ideal) dot_S4x256x4x256_S4x4x2048x256_S4x4x256x2048_1_3_3_2_02_01 none
      (shapeCast S4x256x4x256 (extf .f32 V bitsLt_bf16_f32) shapeCasts_S4x256x1024_S4x256x4x256) P) transposes_S4x4x256x2048_S4x2048x4x256_0_3_1_2)
      shapeCasts_S4x2048x4x256_S4x2048x1024 (ix3 b t n)
      = ∑ s : Fin 256, V (ix3 b s n) * P (ix4 b ⟨n.val / 256, by omega⟩ t s) := by
  pointwise

section
variable (x0 : (⟨S8192x2048, .f32⟩ : BufTy).Contents (Elt Ideal)) (x1 : (⟨S1x2048, .f32⟩ : BufTy).Contents (Elt Ideal))
  (x2 : (⟨S256x2048, .bf16⟩ : BufTy).Contents (Elt Ideal)) (x3 : (⟨S2048x6400, .bf16⟩ : BufTy).Contents (Elt Ideal))
  (x4 : (⟨S4x1024, .f32⟩ : BufTy).Contents (Elt Ideal)) (x5 : (⟨S1x1024, .f32⟩ : BufTy).Contents (Elt Ideal))
  (x6 : (⟨S8x128x256, .bf16⟩ : BufTy).Contents (Elt Ideal)) (x7 x8 x9 : (⟨S1x1024, .f32⟩ : BufTy).Contents (Elt Ideal))
  (x12 : (⟨S4x1024x256, .bf16⟩ : BufTy).Contents (Elt Ideal)) (x13 : (⟨S4x256x1024, .bf16⟩ : BufTy).Contents (Elt Ideal))

theorem v456_apply (b h : Fin 4) (t : Fin 2048) (s : Fin 256) : val_main_v456 (F := Ideal) x0 x1 x2 x3 x12 (ix4 b h t s)
    = (∑ e : Fin 256, val_main_v25 (F := Ideal) x0 x1 x2 x3 (ix3 b t ⟨256 * h.val + e.val, by omega⟩) * x12 (ix3 b ⟨256 * h.val + e.val, by omega⟩ s))
      * Ideal.ofBits .f32 0x3D800000#32 := by
  unfold val_main_v456 val_main_v455 val_main_cst_68
  rw [scaled_apply]
  unfold val_main_v454 val_main_v452 val_main_v451 val_main_v449 val_main_v448
  rw [scores_apply]
  simp only [comm256]

theorem v457_apply (b h : Fin 4) (t : Fin 2048) : val_main_v457 (F := Ideal) x0 x1 x2 x3 x12 (ix3 b h t)
    = top fun s : Fin 256 => val_main_v456 (F := Ideal) x0 x1 x2 x3 x12 (ix4 b h t s) := by
  unfold top
  pointwise [val_main_v457, val_main_cst_69]

theorem v461_apply (b h : Fin 4) (t : Fin 2048) (s : Fin 256) : val_main_v461 (F := Ideal) x0 x1 x2 x3 x12 (ix4 b h t s)
    = Ideal.exp (val_main_v456 (F := Ideal) x0 x1 x2 x3 x12 (ix4 b h t s) - val_main_v457 (F := Ideal) x0 x1 x2 x3 x12 (ix3 b h t)) := by
  unfold val_main_v461 val_main_v460 val_main_v459 val_main_v458
  rw [shifted_apply]

theorem v465_apply (b h : Fin 4) (t : Fin 2048) (s : Fin 256) : val_main_v465 (F := Ideal) x0 x1 x2 x3 x12 (ix4 b h t s)
    = Ideal.div (val_main_v461 (F := Ideal) x0 x1 x2 x3 x12 (ix4 b h t s)) (∑ u : Fin 256, val_main_v461 (F := Ideal) x0 x1 x2 x3 x12 (ix4 b h t u)) := by
  pointwise [val_main_cst_70, val_main_v462, val_main_v463, val_main_v464, val_main_v465]

theorem v468_apply (b : Fin 4) (t : Fin 2048) (n : Fin 1024) : val_main_v468 (F := Ideal) x0 x1 x2 x3 x12 x13 (ix3 b t n)
    = ∑ s : Fin 256, x13 (ix3 b s n) * val_main_v465 (F := Ideal) x0 x1 x2 x3 x12 (ix4 b ⟨n.val / 256, by omega⟩ t s) := by
  unfold val_main_v468 val_main_v467 val_main_v466 val_main_v453 val_main_v450
  rw [weighted_apply]

theorem v475_apply (b : Fin 4) (t : Fin 2048) (n : Fin 1024) : val_main_v475 (F := Ideal) x0 x1 x2 x3 (ix3 b t n)
    = gate (val_main_v26 (F := Ideal) x0 x1 x2 x3 (ix3 b t n)) := by
  unfold val_main_v475 val_main_v474 val_main_v473 val_main_v472 val_main_v471 val_main_v470 val_main_v469 val_main_cst_71 val_main_cst_72
  rw [gated_apply]

theorem v489_apply (R : Fin 8192) (n : Fin 1024) : val_main_v489 (F := Ideal) x0 x1 x2 x3 x12 x13 (ix2 R n)
    = (args x0 x1 x2 x3 x4 x5 x6 x7 x8 x9 x12 x13).mem R n := by
  have e : val_main_v489 (F := Ideal) x0 x1 x2 x3 x12 x13 (ix2 R n)
      = val_main_v468 (F := Ideal) x0 x1 x2 x3 x12 x13 (ix3 ⟨R.val / 2048, by omega⟩ ⟨R.val % 2048, by omega⟩ n)
        * val_main_v475 (F := Ideal) x0 x1 x2 x3 (ix3 ⟨R.val / 2048, by omega⟩ ⟨R.val % 2048, by omega⟩ n) := by
    unfold val_main_v489 val_main_v488 val_main_v476
    rw [joined_apply]
  rw [e, v468_apply, v475_apply]
  simp only [v465_apply, v461_apply, v457_apply, v456_apply, v25_apply x0 x1 x2 x3 x4 x5 x6 x7 x8 x9 x12 x13, v26_apply x0 x1 x2 x3 x4 x5 x6 x7 x8 x9 x12 x13]
  have hR : 2048 * (R.val / 2048) + R.val % 2048 = R.val := Nat.div_add_mod _ _
  simp only [hR]
  rfl
end
end Cert.ReferenceIdeal.Mix
end
-- ==== Proof.RefScan.lean ====
module

public import proofs.«01_k».proof.Proof.RefMem
public import proofs.«01_k».proof.Proof.Scan
public import proofs.«01_k».proof.Proof.RgScan

@[expose] public section
set_option maxRecDepth 16384
noncomputable section
namespace Cert.ReferenceIdeal.Mix
open Cert.ReferenceIdeal Cert.ReferenceIdeal.Gen Cert.ReferenceIdeal.Read Idealize.ShloMosaic Idealize.ShloMosaic.TcCoe
open Idealize.ShloMosaic.Pointwise Mixers

/-! ## The reference's scan by halves -/

/-- The factors and offsets of a level: pairs of steps of the level below. -/
def levels (a b : Fin 4 → Fin 1024 → ℕ → ℝ) : ℕ → (Fin 4 → Fin 1024 → ℕ → ℝ) × (Fin 4 → Fin 1024 → ℕ → ℝ)
  | 0 => (a, b)
  | k + 1 => (fun s c i => (levels a b k).1 s c (2 * i) * (levels a b k).1 s c (2 * i + 1),
      fun s c i => (levels a b k).1 s c (2 * i + 1) * (levels a b k).2 s c (2 * i) + (levels a b k).2 s c (2 * i + 1))

/-- The states of a level. -/
def scanned (a b : Fin 4 → Fin 1024 → ℕ → ℝ) (k : ℕ) : Fin 4 → Fin 1024 → ℕ → ℝ :=
  fun s c => lin ((levels a b k).1 s c) ((levels a b k).2 s c)

theorem zeros (j : S_.Idx) : constant (F := Ideal) S_ .f32 0x00000000#32 j = 0 := Ideal.ofBits_zero_f32

section
variable (x0 : (⟨S8192x2048, .f32⟩ : BufTy).Contents (Elt Ideal)) (x1 : (⟨S1x2048, .f32⟩ : BufTy).Contents (Elt Ideal))
  (x2 : (⟨S256x2048, .bf16⟩ : BufTy).Contents (Elt Ideal)) (x3 : (⟨S2048x6400, .bf16⟩ : BufTy).Contents (Elt Ideal))
  (x4 : (⟨S4x1024, .f32⟩ : BufTy).Contents (Elt Ideal)) (x5 : (⟨S1x1024, .f32⟩ : BufTy).Contents (Elt Ideal))
  (x6 : (⟨S8x128x256, .bf16⟩ : BufTy).Contents (Elt Ideal)) (x7 x8 x9 : (⟨S1x1024, .f32⟩ : BufTy).Contents (Elt Ideal))
  (x12 : (⟨S4x1024x256, .bf16⟩ : BufTy).Contents (Elt Ideal)) (x13 : (⟨S4x256x1024, .bf16⟩ : BufTy).Contents (Elt Ideal))

theorem scan_holds {a b : Fin 4 → Fin 1024 → ℕ → ℝ} (hA : Holds (n := 2048) (val_main_v99 (F := Ideal) x0 x1 x2 x3 x4 x5 x6 x7 x9) a)
    (hB : Holds (n := 2048) (val_main_v111 (F := Ideal) x0 x1 x2 x3 x4 x5 x6 x7 x8 x9) b) :
    Holds (n := 2048) (val_main_v375 (F := Ideal) x0 x1 x2 x3 x4 x5 x6 x7 x8 x9) (scanned a b 0) := by
  have A0 : Holds (n := 2048) _ (levels a b 0).1 := hA
  have B0 : Holds (n := 2048) _ (levels a b 0).2 := hB
  have A1 : Holds (n := 1024) (val_main_v116 (F := Ideal) x0 x1 x2 x3 x4 x5 x6 x7 x9) (levels a b 1).1 := up_factor (M := 2048) (N := 1024) rfl A0 _ _
  have B1 : Holds (n := 1024) (val_main_v118 (F := Ideal) x0 x1 x2 x3 x4 x5 x6 x7 x8 x9) (levels a b 1).2 := up_offset (M := 2048) (N := 1024) rfl A0 B0 _ _ _
  have A2 : Holds (n := 512) (val_main_v123 (F := Ideal) x0 x1 x2 x3 x4 x5 x6 x7 x9) (levels a b 2).1 := up_factor (M := 1024) (N := 512) rfl A1 _ _
  have B2 : Holds (n := 512) (val_main_v125 (F := Ideal) x0 x1 x2 x3 x4 x5 x6 x7 x8 x9) (levels a b 2).2 := up_offset (M := 1024) (N := 512) rfl A1 B1 _ _ _
  have A3 : Holds (n := 256) (val_main_v130 (F := Ideal) x0 x1 x2 x3 x4 x5 x6 x7 x9) (levels a b 3).1 := up_factor (M := 512) (N := 256) rfl A2 _ _
  have B3 : Holds (n := 256) (val_main_v132 (F := Ideal) x0 x1 x2 x3 x4 x5 x6 x7 x8 x9) (levels a b 3).2 := up_offset (M := 512) (N := 256) rfl A2 B2 _ _ _
  have A4 : Holds (n := 128) (val_main_v137 (F := Ideal) x0 x1 x2 x3 x4 x5 x6 x7 x9) (levels a b 4).1 := up_factor (M := 256) (N := 128) rfl A3 _ _
  have B4 : Holds (n := 128) (val_main_v139 (F := Ideal) x0 x1 x2 x3 x4 x5 x6 x7 x8 x9) (levels a b 4).2 := up_offset (M := 256) (N := 128) rfl A3 B3 _ _ _
  have A5 : Holds (n := 64) (val_main_v144 (F := Ideal) x0 x1 x2 x3 x4 x5 x6 x7 x9) (levels a b 5).1 := up_factor (M := 128) (N := 64) rfl A4 _ _
  have B5 : Holds (n := 64) (val_main_v146 (F := Ideal) x0 x1 x2 x3 x4 x5 x6 x7 x8 x9) (levels a b 5).2 := up_offset (M := 128) (N := 64) rfl A4 B4 _ _ _
  have A6 : Holds (n := 32) (val_main_v151 (F := Ideal) x0 x1 x2 x3 x4 x5 x6 x7 x9) (levels a b 6).1 := up_factor (M := 64) (N := 32) rfl A5 _ _
  have B6 : Holds (n := 32) (val_main_v153 (F := Ideal) x0 x1 x2 x3 x4 x5 x6 x7 x8 x9) (levels a b 6).2 := up_offset (M := 64) (N := 32) rfl A5 B5 _ _ _
  have A7 : Holds (n := 16) (val_main_v158 (F := Ideal) x0 x1 x2 x3 x4 x5 x6 x7 x9) (levels a b 7).1 := up_factor (M := 32) (N := 16) rfl A6 _ _
  have B7 : Holds (n := 16) (val_main_v160 (F := Ideal) x0 x1 x2 x3 x4 x5 x6 x7 x8 x9) (levels a b 7).2 := up_offset (M := 32) (N := 16) rfl A6 B6 _ _ _
  have A8 : Holds (n := 8) (val_main_v165 (F := Ideal) x0 x1 x2 x3 x4 x5 x6 x7 x9) (levels a b 8).1 := up_factor (M := 16) (N := 8) rfl A7 _ _
  have B8 : Holds (n := 8) (val_main_v167 (F := Ideal) x0 x1 x2 x3 x4 x5 x6 x7 x8 x9) (levels a b 8).2 := up_offset (M := 16) (N := 8) rfl A7 B7 _ _ _
  have A9 : Holds (n := 4) (val_main_v172 (F := Ideal) x0 x1 x2 x3 x4 x5 x6 x7 x9) (levels a b 9).1 := up_factor (M := 8) (N := 4) rfl A8 _ _
  have B9 : Holds (n := 4) (val_main_v174 (F := Ideal) x0 x1 x2 x3 x4 x5 x6 x7 x8 x9) (levels a b 9).2 := up_offset (M := 8) (N := 4) rfl A8 B8 _ _ _
  have A10 : Holds (n := 2) (val_main_v179 (F := Ideal) x0 x1 x2 x3 x4 x5 x6 x7 x9) (levels a b 10).1 := up_factor (M := 4) (N := 2) rfl A9 _ _
  have B10 : Holds (n := 2) (val_main_v181 (F := Ideal) x0 x1 x2 x3 x4 x5 x6 x7 x8 x9) (levels a b 10).2 := up_offset (M := 4) (N := 2) rfl A9 B9 _ _ _
  have A11 : Holds (n := 1) (val_main_v186 (F := Ideal) x0 x1 x2 x3 x4 x5 x6 x7 x9) (levels a b 11).1 := up_factor (M := 2) (N := 1) rfl A10 _ _
  have B11 : Holds (n := 1) (val_main_v188 (F := Ideal) x0 x1 x2 x3 x4 x5 x6 x7 x8 x9) (levels a b 11).2 := up_offset (M := 2) (N := 1) rfl A10 B10 _ _ _
  have S11 : Holds (n := 1) _ (scanned a b 11) := top_level B11
  have S10 : Holds (n := 2) (val_main_v205 (F := Ideal) x0 x1 x2 x3 x4 x5 x6 x7 x8 x9) (scanned a b 10) :=
    down (M := 2) (N := 1) (K := 0) rfl rfl A10 B10 S11 _ _ _ _ _ (val_main_cst_13 (F := Ideal)) (val_main_cst_14 (F := Ideal)) zeros zeros _ _ _ _
  have S9 : Holds (n := 4) (val_main_v222 (F := Ideal) x0 x1 x2 x3 x4 x5 x6 x7 x8 x9) (scanned a b 9) :=
    down (M := 4) (N := 2) (K := 1) rfl rfl A9 B9 S10 _ _ _ _ _ (val_main_cst_17 (F := Ideal)) (val_main_cst_18 (F := Ideal)) zeros zeros _ _ _ _
  have S8 : Holds (n := 8) (val_main_v239 (F := Ideal) x0 x1 x2 x3 x4 x5 x6 x7 x8 x9) (scanned a b 8) :=
    down (M := 8) (N := 4) (K := 3) rfl rfl A8 B8 S9 _ _ _ _ _ (val_main_cst_21 (F := Ideal)) (val_main_cst_22 (F := Ideal)) zeros zeros _ _ _ _
  have S7 : Holds (n := 16) (val_main_v256 (F := Ideal) x0 x1 x2 x3 x4 x5 x6 x7 x8 x9) (scanned a b 7) :=
    down (M := 16) (N := 8) (K := 7) rfl rfl A7 B7 S8 _ _ _ _ _ (val_main_cst_25 (F := Ideal)) (val_main_cst_26 (F := Ideal)) zeros zeros _ _ _ _
  have S6 : Holds (n := 32) (val_main_v273 (F := Ideal) x0 x1 x2 x3 x4 x5 x6 x7 x8 x9) (scanned a b 6) :=
    down (M := 32) (N := 16) (K := 15) rfl rfl A6 B6 S7 _ _ _ _ _ (val_main_cst_29 (F := Ideal)) (val_main_cst_30 (F := Ideal)) zeros zeros _ _ _ _
  have S5 : Holds (n := 64) (val_main_v290 (F := Ideal) x0 x1 x2 x3 x4 x5 x6 x7 x8 x9) (scanned a b 5) :=
    down (M := 64) (N := 32) (K := 31) rfl rfl A5 B5 S6 _ _ _ _ _ (val_main_cst_33 (F := Ideal)) (val_main_cst_34 (F := Ideal)) zeros zeros _ _ _ _
  have S4 : Holds (n := 128) (val_main_v307 (F := Ideal) x0 x1 x2 x3 x4 x5 x6 x7 x8 x9) (scanned a b 4) :=
    down (M := 128) (N := 64) (K := 63) rfl rfl A4 B4 S5 _ _ _ _ _ (val_main_cst_37 (F := Ideal)) (val_main_cst_38 (F := Ideal)) zeros zeros _ _ _ _
  have S3 : Holds (n := 256) (val_main_v324 (F := Ideal) x0 x1 x2 x3 x4 x5 x6 x7 x8 x9) (scanned a b 3) :=
    down (M := 256) (N := 128) (K := 127) rfl rfl A3 B3 S4 _ _ _ _ _ (val_main_cst_41 (F := Ideal)) (val_main_cst_42 (F := Ideal)) zeros zeros _ _ _ _
  have S2 : Holds (n := 512) (val_main_v341 (F := Ideal) x0 x1 x2 x3 x4 x5 x6 x7 x8 x9) (scanned a b 2) :=
    down (M := 512) (N := 256) (K := 255) rfl rfl A2 B2 S3 _ _ _ _ _ (val_main_cst_45 (F := Ideal)) (val_main_cst_46 (F := Ideal)) zeros zeros _ _ _ _
  have S1 : Holds (n := 1024) (val_main_v358 (F := Ideal) x0 x1 x2 x3 x4 x5 x6 x7 x8 x9) (scanned a b 1) :=
    down (M := 1024) (N := 512) (K := 511) rfl rfl A1 B1 S2 _ _ _ _ _ (val_main_cst_49 (F := Ideal)) (val_main_cst_50 (F := Ideal)) zeros zeros _ _ _ _
  have S0 : Holds (n := 2048) (val_main_v375 (F := Ideal) x0 x1 x2 x3 x4 x5 x6 x7 x8 x9) (scanned a b 0) :=
    down (M := 2048) (N := 1024) (K := 1023) rfl rfl A0 B0 S1 _ _ _ _ _ (val_main_cst_53 (F := Ideal)) (val_main_cst_54 (F := Ideal)) zeros zeros _ _ _ _
  exact S0
end
end Cert.ReferenceIdeal.Mix
end
-- ==== Proof.RefRg.lean ====
module

public import proofs.«01_k».proof.Proof.RefScan
public import proofs.«01_k».proof.Proof.RgVec

@[expose] public section
set_option maxRecDepth 16384
noncomputable section
namespace Cert.ReferenceIdeal.Mix
open Cert.ReferenceIdeal Cert.ReferenceIdeal.Gen Cert.ReferenceIdeal.Read Idealize.ShloMosaic Idealize.ShloMosaic.TcCoe
open Idealize.ShloMosaic.Pointwise Mixers
open Cert.KernelIdeal.Mix (inputFactor)

/-! ## The reference's recurrent branch -/

theorem first_apply (b : Fin 4) (s : Fin 2048) (n : Fin 1024) : val_main_call2_v1 (F := Ideal) (ix3 b s n)
    = IntOp.cmpi CmpIPredicate.eq (BitVec.ofNat 32 s.val) 0#32 := by
  pointwise [val_main_call2_v1, val_main_v108, val_main_v107, val_main_v106, val_main_v105, val_main_c_9]

theorem first_select (s : Fin 2048) (x y : EReal) :
    Scalar.select (IntOp.cmpi CmpIPredicate.eq (BitVec.ofNat 32 s.val) 0#32) x y = if s.val = 0 then x else y := by
  have h : ∀ s : Fin 2048, IntOp.cmpi CmpIPredicate.eq (BitVec.ofNat 32 s.val) 0#32 = if s.val = 0 then 1#1 else 0#1 := by
    decide +kernel
  rw [h]
  split <;> rfl

theorem one_apply (b : Fin 4) (s : Fin 2048) (n : Fin 1024) : val_main_call2_v2 (F := Ideal) (ix3 b s n) = 1 := by
  pointwise [val_main_call2_v2, val_main_call2_v0]
  exact Ideal.ofBits_one_f32

theorem two_apply (b : Fin 4) (s : Fin 2048) (n : Fin 1024) : val_main_v100 (F := Ideal) (ix3 b s n) = ((2 : ℝ) : EReal) := by
  rw [← ofBits_two]
  pointwise [val_main_v100, val_main_cst_8]

theorem picked_apply (P : IVec S4x2048x1024 1) (O T L G C : FVec Ideal S4x2048x1024 .f32) (b : Fin 4) (s : Fin 2048) (n : Fin 1024) :
    mulf (mulf (select P O (Host.sqrt (Host.negf (Host.expm1 (mulf T L))))) G) C (ix3 b s n)
      = Scalar.select (P (ix3 b s n)) (O (ix3 b s n)) (Ideal.sqrt (-(Ideal.exp (T (ix3 b s n) * L (ix3 b s n)) - 1)))
        * G (ix3 b s n) * C (ix3 b s n) := rfl

section
variable (x0 : (⟨S8192x2048, .f32⟩ : BufTy).Contents (Elt Ideal)) (x1 : (⟨S1x2048, .f32⟩ : BufTy).Contents (Elt Ideal))
  (x2 : (⟨S256x2048, .bf16⟩ : BufTy).Contents (Elt Ideal)) (x3 : (⟨S2048x6400, .bf16⟩ : BufTy).Contents (Elt Ideal))
  (x4 : (⟨S4x1024, .f32⟩ : BufTy).Contents (Elt Ideal)) (x5 : (⟨S1x1024, .f32⟩ : BufTy).Contents (Elt Ideal))
  (x6 : (⟨S8x128x256, .bf16⟩ : BufTy).Contents (Elt Ideal)) (x7 x8 x9 : (⟨S1x1024, .f32⟩ : BufTy).Contents (Elt Ideal))
  (x12 : (⟨S4x1024x256, .bf16⟩ : BufTy).Contents (Elt Ideal)) (x13 : (⟨S4x256x1024, .bf16⟩ : BufTy).Contents (Elt Ideal))
  (ha : (args x0 x1 x2 x3 x4 x5 x6 x7 x8 x9 x12 x13).AllReal)
include ha

theorem factors_holds : Holds (n := 2048) (val_main_v99 (F := Ideal) x0 x1 x2 x3 x4 x5 x6 x7 x9)
    (fun b n s => (args x0 x1 x2 x3 x4 x5 x6 x7 x8 x9 x12 x13).factor n (2048 * b.val + s)) := by
  intro b s n
  refine (congrArg Ideal.exp ((v98_apply x0 x1 x2 x3 x4 x5 x6 x7 x8 x9 x12 x13 b s n).trans (Args.logA_eq ha _ n))).trans ?_
  exact Ideal.exp_coe _

theorem offsets_holds : Holds (n := 2048) (val_main_v111 (F := Ideal) x0 x1 x2 x3 x4 x5 x6 x7 x8 x9)
    (fun b n s => (args x0 x1 x2 x3 x4 x5 x6 x7 x8 x9 x12 x13).offset n (2048 * b.val + s)) := by
  intro b s n
  unfold val_main_v111 val_main_v110 val_main_v109 val_main_v104 val_main_v103 val_main_v102 val_main_v101
  rw [picked_apply, first_apply, one_apply, two_apply, first_select, v98_apply x0 x1 x2 x3 x4 x5 x6 x7 x8 x9 x12 x13,
    v91_apply x0 x1 x2 x3 x4 x5 x6 x7 x8 x9 x12 x13, v66_apply x0 x1 x2 x3 x4 x5 x6 x7 x8 x9 x12 x13,
    Args.logA_eq ha, Args.gateX_eq ha, Args.conv_eq ha]
  have hle := Args.la_le ha n (2048 * b.val + s.val)
  have h0 : ¬ -(Real.exp (2 * (args x0 x1 x2 x3 x4 x5 x6 x7 x8 x9 x12 x13).la n (2048 * b.val + s.val)) - 1) < 0 := by
    have := Real.exp_le_one_iff.mpr (show 2 * (args x0 x1 x2 x3 x4 x5 x6 x7 x8 x9 x12 x13).la n (2048 * b.val + s.val) ≤ 0 by linarith)
    linarith
  rw [← EReal.coe_mul, Ideal.exp_coe, ← EReal.coe_one, ← EReal.coe_sub, ← EReal.coe_neg, Ideal.sqrt_coe, if_neg h0]
  show _ = (((args x0 x1 x2 x3 x4 x5 x6 x7 x8 x9 x12 x13).offset n (2048 * b.val + s.val) : ℝ) : EReal)
  unfold Args.offset inputFactor
  have hm : (2048 * b.val + s.val) % 2048 = s.val := by omega
  rw [hm]
  by_cases hs : s.val = 0
  · rw [if_pos hs, if_pos ⟨rfl, hs⟩, ← EReal.coe_mul, ← EReal.coe_mul]
  · rw [if_neg hs, if_neg (fun h => hs h.2), ← EReal.coe_mul, ← EReal.coe_mul]

theorem states_apply (R : Fin 8192) (n : Fin 1024) :
    val_main_v375 (F := Ideal) x0 x1 x2 x3 x4 x5 x6 x7 x8 x9 (ix3 ⟨R.val / 2048, by omega⟩ ⟨R.val % 2048, by omega⟩ n)
      = (((args x0 x1 x2 x3 x4 x5 x6 x7 x8 x9 x12 x13).state n R.val : ℝ) : EReal) :=
  (scan_holds x0 x1 x2 x3 x4 x5 x6 x7 x8 x9 (factors_holds x0 x1 x2 x3 x4 x5 x6 x7 x8 x9 x12 x13 ha)
    (offsets_holds x0 x1 x2 x3 x4 x5 x6 x7 x8 x9 x12 x13 ha) _ _ n).trans (congrArg _ (lin_eq_after _ _ _))

theorem v485_apply (R : Fin 8192) (n : Fin 1024) : val_main_v485 (F := Ideal) x0 x1 x2 x3 x4 x5 x6 x7 x8 x9 (ix2 R n)
    = (args x0 x1 x2 x3 x4 x5 x6 x7 x8 x9 x12 x13).rg R n := by
  have e : val_main_v485 (F := Ideal) x0 x1 x2 x3 x4 x5 x6 x7 x8 x9 (ix2 R n)
      = val_main_v375 (F := Ideal) x0 x1 x2 x3 x4 x5 x6 x7 x8 x9 (ix3 ⟨R.val / 2048, by omega⟩ ⟨R.val % 2048, by omega⟩ n)
        * val_main_v382 (F := Ideal) x0 x1 x2 x3 (ix3 ⟨R.val / 2048, by omega⟩ ⟨R.val % 2048, by omega⟩ n) := by
    unfold val_main_v485 val_main_v484 val_main_v383
    rw [joined_apply]
  have g : val_main_v382 (F := Ideal) x0 x1 x2 x3 (ix3 ⟨R.val / 2048, by omega⟩ ⟨R.val % 2048, by omega⟩ n)
      = gate ((args x0 x1 x2 x3 x4 x5 x6 x7 x8 x9 x12 x13).proj R ⟨1024 + n.val, by omega⟩) := by
    unfold val_main_v382 val_main_v381 val_main_v380 val_main_v379 val_main_v378 val_main_v377 val_main_v376 val_main_cst_55 val_main_cst_56
    rw [gated_apply, v20_apply x0 x1 x2 x3 x4 x5 x6 x7 x8 x9 x12 x13]
    have hR : (⟨2048 * (R.val / 2048) + R.val % 2048, by omega⟩ : Fin 8192) = R := Fin.ext (Nat.div_add_mod _ _)
    exact congrArg (fun r => gate ((args x0 x1 x2 x3 x4 x5 x6 x7 x8 x9 x12 x13).proj r ⟨1024 + n.val, by omega⟩)) hR
  rw [e, g, states_apply x0 x1 x2 x3 x4 x5 x6 x7 x8 x9 x12 x13 ha]
  rfl
end
end Cert.ReferenceIdeal.Mix
end
-- ==== Proof.RefOut.lean ====
module

public import proofs.«01_k».proof.Proof.RefMem
public import proofs.«01_k».proof.Proof.RefRg

@[expose] public section
set_option maxRecDepth 16384
noncomputable section
namespace Cert.ReferenceIdeal.Mix
open Cert.ReferenceIdeal Cert.ReferenceIdeal.Gen Cert.ReferenceIdeal.Read Idealize.ShloMosaic Idealize.ShloMosaic.TcCoe
open Idealize.ShloMosaic.Pointwise Mixers

/-! ## The reference's results as whole arrays -/

theorem pair_eq {n k : ℕ} (i : (⟨2, ![n, k]⟩ : Shape).Idx) : i = ix2 (i 0) (i 1) := by
  funext j
  fin_cases j <;> rfl

theorem triple_eq {n k l : ℕ} (i : (⟨3, ![n, k, l]⟩ : Shape).Idx) : i = ix3 (i 0) (i 1) (i 2) := by
  funext j
  fin_cases j <;> rfl

variable (x0 : (⟨S8192x2048, .f32⟩ : BufTy).Contents (Elt Ideal)) (x1 : (⟨S1x2048, .f32⟩ : BufTy).Contents (Elt Ideal)) (x2 : (⟨S256x2048, .bf16⟩ : BufTy).Contents (Elt Ideal)) (x3 : (⟨S2048x6400, .bf16⟩ : BufTy).Contents (Elt Ideal)) (x4 : (⟨S4x1024, .f32⟩ : BufTy).Contents (Elt Ideal)) (x5 : (⟨S1x1024, .f32⟩ : BufTy).Contents (Elt Ideal)) (x6 : (⟨S8x128x256, .bf16⟩ : BufTy).Contents (Elt Ideal)) (x7 x8 x9 : (⟨S1x1024, .f32⟩ : BufTy).Contents (Elt Ideal)) (x12 : (⟨S4x1024x256, .bf16⟩ : BufTy).Contents (Elt Ideal)) (x13 : (⟨S4x256x1024, .bf16⟩ : BufTy).Contents (Elt Ideal))
variable (x14 : (⟨S2048x12544, .f32⟩ : BufTy).Contents (Elt Ideal)) (x15 x16 x17 : (⟨S1024x2048, .f32⟩ : BufTy).Contents (Elt Ideal)) (x18 : (⟨S2048x2048, .f32⟩ : BufTy).Contents (Elt Ideal))

theorem rows_array : val_main_v14 (F := Ideal) x0 x1 x2 = fun i : S8192x2048.Idx => (args x0 x1 x2 x3 x4 x5 x6 x7 x8 x9 x12 x13).row (i 0) (i 1) := by
  funext i
  rw [pair_eq i]
  exact v14_apply x0 x1 x2 x3 x4 x5 x6 x7 x8 x9 x12 x13 _ _

theorem rg_array (ha : (args x0 x1 x2 x3 x4 x5 x6 x7 x8 x9 x12 x13).AllReal) :
    val_main_v485 (F := Ideal) x0 x1 x2 x3 x4 x5 x6 x7 x8 x9
      = fun i : S8192x1024.Idx => (args x0 x1 x2 x3 x4 x5 x6 x7 x8 x9 x12 x13).rg (i 0) (i 1) := by
  funext i
  rw [pair_eq i]
  exact v485_apply x0 x1 x2 x3 x4 x5 x6 x7 x8 x9 x12 x13 ha _ _

theorem mem_array : val_main_v489 (F := Ideal) x0 x1 x2 x3 x12 x13
      = fun i : S8192x1024.Idx => (args x0 x1 x2 x3 x4 x5 x6 x7 x8 x9 x12 x13).mem (i 0) (i 1) := by
  funext i
  rw [pair_eq i]
  exact v489_apply x0 x1 x2 x3 x4 x5 x6 x7 x8 x9 x12 x13 _ _

/-- The gates' columns of the input weights. -/
theorem gate_array : val_main_v478 (F := Ideal) x14 = fun i : S2048x6144.Idx => x14 (ix2 (i 0) ⟨6400 + (i 1).val, by have := (i 1).isLt; simp at this; omega⟩) := by
  have key : ∀ (r : Fin 2048) (k : Fin 6144), val_main_v478 (F := Ideal) x14 (ix2 r k) = x14 (ix2 r ⟨6400 + k.val, by omega⟩) := by
    intro r k
    pointwise [val_main_v478, val_main_v477]
  funext i
  rw [pair_eq i]
  exact key _ _

/-- One of three matrices. -/
def oneOf (b : Fin 3) : Vec Ideal S1024x2048 .f32 :=
  match b with
  | 0 => x15
  | 1 => x16
  | 2 => x17

theorem slab_apply (x : Vec Ideal S1024x2048 .f32) (r : Fin 1024) (k : Fin 2048) :
    broadcastInDim S1x1024x2048 ![1, 2] bcast_S1024x2048_S1x1024x2048_1_2 x (ix3 0 r k) = x (ix2 r k) := by
  pointwise

theorem stacked_apply (X Y Z : Vec Ideal S1x1024x2048 .f32) (b : Fin 3) (r : Fin 1024) (k : Fin 2048) :
    concatenate S3x1024x2048 0 [⟨S1x1024x2048, X⟩, ⟨S1x1024x2048, Y⟩, ⟨S1x1024x2048, Z⟩]
      concatenates_S1x1024x2048_S1x1024x2048_S1x1024x2048_S3x1024x2048_d0 (ix3 b r k)
      = (![X, Y, Z] b) (ix3 0 r k) :=
  concatenate_ofFn_unit_apply (t := S3x1024x2048) (s₁ := S1x1024x2048) 0 (fun n : Fin 3 => ![X, Y, Z] n)
    concatenates_S1x1024x2048_S1x1024x2048_S1x1024x2048_S3x1024x2048_d0 rfl rfl (ix3 b r k) b rfl (ix3 0 r k)
    (by intro d hd; fin_cases d <;> first | rfl | exact absurd rfl hd)

/-- The three branches' output weights, stacked. -/
theorem branch_array : val_main_v483 (F := Ideal) x15 x16 x17 = fun i : S3x1024x2048.Idx => oneOf x15 x16 x17 (i 0) (ix2 (i 1) (i 2)) := by
  have key : ∀ (b : Fin 3) (r : Fin 1024) (k : Fin 2048), val_main_v482 (F := Ideal) x15 x16 x17 (ix3 b r k) = oneOf x15 x16 x17 b (ix2 r k) := by
    intro b r k
    unfold val_main_v482
    rw [stacked_apply]
    fin_cases b
    · exact slab_apply x15 r k
    · exact slab_apply x16 r k
    · exact slab_apply x17 r k
  funext i
  rw [triple_eq i]
  exact key _ _ _

theorem out_array : val_main_v490 (F := Ideal) x18 = x18 := rfl

end Cert.ReferenceIdeal.Mix
end
-- ==== Proof.Finite.lean ====
module

public import proofs.«01_k».proof.Defs
public import proofs.«01_k».proof.Proof.Gen.Pre_finite
public import proofs.«01_k».proof.Proof.PointRow

@[expose] public section
set_option maxRecDepth 16384
noncomputable section
namespace Cert.KernelIdeal.Mix
open Cert.KernelIdeal Cert.KernelIdeal.Gen Idealize.ShloMosaic Idealize.ShloMosaic.TcCoe Idealize.SL.Sem
open Idealize.ShloMosaic.Pointwise Mixers

/-! ## What the precondition says -/

/-- An array strictly between the two infinities holds real numbers. -/
theorem real_of_between {s : Shape} (X : FVec Ideal s .f32) (b : Cert.Pre_finite.S_.BroadcastsInDim s (![] : Fin 0 → Fin s.rank))
    (h : andi (cmpf .ogt X (broadcastInDim s ![] b (constant (F := Ideal) Cert.Pre_finite.S_ .f32 0xFF800000#32)))
      (cmpf .olt X (broadcastInDim s ![] b (constant (F := Ideal) Cert.Pre_finite.S_ .f32 0x7F800000#32))) = fun _ => 1#1)
    (i : s.Idx) : IsReal (X i) := by
  have key : Ideal.cmp .ogt (X i) (Ideal.ofBits .f32 0xFF800000#32) &&& Ideal.cmp .olt (X i) (Ideal.ofBits .f32 0x7F800000#32) = 1#1 :=
    congrFun h i
  have top : Ideal.ofBits .f32 0x7F800000#32 = ⊤ := by simp [Ideal.ofBits, Ideal.ieee]
  rw [ofBits_neg_inf, top] at key
  rw [isReal_iff]
  constructor
  · intro e
    rw [e] at key
    simp [Ideal.cmp] at key
  · intro e
    rw [e] at key
    simp [Ideal.cmp] at key

variable (m : (ℓ : Loc nD τ sig) → Buf (Elt Ideal) ℓ) (c : Dev nD)

/-- Under the precondition every argument the three mixers read is real. -/
theorem args_real (hp : Cert.Pre_KernelIdeal_finite (hPre_finite := Cert.Pre_finite.Gen.facts) m) : (args m c).AllReal := by
  obtain ⟨p0, p1, p2, p3, p4, p5, p6, p7, p8, p9, p12, p13⟩ := hp c
  exact
    { x := fun R k => real_of_between _ _ p0 (ix2 R k)
      g := fun k => real_of_between _ _ p1 (ix2 0 k)
      h0 := fun R k => real_of_between _ _ p2 (ix2 R k)
      w := fun k n => real_of_between _ _ p3 (ix2 k n)
      cw := fun j n => real_of_between _ _ p4 (ix2 j n)
      cb := fun n => real_of_between _ _ p5 (ix2 0 n)
      ax := fun h i j => real_of_between _ _ p6 (ix3 h i j)
      ba := fun n => real_of_between _ _ p7 (ix2 0 n)
      bx := fun n => real_of_between _ _ p8 (ix2 0 n)
      lam := fun n => real_of_between _ _ p9 (ix2 0 n)
      kt := fun b n s => real_of_between _ _ p12 (ix3 b n s)
      v := fun b s n => real_of_between _ _ p13 (ix3 b s n) }

end Cert.KernelIdeal.Mix
end
-- ==== Proof.MixValue.lean ====
module

public import proofs.«01_k».proof.Defs
public import proofs.«01_k».proof.Proof.Gen.On_claimed
public import proofs.«01_k».proof.Proof.Gen.ReferenceIdeal.Run
public import proofs.«01_k».proof.Proof.WeightOut
public import proofs.«01_k».proof.Proof.RefOut
public import proofs.«01_k».proof.Proof.Finite
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-! ## The mixers -/

/-- The reference's frame. -/
theorem mix_ref_frame : Cert.quiescent_ReferenceIdeal (hReferenceIdeal := Cert.ReferenceIdeal.Gen.facts) := fun m ρ _ =>
  (θ_run Cert.ReferenceIdeal.defs _ _).mono (fun r h =>
    ⟨fun c => (h c).2.2.2.2.2.2.2, Idealize.ShloMosaic.sem_eq_zero_of_no_sems (by decide) r.2⟩) (Cert.ReferenceIdeal.Value.run (F := Ideal) m ρ)

variable (m : (ℓ : Loc Cert.KernelIdeal.nD Cert.KernelIdeal.τ Cert.KernelIdeal.sig) → Buf (Elt Ideal) ℓ) (c : Dev Cert.KernelIdeal.nD)

/-- The normalised rows. -/
theorem rows_agree : Cert.ReferenceIdeal.Read.val_main_v14 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))
    = (Cert.KernelIdeal.Gen.dats m 0 c).arrAt 19 Cert.KernelIdeal.cfg0.N :=
  (Cert.ReferenceIdeal.Mix.rows_array (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg12)) (m ((c : Thread Cert.KernelIdeal.nD Cert.KernelIdeal.τ).loc Cert.KernelIdeal.main_arg13))).trans (Cert.KernelIdeal.Mix.final_rows m c).symm

/-- The recurrent mixer. -/
theorem rg_agree (ha : (Cert.KernelIdeal.Mix.args m c).AllReal) : Cert.ReferenceIdeal.Read.val_main_v485 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9))
    = (Cert.KernelIdeal.Gen.dats m 0 c).arrAt 20 Cert.KernelIdeal.cfg0.N :=
  (Cert.ReferenceIdeal.Mix.rg_array (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg12)) (m ((c : Thread Cert.KernelIdeal.nD Cert.KernelIdeal.τ).loc Cert.KernelIdeal.main_arg13)) ha).trans (Cert.KernelIdeal.Mix.final_rg m c ha).symm

/-- The attention over the memory. -/
theorem mem_agree (ha : (Cert.KernelIdeal.Mix.args m c).AllReal) : Cert.ReferenceIdeal.Read.val_main_v489 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg12)) (m ((c : Thread Cert.KernelIdeal.nD Cert.KernelIdeal.τ).loc Cert.KernelIdeal.main_arg13))
    = (Cert.KernelIdeal.Gen.dats m 0 c).arrAt 22 Cert.KernelIdeal.cfg0.N :=
  (Cert.ReferenceIdeal.Mix.mem_array (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg12)) (m ((c : Thread Cert.KernelIdeal.nD Cert.KernelIdeal.τ).loc Cert.KernelIdeal.main_arg13))).trans (Cert.KernelIdeal.Mix.final_mem m c ha).symm

/-- The gates' weights. -/
theorem gate_agree : Cert.ReferenceIdeal.Read.val_main_v478 (F := Ideal) (m ((c : Thread Cert.KernelIdeal.nD Cert.KernelIdeal.τ).loc Cert.KernelIdeal.main_arg14))
    = (Cert.KernelIdeal.Gen.dats m 0 c).arrAt 23 Cert.KernelIdeal.cfg0.N :=
  (Cert.ReferenceIdeal.Mix.gate_array (m ((c : Thread Cert.KernelIdeal.nD Cert.KernelIdeal.τ).loc Cert.KernelIdeal.main_arg14))).trans (Cert.KernelIdeal.Mix.final_gate m c).symm

/-- The branches' output weights. -/
theorem branch_agree : Cert.ReferenceIdeal.Read.val_main_v483 (F := Ideal) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17))
    = (Cert.KernelIdeal.Gen.dats m 0 c).arrAt 24 Cert.KernelIdeal.cfg0.N :=
  (Cert.ReferenceIdeal.Mix.branch_array (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17))).trans (Cert.KernelIdeal.Mix.final_branch m c).symm

/-- The output weights. -/
theorem out_agree : Cert.ReferenceIdeal.Read.val_main_v490 (F := Ideal) (m ((c : Thread Cert.KernelIdeal.nD Cert.KernelIdeal.τ).loc Cert.KernelIdeal.main_arg18))
    = (Cert.KernelIdeal.Gen.dats m 0 c).arrAt 25 Cert.KernelIdeal.cfg0.N :=
  (Cert.ReferenceIdeal.Mix.out_array (m ((c : Thread Cert.KernelIdeal.nD Cert.KernelIdeal.τ).loc Cert.KernelIdeal.main_arg18))).trans (Cert.KernelIdeal.Mix.final_out m c).symm

set_option maxHeartbeats 1600000 in
/-- The value claim: under the precondition the kernel's results, but for the third, are the reference's. -/
theorem mix_value : Cert.algebraic_KernelIdeal_ReferenceIdeal_on_claimed_pre_finite (hKernelIdeal := Cert.KernelIdeal.Gen.facts)
    (hReferenceIdeal := Cert.ReferenceIdeal.Gen.facts) (hPre_finite := Cert.Pre_finite.Gen.facts) (hOn_claimed := Cert.On_claimed.Gen.facts) := by
  intro m ρ m' ρ' hp hag
  refine ⟨fun c => (Cert.KernelIdeal.Gen.dats m 0 c).arrAt 19 Cert.KernelIdeal.cfg0.N, fun c => (Cert.KernelIdeal.Gen.dats m 0 c).arrAt 20 Cert.KernelIdeal.cfg0.N,
    fun c => (Cert.KernelIdeal.Gen.dats m 0 c).arrAt 21 Cert.KernelIdeal.cfg0.N, fun c => (Cert.KernelIdeal.Gen.dats m 0 c).arrAt 22 Cert.KernelIdeal.cfg0.N,
    fun c => (Cert.KernelIdeal.Gen.dats m 0 c).arrAt 23 Cert.KernelIdeal.cfg0.N, fun c => (Cert.KernelIdeal.Gen.dats m 0 c).arrAt 24 Cert.KernelIdeal.cfg0.N,
    fun c => (Cert.KernelIdeal.Gen.dats m 0 c).arrAt 25 Cert.KernelIdeal.cfg0.N, θ_run_mono (θ_run_and (Cert.KernelIdeal.Gen.run_main (F := Ideal) m ρ) (Cert.KernelIdeal.Gen.unchanged (F := Ideal) m ρ)) fun r h c => ?_,
    (θ_run Cert.ReferenceIdeal.defs _ _).mono (fun r h c => ?_) (Cert.ReferenceIdeal.Value.run (F := Ideal) m' ρ')⟩
  · have hw := (h.1 c).1
    exact ⟨fun i _ => congrFun (hw 19) i, fun i _ => congrFun (hw 20) i, fun i _ => congrFun (hw 21) i, fun i _ => congrFun (hw 22) i,
      fun i _ => congrFun (hw 23) i, fun i _ => congrFun (hw 24) i, fun i _ => congrFun (hw 25) i, h.2 c⟩
  · obtain ⟨h0, h1, h2, h3, h4, h5, h6, h7, h8, h9, h10, h11, h12, h13, h14, h15, h16, h17, h18⟩ := hag c
    obtain ⟨r0, r1, _, r3, r4, r5, r6, kept⟩ := h c
    have ha := Cert.KernelIdeal.Mix.args_real m c hp
    have e0 : Cert.ReferenceIdeal.Read.val_main_v14 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) = (Cert.KernelIdeal.Gen.dats m 0 c).arrAt 19 Cert.KernelIdeal.cfg0.N := by
      rw [h0, h1, h2]
      exact rows_agree m c
    have q0 := r0.trans ((Cert.ReferenceIdeal.Read.val_main_v14_eq _).trans e0)
    have e1 : Cert.ReferenceIdeal.Read.val_main_v485 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg8)) (m' ((c : Thread Cert.ReferenceIdeal.nD Cert.ReferenceIdeal.τ).loc Cert.ReferenceIdeal.main_arg9)) = (Cert.KernelIdeal.Gen.dats m 0 c).arrAt 20 Cert.KernelIdeal.cfg0.N := by
      rw [h0, h1, h2, h3, h4, h5, h6, h7, h8, h9]
      exact rg_agree m c ha
    have q1 := r1.trans ((Cert.ReferenceIdeal.Read.val_main_v485_eq _).trans e1)
    have e3 : Cert.ReferenceIdeal.Read.val_main_v489 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg12)) (m' ((c : Thread Cert.ReferenceIdeal.nD Cert.ReferenceIdeal.τ).loc Cert.ReferenceIdeal.main_arg13)) = (Cert.KernelIdeal.Gen.dats m 0 c).arrAt 22 Cert.KernelIdeal.cfg0.N := by
      rw [h0, h1, h2, h3, h12, h13]
      exact mem_agree m c ha
    have q3 := r3.trans ((Cert.ReferenceIdeal.Read.val_main_v489_eq _).trans e3)
    have e4 : Cert.ReferenceIdeal.Read.val_main_v478 (F := Ideal) (m' ((c : Thread Cert.ReferenceIdeal.nD Cert.ReferenceIdeal.τ).loc Cert.ReferenceIdeal.main_arg14)) = (Cert.KernelIdeal.Gen.dats m 0 c).arrAt 23 Cert.KernelIdeal.cfg0.N := by
      rw [h14]
      exact gate_agree m c
    have q4 := r4.trans ((Cert.ReferenceIdeal.Read.val_main_v478_eq _).trans e4)
    have e5 : Cert.ReferenceIdeal.Read.val_main_v483 (F := Ideal) (m' ((c : Thread Cert.ReferenceIdeal.nD Cert.ReferenceIdeal.τ).loc Cert.ReferenceIdeal.main_arg15)) (m' ((c : Thread Cert.ReferenceIdeal.nD Cert.ReferenceIdeal.τ).loc Cert.ReferenceIdeal.main_arg16)) (m' ((c : Thread Cert.ReferenceIdeal.nD Cert.ReferenceIdeal.τ).loc Cert.ReferenceIdeal.main_arg17)) = (Cert.KernelIdeal.Gen.dats m 0 c).arrAt 24 Cert.KernelIdeal.cfg0.N := by
      rw [h15, h16, h17]
      exact branch_agree m c
    have q5 := r5.trans ((Cert.ReferenceIdeal.Read.val_main_v483_eq _).trans e5)
    have e6 : Cert.ReferenceIdeal.Read.val_main_v490 (F := Ideal) (m' ((c : Thread Cert.ReferenceIdeal.nD Cert.ReferenceIdeal.τ).loc Cert.ReferenceIdeal.main_arg18)) = (Cert.KernelIdeal.Gen.dats m 0 c).arrAt 25 Cert.KernelIdeal.cfg0.N := by
      rw [h18]
      exact out_agree m c
    have q6 := r6.trans ((Cert.ReferenceIdeal.Read.val_main_v490_eq (StableHlo.launchContents m' c)).trans e6)
    exact ⟨fun i _ => congrFun q0 i, fun i _ => congrFun q1 i, fun i hi => absurd (show (0#1 : BitVec 1) = 1#1 from hi) (by decide),
      fun i _ => congrFun q3 i, fun i _ => congrFun q4 i, fun i _ => congrFun q5 i, fun i _ => congrFun q6 i, kept⟩

/-- The kernel's mask is named: its value over the extended reals is minus infinity. -/
theorem mask_named : Cert.preserves_Kernel_KernelIdeal :=
  IdealRules.named_const.statement Cert.KernelIdeal.κ "mask" .f32 0xF149F2CA#32 ⊥ rfl

end Cert.Proof

end
-- ==== Proof.lean ====
/- The claims about the layer's mixers and its merge, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite
public import proofs.«01_k».proof.Proof.Gen.On_claimed
public import proofs.«01_k».proof.Proof.MergeRef
public import proofs.«01_k».proof.Proof.MixValue
public import Idealize.ShloMosaic.Adequacy
public import Idealize.ShloMosaic.Init

@[expose] public section

set_option maxRecDepth 16384

noncomputable section

namespace Cert.Proof

open Idealize.ShloMosaic Idealize.SL.Sem Cert.Kernel2

/-- The reference's frame: its run read at the arguments; it declares no semaphore. -/
theorem merge_ref_frame : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The value claim: the kernel's result array and the reference's result are the same function of the arguments. -/
theorem merge_value : Cert.algebraic_Kernel2Ideal_Reference2Ideal (hKernel2Ideal := Cert.Kernel2Ideal.Gen.facts)
    (hReference2Ideal := Cert.Reference2Ideal.Gen.facts) := by
  intro m ρ m' ρ' _ hag
  refine ⟨fun c => (Cert.Kernel2Ideal.Gen.dats m 0 c).arrAt 11 Cert.Kernel2Ideal.cfg0.N,
    Cert.Kernel2Ideal.Value.run_blocks m ρ,
    (θ_run Cert.Reference2Ideal.defs _ _).mono (fun r h c => ⟨(h c).1.trans ?_, (h c).2⟩)
      (Cert.Reference2Ideal.Value.run (F := Ideal) m' ρ')⟩
  obtain ⟨h0, h1, h2, h3, h4, h5, h6, h7, h8⟩ := hag c
  rw [Cert.Reference2Ideal.Read.val_main_v44_eq, Cert.Reference2Ideal.Merge.v44_eq, h0, h1, h2, h3, h4, h5, h6, h7, h8]
  exact (Cert.Kernel2Ideal.Merge.final m c).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_finite.Gen.facts, Cert.On_claimed.Gen.facts,
    fun m ρ _ => Cert.Kernel.Gen.frame m ρ, fun m ρ _ => Cert.KernelIdeal.Gen.frame m ρ, fun m ρ _ => Cert.KernelIdeal.Gen.frame m ρ,
    mix_ref_frame, fun m ρ _ => mix_ref_frame m ρ trivial,
    fun m ρ _ => Cert.Kernel2.Gen.frame m ρ, fun m ρ _ => Cert.Kernel2Ideal.Gen.frame m ρ, merge_ref_frame,
    mask_named, mix_value, trivial, merge_value⟩

end Cert.Proof

end
